-- ==== Defs.lean ====
def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Tree (m : (ℓ : Loc Cert.Tree.nD Cert.Tree.τ Cert.Tree.sig) → Buf (Elt Bits) ℓ) : Prop :=
  True

def Pre_TreeIdeal (m : (ℓ : Loc Cert.TreeIdeal.nD Cert.TreeIdeal.τ Cert.TreeIdeal.sig) → Buf (Elt Ideal) ℓ) : Prop :=
  True

def Pre_TreeIdeal_weights_nonneg [hPre_weights_nonneg : Cert.Pre_weights_nonneg.Facts] (m : (ℓ : Loc Cert.TreeIdeal.nD Cert.TreeIdeal.τ Cert.TreeIdeal.sig) → Buf (Elt Ideal) ℓ) : Prop :=
  ∀ c : Dev Cert.TreeIdeal.nD,
    (Cert.Pre_weights_nonneg.fn (F := Ideal) (m ((c.tc : Thread Cert.TreeIdeal.nD Cert.TreeIdeal.τ).loc Cert.TreeIdeal.main_arg0)) (m ((c.tc : Thread Cert.TreeIdeal.nD Cert.TreeIdeal.τ).loc Cert.TreeIdeal.main_arg1)) (m ((c.tc : Thread Cert.TreeIdeal.nD Cert.TreeIdeal.τ).loc Cert.TreeIdeal.main_arg2))) = (fun _ => 1#1)

def Pre_TreeRefIdeal (m : (ℓ : Loc Cert.TreeRefIdeal.nD Cert.TreeRefIdeal.τ Cert.TreeRefIdeal.sig) → Buf (Elt Ideal) ℓ) : Prop :=
  True

def Pre_TreeRefIdeal_weights_nonneg [hPre_weights_nonneg : Cert.Pre_weights_nonneg.Facts] (m : (ℓ : Loc Cert.TreeRefIdeal.nD Cert.TreeRefIdeal.τ Cert.TreeRefIdeal.sig) → Buf (Elt Ideal) ℓ) : Prop :=
  ∀ c : Dev Cert.TreeRefIdeal.nD,
    (Cert.Pre_weights_nonneg.fn (F := Ideal) (m ((c.tc : Thread Cert.TreeRefIdeal.nD Cert.TreeRefIdeal.τ).loc Cert.TreeRefIdeal.main_arg0)) (m ((c.tc : Thread Cert.TreeRefIdeal.nD Cert.TreeRefIdeal.τ).loc Cert.TreeRefIdeal.main_arg1)) (m ((c.tc : Thread Cert.TreeRefIdeal.nD Cert.TreeRefIdeal.τ).loc Cert.TreeRefIdeal.main_arg2))) = (fun _ => 1#1)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11)
      ∧ r.2.mem ((c.tc : Thread Cert.Prep.nD Cert.Prep.τ).loc Cert.Prep.main_arg12) = m ((c.tc : Thread Cert.Prep.nD Cert.Prep.τ).loc Cert.Prep.main_arg12)
      ∧ r.2.mem ((c.tc : Thread Cert.Prep.nD Cert.Prep.τ).loc Cert.Prep.main_arg13) = m ((c.tc : Thread Cert.Prep.nD Cert.Prep.τ).loc Cert.Prep.main_arg13)
      ∧ r.2.mem ((c.tc : Thread Cert.Prep.nD Cert.Prep.τ).loc Cert.Prep.main_arg14) = m ((c.tc : Thread Cert.Prep.nD Cert.Prep.τ).loc Cert.Prep.main_arg14)
      ∧ r.2.mem ((c.tc : Thread Cert.Prep.nD Cert.Prep.τ).loc Cert.Prep.main_arg15) = m ((c.tc : Thread Cert.Prep.nD Cert.Prep.τ).loc Cert.Prep.main_arg15))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
      ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14)
      ∧ r.2.mem ((c.tc : Thread Cert.PrepIdeal.nD Cert.PrepIdeal.τ).loc Cert.PrepIdeal.main_arg15) = m ((c.tc : Thread Cert.PrepIdeal.nD Cert.PrepIdeal.τ).loc Cert.PrepIdeal.main_arg15))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12)
      ∧ r.2.mem ((c.tc : Thread Cert.PrepRefIdeal.nD Cert.PrepRefIdeal.τ).loc Cert.PrepRefIdeal.main_arg13) = m ((c.tc : Thread Cert.PrepRefIdeal.nD Cert.PrepRefIdeal.τ).loc Cert.PrepRefIdeal.main_arg13)
      ∧ r.2.mem ((c.tc : Thread Cert.PrepRefIdeal.nD Cert.PrepRefIdeal.τ).loc Cert.PrepRefIdeal.main_arg14) = m ((c.tc : Thread Cert.PrepRefIdeal.nD Cert.PrepRefIdeal.τ).loc Cert.PrepRefIdeal.main_arg14)
      ∧ r.2.mem ((c.tc : Thread Cert.PrepRefIdeal.nD Cert.PrepRefIdeal.τ).loc Cert.PrepRefIdeal.main_arg15) = m ((c.tc : Thread Cert.PrepRefIdeal.nD Cert.PrepRefIdeal.τ).loc Cert.PrepRefIdeal.main_arg15))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Tree [hTree : Cert.Tree.Facts] : Prop :=
  ∀ (m : (ℓ : Loc Cert.Tree.nD Cert.Tree.τ Cert.Tree.sig) → Buf (Elt Bits) ℓ) (g : Dev Cert.Tree.nD → PrngReg), Pre_Tree m →
    θ_run (Cert.Tree.defs (F := Bits)) (onTc (τ := Cert.Tree.τ) (Cert.Tree.main (F := Bits))) ⟨m, fun _ => 0, g⟩ (fun r => (∀ c : Dev Cert.Tree.nD,
      r.2.mem ((c.tc : Thread Cert.Tree.nD Cert.Tree.τ).loc Cert.Tree.main_arg0) = m ((c.tc : Thread Cert.Tree.nD Cert.Tree.τ).loc Cert.Tree.main_arg0)
      ∧ r.2.mem ((c.tc : Thread Cert.Tree.nD Cert.Tree.τ).loc Cert.Tree.main_arg1) = m ((c.tc : Thread Cert.Tree.nD Cert.Tree.τ).loc Cert.Tree.main_arg1)
      ∧ r.2.mem ((c.tc : Thread Cert.Tree.nD Cert.Tree.τ).loc Cert.Tree.main_arg2) = m ((c.tc : Thread Cert.Tree.nD Cert.Tree.τ).loc Cert.Tree.main_arg2))
      ∧ r.2.sem = fun _ => 0)

def quiescent_TreeIdeal [hTreeIdeal : Cert.TreeIdeal.Facts] : Prop :=
  ∀ (m : (ℓ : Loc Cert.TreeIdeal.nD Cert.TreeIdeal.τ Cert.TreeIdeal.sig) → Buf (Elt Ideal) ℓ) (g : Dev Cert.TreeIdeal.nD → PrngReg), Pre_TreeIdeal m →
    θ_run (Cert.TreeIdeal.defs (F := Ideal)) (onTc (τ := Cert.TreeIdeal.τ) (Cert.TreeIdeal.main (F := Ideal))) ⟨m, fun _ => 0, g⟩ (fun r => (∀ c : Dev Cert.TreeIdeal.nD,
      r.2.mem ((c.tc : Thread Cert.TreeIdeal.nD Cert.TreeIdeal.τ).loc Cert.TreeIdeal.main_arg0) = m ((c.tc : Thread Cert.TreeIdeal.nD Cert.TreeIdeal.τ).loc Cert.TreeIdeal.main_arg0)
      ∧ r.2.mem ((c.tc : Thread Cert.TreeIdeal.nD Cert.TreeIdeal.τ).loc Cert.TreeIdeal.main_arg1) = m ((c.tc : Thread Cert.TreeIdeal.nD Cert.TreeIdeal.τ).loc Cert.TreeIdeal.main_arg1)
      ∧ r.2.mem ((c.tc : Thread Cert.TreeIdeal.nD Cert.TreeIdeal.τ).loc Cert.TreeIdeal.main_arg2) = m ((c.tc : Thread Cert.TreeIdeal.nD Cert.TreeIdeal.τ).loc Cert.TreeIdeal.main_arg2))
      ∧ r.2.sem = fun _ => 0)

def quiescent_TreeIdeal_pre_weights_nonneg [hTreeIdeal : Cert.TreeIdeal.Facts] [hPre_weights_nonneg : Cert.Pre_weights_nonneg.Facts] : Prop :=
  ∀ (m : (ℓ : Loc Cert.TreeIdeal.nD Cert.TreeIdeal.τ Cert.TreeIdeal.sig) → Buf (Elt Ideal) ℓ) (g : Dev Cert.TreeIdeal.nD → PrngReg), Pre_TreeIdeal_weights_nonneg m →
    θ_run (Cert.TreeIdeal.defs (F := Ideal)) (onTc (τ := Cert.TreeIdeal.τ) (Cert.TreeIdeal.main (F := Ideal))) ⟨m, fun _ => 0, g⟩ (fun r => (∀ c : Dev Cert.TreeIdeal.nD,
      r.2.mem ((c.tc : Thread Cert.TreeIdeal.nD Cert.TreeIdeal.τ).loc Cert.TreeIdeal.main_arg0) = m ((c.tc : Thread Cert.TreeIdeal.nD Cert.TreeIdeal.τ).loc Cert.TreeIdeal.main_arg0)
      ∧ r.2.mem ((c.tc : Thread Cert.TreeIdeal.nD Cert.TreeIdeal.τ).loc Cert.TreeIdeal.main_arg1) = m ((c.tc : Thread Cert.TreeIdeal.nD Cert.TreeIdeal.τ).loc Cert.TreeIdeal.main_arg1)
      ∧ r.2.mem ((c.tc : Thread Cert.TreeIdeal.nD Cert.TreeIdeal.τ).loc Cert.TreeIdeal.main_arg2) = m ((c.tc : Thread Cert.TreeIdeal.nD Cert.TreeIdeal.τ).loc Cert.TreeIdeal.main_arg2))
      ∧ r.2.sem = fun _ => 0)

def quiescent_TreeRefIdeal [hTreeRefIdeal : Cert.TreeRefIdeal.Facts] : Prop :=
  ∀ (m : (ℓ : Loc Cert.TreeRefIdeal.nD Cert.TreeRefIdeal.τ Cert.TreeRefIdeal.sig) → Buf (Elt Ideal) ℓ) (g : Dev Cert.TreeRefIdeal.nD → PrngReg), Pre_TreeRefIdeal m →
    θ_run (Cert.TreeRefIdeal.defs (F := Ideal)) (onTc (τ := Cert.TreeRefIdeal.τ) (Cert.TreeRefIdeal.main (F := Ideal))) ⟨m, fun _ => 0, g⟩ (fun r => (∀ c : Dev Cert.TreeRefIdeal.nD,
      r.2.mem ((c.tc : Thread Cert.TreeRefIdeal.nD Cert.TreeRefIdeal.τ).loc Cert.TreeRefIdeal.main_arg0) = m ((c.tc : Thread Cert.TreeRefIdeal.nD Cert.TreeRefIdeal.τ).loc Cert.TreeRefIdeal.main_arg0)
      ∧ r.2.mem ((c.tc : Thread Cert.TreeRefIdeal.nD Cert.TreeRefIdeal.τ).loc Cert.TreeRefIdeal.main_arg1) = m ((c.tc : Thread Cert.TreeRefIdeal.nD Cert.TreeRefIdeal.τ).loc Cert.TreeRefIdeal.main_arg1)
      ∧ r.2.mem ((c.tc : Thread Cert.TreeRefIdeal.nD Cert.TreeRefIdeal.τ).loc Cert.TreeRefIdeal.main_arg2) = m ((c.tc : Thread Cert.TreeRefIdeal.nD Cert.TreeRefIdeal.τ).loc Cert.TreeRefIdeal.main_arg2))
      ∧ r.2.sem = fun _ => 0)

def quiescent_TreeRefIdeal_pre_weights_nonneg [hTreeRefIdeal : Cert.TreeRefIdeal.Facts] [hPre_weights_nonneg : Cert.Pre_weights_nonneg.Facts] : Prop :=
  ∀ (m : (ℓ : Loc Cert.TreeRefIdeal.nD Cert.TreeRefIdeal.τ Cert.TreeRefIdeal.sig) → Buf (Elt Ideal) ℓ) (g : Dev Cert.TreeRefIdeal.nD → PrngReg), Pre_TreeRefIdeal_weights_nonneg m →
    θ_run (Cert.TreeRefIdeal.defs (F := Ideal)) (onTc (τ := Cert.TreeRefIdeal.τ) (Cert.TreeRefIdeal.main (F := Ideal))) ⟨m, fun _ => 0, g⟩ (fun r => (∀ c : Dev Cert.TreeRefIdeal.nD,
      r.2.mem ((c.tc : Thread Cert.TreeRefIdeal.nD Cert.TreeRefIdeal.τ).loc Cert.TreeRefIdeal.main_arg0) = m ((c.tc : Thread Cert.TreeRefIdeal.nD Cert.TreeRefIdeal.τ).loc Cert.TreeRefIdeal.main_arg0)
      ∧ r.2.mem ((c.tc : Thread Cert.TreeRefIdeal.nD Cert.TreeRefIdeal.τ).loc Cert.TreeRefIdeal.main_arg1) = m ((c.tc : Thread Cert.TreeRefIdeal.nD Cert.TreeRefIdeal.τ).loc Cert.TreeRefIdeal.main_arg1)
      ∧ r.2.mem ((c.tc : Thread Cert.TreeRefIdeal.nD Cert.TreeRefIdeal.τ).loc Cert.TreeRefIdeal.main_arg2) = m ((c.tc : Thread Cert.TreeRefIdeal.nD Cert.TreeRefIdeal.τ).loc Cert.TreeRefIdeal.main_arg2))
      ∧ r.2.sem = fun _ => 0)

def preserves_Prep_PrepIdeal : Prop :=
  IdealRules.named_const.Statement Cert.PrepIdeal.κ "inv_sqrt_m" .f32 0x3D93CD3A#32 (((Real.sqrt 192)⁻¹ : ℝ) : EReal)

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)
      ∧ m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10)
      ∧ m' ((c.tc : Thread Cert.PrepRefIdeal.nD Cert.PrepRefIdeal.τ).loc Cert.PrepRefIdeal.main_arg11) = m ((c.tc : Thread Cert.PrepIdeal.nD Cert.PrepIdeal.τ).loc Cert.PrepIdeal.main_arg11)
      ∧ m' ((c.tc : Thread Cert.PrepRefIdeal.nD Cert.PrepRefIdeal.τ).loc Cert.PrepRefIdeal.main_arg12) = m ((c.tc : Thread Cert.PrepIdeal.nD Cert.PrepIdeal.τ).loc Cert.PrepIdeal.main_arg12)
      ∧ m' ((c.tc : Thread Cert.PrepRefIdeal.nD Cert.PrepRefIdeal.τ).loc Cert.PrepRefIdeal.main_arg13) = m ((c.tc : Thread Cert.PrepIdeal.nD Cert.PrepIdeal.τ).loc Cert.PrepIdeal.main_arg13)
      ∧ m' ((c.tc : Thread Cert.PrepRefIdeal.nD Cert.PrepRefIdeal.τ).loc Cert.PrepRefIdeal.main_arg14) = m ((c.tc : Thread Cert.PrepIdeal.nD Cert.PrepIdeal.τ).loc Cert.PrepIdeal.main_arg14)
      ∧ m' ((c.tc : Thread Cert.PrepRefIdeal.nD Cert.PrepRefIdeal.τ).loc Cert.PrepRefIdeal.main_arg15) = m ((c.tc : Thread Cert.PrepIdeal.nD Cert.PrepIdeal.τ).loc Cert.PrepIdeal.main_arg15)) →
    ∃ (v0 : (c : Dev Cert.PrepIdeal.nD) → Buf (Elt Ideal) ((c.tc : Thread Cert.PrepIdeal.nD Cert.PrepIdeal.τ).loc Cert.PrepIdeal.main_v11_0)) (v1 : (c : Dev Cert.PrepIdeal.nD) → Buf (Elt Ideal) ((c.tc : Thread Cert.PrepIdeal.nD Cert.PrepIdeal.τ).loc Cert.PrepIdeal.main_v11_1)) (v2 : (c : Dev Cert.PrepIdeal.nD) → Buf (Elt Ideal) ((c.tc : Thread Cert.PrepIdeal.nD Cert.PrepIdeal.τ).loc Cert.PrepIdeal.main_v11_2)) (v3 : (c : Dev Cert.PrepIdeal.nD) → Buf (Elt Ideal) ((c.tc : Thread Cert.PrepIdeal.nD Cert.PrepIdeal.τ).loc Cert.PrepIdeal.main_v11_3)) (v4 : (c : Dev Cert.PrepIdeal.nD) → Buf (Elt Ideal) ((c.tc : Thread Cert.PrepIdeal.nD Cert.PrepIdeal.τ).loc Cert.PrepIdeal.main_v11_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v11_0) = v0 c
          ∧ r.2.mem ((c.tc : Thread Cert.PrepIdeal.nD Cert.PrepIdeal.τ).loc Cert.PrepIdeal.main_v11_1) = v1 c
          ∧ r.2.mem ((c.tc : Thread Cert.PrepIdeal.nD Cert.PrepIdeal.τ).loc Cert.PrepIdeal.main_v11_2) = v2 c
          ∧ r.2.mem ((c.tc : Thread Cert.PrepIdeal.nD Cert.PrepIdeal.τ).loc Cert.PrepIdeal.main_v11_3) = v3 c
          ∧ r.2.mem ((c.tc : Thread Cert.PrepIdeal.nD Cert.PrepIdeal.τ).loc Cert.PrepIdeal.main_v11_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
          ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
          ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
          ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
          ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14)
          ∧ r.2.mem ((c.tc : Thread Cert.PrepIdeal.nD Cert.PrepIdeal.τ).loc Cert.PrepIdeal.main_arg15) = m ((c.tc : Thread Cert.PrepIdeal.nD Cert.PrepIdeal.τ).loc Cert.PrepIdeal.main_arg15))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v53) = v0 c
          ∧ r.2.mem ((c.tc : Thread Cert.PrepRefIdeal.nD Cert.PrepRefIdeal.τ).loc Cert.PrepRefIdeal.main_v54) = v1 c
          ∧ r.2.mem ((c.tc : Thread Cert.PrepRefIdeal.nD Cert.PrepRefIdeal.τ).loc Cert.PrepRefIdeal.main_v55) = v2 c
          ∧ r.2.mem ((c.tc : Thread Cert.PrepRefIdeal.nD Cert.PrepRefIdeal.τ).loc Cert.PrepRefIdeal.main_v56) = v3 c
          ∧ r.2.mem ((c.tc : Thread Cert.PrepRefIdeal.nD Cert.PrepRefIdeal.τ).loc Cert.PrepRefIdeal.main_v57) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10)
          ∧ r.2.mem ((c.tc : Thread Cert.PrepRefIdeal.nD Cert.PrepRefIdeal.τ).loc Cert.PrepRefIdeal.main_arg11) = m' ((c.tc : Thread Cert.PrepRefIdeal.nD Cert.PrepRefIdeal.τ).loc Cert.PrepRefIdeal.main_arg11)
          ∧ r.2.mem ((c.tc : Thread Cert.PrepRefIdeal.nD Cert.PrepRefIdeal.τ).loc Cert.PrepRefIdeal.main_arg12) = m' ((c.tc : Thread Cert.PrepRefIdeal.nD Cert.PrepRefIdeal.τ).loc Cert.PrepRefIdeal.main_arg12)
          ∧ r.2.mem ((c.tc : Thread Cert.PrepRefIdeal.nD Cert.PrepRefIdeal.τ).loc Cert.PrepRefIdeal.main_arg13) = m' ((c.tc : Thread Cert.PrepRefIdeal.nD Cert.PrepRefIdeal.τ).loc Cert.PrepRefIdeal.main_arg13)
          ∧ r.2.mem ((c.tc : Thread Cert.PrepRefIdeal.nD Cert.PrepRefIdeal.τ).loc Cert.PrepRefIdeal.main_arg14) = m' ((c.tc : Thread Cert.PrepRefIdeal.nD Cert.PrepRefIdeal.τ).loc Cert.PrepRefIdeal.main_arg14)
          ∧ r.2.mem ((c.tc : Thread Cert.PrepRefIdeal.nD Cert.PrepRefIdeal.τ).loc Cert.PrepRefIdeal.main_arg15) = m' ((c.tc : Thread Cert.PrepRefIdeal.nD Cert.PrepRefIdeal.τ).loc Cert.PrepRefIdeal.main_arg15))

def preserves_Attn_AttnIdeal : Prop :=
  IdealRules.named_const.Statement Cert.AttnIdeal.κ "inv_sqrt_m" .f32 0x3D93CD3A#32 (((Real.sqrt 192)⁻¹ : ℝ) : EReal)
  ∧ IdealRules.named_const.Statement Cert.AttnIdeal.κ "mask" .f32 0xF149F2CA#32 ⊥

def algebraic_AttnIdeal_AttnRefIdeal_on_four_best [hAttnIdeal : Cert.AttnIdeal.Facts] [hAttnRefIdeal : Cert.AttnRefIdeal.Facts] [hOn_four_best : Cert.On_four_best.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          (∀ i : (⟨3, ![2, 2048, 2048]⟩ : Shape).Idx, (Cert.On_four_best.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) i = 1#1 → r.2.mem ((c.tc : Thread Cert.AttnIdeal.nD Cert.AttnIdeal.τ).loc Cert.AttnIdeal.main_v2) i = v0 c i)
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          (∀ i : (⟨3, ![2, 2048, 2048]⟩ : Shape).Idx, (Cert.On_four_best.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) i = 1#1 → r.2.mem ((c.tc : Thread Cert.AttnRefIdeal.nD Cert.AttnRefIdeal.τ).loc Cert.AttnRefIdeal.main_v583) i = v0 c i)
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Tree_TreeIdeal : Prop :=
  True

def algebraic_TreeIdeal_TreeRefIdeal_pre_weights_nonneg [hTreeIdeal : Cert.TreeIdeal.Facts] [hTreeRefIdeal : Cert.TreeRefIdeal.Facts] [hPre_weights_nonneg : Cert.Pre_weights_nonneg.Facts] : Prop :=
  ∀ (m : (ℓ : Loc Cert.TreeIdeal.nD Cert.TreeIdeal.τ Cert.TreeIdeal.sig) → Buf (Elt Ideal) ℓ) (g : Dev Cert.TreeIdeal.nD → PrngReg)
    (m' : (ℓ : Loc Cert.TreeRefIdeal.nD Cert.TreeRefIdeal.τ Cert.TreeRefIdeal.sig) → Buf (Elt Ideal) ℓ) (g' : Dev Cert.TreeRefIdeal.nD → PrngReg), Pre_TreeIdeal_weights_nonneg m →
    (∀ c : Dev Cert.TreeIdeal.nD,
      m' ((c.tc : Thread Cert.TreeRefIdeal.nD Cert.TreeRefIdeal.τ).loc Cert.TreeRefIdeal.main_arg0) = m ((c.tc : Thread Cert.TreeIdeal.nD Cert.TreeIdeal.τ).loc Cert.TreeIdeal.main_arg0)
      ∧ m' ((c.tc : Thread Cert.TreeRefIdeal.nD Cert.TreeRefIdeal.τ).loc Cert.TreeRefIdeal.main_arg1) = m ((c.tc : Thread Cert.TreeIdeal.nD Cert.TreeIdeal.τ).loc Cert.TreeIdeal.main_arg1)
      ∧ m' ((c.tc : Thread Cert.TreeRefIdeal.nD Cert.TreeRefIdeal.τ).loc Cert.TreeRefIdeal.main_arg2) = m ((c.tc : Thread Cert.TreeIdeal.nD Cert.TreeIdeal.τ).loc Cert.TreeIdeal.main_arg2)) →
    ∃ (v0 : (c : Dev Cert.TreeIdeal.nD) → Buf (Elt Ideal) ((c.tc : Thread Cert.TreeIdeal.nD Cert.TreeIdeal.τ).loc Cert.TreeIdeal.main_v0_0)) (v1 : (c : Dev Cert.TreeIdeal.nD) → Buf (Elt Ideal) ((c.tc : Thread Cert.TreeIdeal.nD Cert.TreeIdeal.τ).loc Cert.TreeIdeal.main_v0_1)),
      θ_run (Cert.TreeIdeal.defs (F := Ideal)) (onTc (τ := Cert.TreeIdeal.τ) (Cert.TreeIdeal.main (F := Ideal))) ⟨m, fun _ => 0, g⟩ (fun r => ∀ c : Dev Cert.TreeIdeal.nD,
          r.2.mem ((c.tc : Thread Cert.TreeIdeal.nD Cert.TreeIdeal.τ).loc Cert.TreeIdeal.main_v0_0) = v0 c
          ∧ r.2.mem ((c.tc : Thread Cert.TreeIdeal.nD Cert.TreeIdeal.τ).loc Cert.TreeIdeal.main_v0_1) = v1 c
          ∧ r.2.mem ((c.tc : Thread Cert.TreeIdeal.nD Cert.TreeIdeal.τ).loc Cert.TreeIdeal.main_arg0) = m ((c.tc : Thread Cert.TreeIdeal.nD Cert.TreeIdeal.τ).loc Cert.TreeIdeal.main_arg0)
          ∧ r.2.mem ((c.tc : Thread Cert.TreeIdeal.nD Cert.TreeIdeal.τ).loc Cert.TreeIdeal.main_arg1) = m ((c.tc : Thread Cert.TreeIdeal.nD Cert.TreeIdeal.τ).loc Cert.TreeIdeal.main_arg1)
          ∧ r.2.mem ((c.tc : Thread Cert.TreeIdeal.nD Cert.TreeIdeal.τ).loc Cert.TreeIdeal.main_arg2) = m ((c.tc : Thread Cert.TreeIdeal.nD Cert.TreeIdeal.τ).loc Cert.TreeIdeal.main_arg2))
      ∧ θ_run (Cert.TreeRefIdeal.defs (F := Ideal)) (onTc (τ := Cert.TreeRefIdeal.τ) (Cert.TreeRefIdeal.main (F := Ideal))) ⟨m', fun _ => 0, g'⟩ (fun r => ∀ c : Dev Cert.TreeRefIdeal.nD,
          r.2.mem ((c.tc : Thread Cert.TreeRefIdeal.nD Cert.TreeRefIdeal.τ).loc Cert.TreeRefIdeal.main_v256) = v0 c
          ∧ r.2.mem ((c.tc : Thread Cert.TreeRefIdeal.nD Cert.TreeRefIdeal.τ).loc Cert.TreeRefIdeal.main_v255) = v1 c
          ∧ r.2.mem ((c.tc : Thread Cert.TreeRefIdeal.nD Cert.TreeRefIdeal.τ).loc Cert.TreeRefIdeal.main_arg0) = m' ((c.tc : Thread Cert.TreeRefIdeal.nD Cert.TreeRefIdeal.τ).loc Cert.TreeRefIdeal.main_arg0)
          ∧ r.2.mem ((c.tc : Thread Cert.TreeRefIdeal.nD Cert.TreeRefIdeal.τ).loc Cert.TreeRefIdeal.main_arg1) = m' ((c.tc : Thread Cert.TreeRefIdeal.nD Cert.TreeRefIdeal.τ).loc Cert.TreeRefIdeal.main_arg1)
          ∧ r.2.mem ((c.tc : Thread Cert.TreeRefIdeal.nD Cert.TreeRefIdeal.τ).loc Cert.TreeRefIdeal.main_arg2) = m' ((c.tc : Thread Cert.TreeRefIdeal.nD Cert.TreeRefIdeal.τ).loc Cert.TreeRefIdeal.main_arg2))

def Claim : Prop :=
  ∃ (hPrep : Cert.Prep.Facts) (hPrepIdeal : Cert.PrepIdeal.Facts) (hPrepRefIdeal : Cert.PrepRefIdeal.Facts) (hAttn : Cert.Attn.Facts) (hAttnIdeal : Cert.AttnIdeal.Facts) (hAttnRefIdeal : Cert.AttnRefIdeal.Facts) (hTree : Cert.Tree.Facts) (hTreeIdeal : Cert.TreeIdeal.Facts) (hTreeRefIdeal : Cert.TreeRefIdeal.Facts) (hPre_weights_nonneg : Cert.Pre_weights_nonneg.Facts) (hOn_four_best : Cert.On_four_best.Facts),
    quiescent_Prep (hPrep := hPrep)
    ∧ quiescent_PrepIdeal (hPrepIdeal := hPrepIdeal)
    ∧ quiescent_PrepRefIdeal (hPrepRefIdeal := hPrepRefIdeal)
    ∧ quiescent_Attn (hAttn := hAttn)
    ∧ quiescent_AttnIdeal (hAttnIdeal := hAttnIdeal)
    ∧ quiescent_AttnRefIdeal (hAttnRefIdeal := hAttnRefIdeal)
    ∧ quiescent_Tree (hTree := hTree)
    ∧ quiescent_TreeIdeal (hTreeIdeal := hTreeIdeal)
    ∧ quiescent_TreeIdeal_pre_weights_nonneg (hTreeIdeal := hTreeIdeal) (hPre_weights_nonneg := hPre_weights_nonneg)
    ∧ quiescent_TreeRefIdeal (hTreeRefIdeal := hTreeRefIdeal)
    ∧ quiescent_TreeRefIdeal_pre_weights_nonneg (hTreeRefIdeal := hTreeRefIdeal) (hPre_weights_nonneg := hPre_weights_nonneg)
    ∧ preserves_Prep_PrepIdeal
    ∧ algebraic_PrepIdeal_PrepRefIdeal (hPrepIdeal := hPrepIdeal) (hPrepRefIdeal := hPrepRefIdeal)
    ∧ preserves_Attn_AttnIdeal
    ∧ algebraic_AttnIdeal_AttnRefIdeal_on_four_best (hAttnIdeal := hAttnIdeal) (hAttnRefIdeal := hAttnRefIdeal) (hOn_four_best := hOn_four_best)
    ∧ preserves_Tree_TreeIdeal
    ∧ algebraic_TreeIdeal_TreeRefIdeal_pre_weights_nonneg (hTreeIdeal := hTreeIdeal) (hTreeRefIdeal := hTreeRefIdeal) (hPre_weights_nonneg := hPre_weights_nonneg)
-- ==== On_four_best.lean ====
abbrev S2x2048x192 : Shape := ⟨3, ![2, 2048, 192]⟩
abbrev S2x2048x1 : Shape := ⟨3, ![2, 2048, 1]⟩
abbrev S2x192x4096 : Shape := ⟨3, ![2, 192, 4096]⟩
abbrev S2x4096x192 : Shape := ⟨3, ![2, 4096, 192]⟩
abbrev S192x2048 : Shape := ⟨2, ![192, 2048]⟩
abbrev S2048 : Shape := ⟨1, ![2048]⟩
abbrev S_ : Shape := ⟨0, ![]⟩
abbrev S2x192x2048 : Shape := ⟨3, ![2, 192, 2048]⟩
abbrev S2x2048x2048 : Shape := ⟨3, ![2, 2048, 2048]⟩
abbrev S2x2048 : Shape := ⟨2, ![2, 2048]⟩
abbrev S2x192x1024 : Shape := ⟨3, ![2, 192, 1024]⟩
abbrev S2x2048x1024 : Shape := ⟨3, ![2, 2048, 1024]⟩
abbrev S2x192x512 : Shape := ⟨3, ![2, 192, 512]⟩
abbrev S2x2048x512 : Shape := ⟨3, ![2, 2048, 512]⟩
abbrev S2x192x256 : Shape := ⟨3, ![2, 192, 256]⟩
abbrev S2x2048x256 : Shape := ⟨3, ![2, 2048, 256]⟩
abbrev S2x192x128 : Shape := ⟨3, ![2, 192, 128]⟩
abbrev S2x2048x128 : Shape := ⟨3, ![2, 2048, 128]⟩
abbrev S2x192x64 : Shape := ⟨3, ![2, 192, 64]⟩
abbrev S2x2048x64 : Shape := ⟨3, ![2, 2048, 64]⟩
abbrev S2x192x32 : Shape := ⟨3, ![2, 192, 32]⟩
abbrev S2x2048x32 : Shape := ⟨3, ![2, 2048, 32]⟩
abbrev S2x192x16 : Shape := ⟨3, ![2, 192, 16]⟩
abbrev S2x2048x16 : Shape := ⟨3, ![2, 2048, 16]⟩
abbrev S2x192x8 : Shape := ⟨3, ![2, 192, 8]⟩
abbrev S2x2048x8 : Shape := ⟨3, ![2, 2048, 8]⟩
abbrev S2x192x4 : Shape := ⟨3, ![2, 192, 4]⟩
abbrev S2x2048x4 : Shape := ⟨3, ![2, 2048, 4]⟩
abbrev S2x192x2 : Shape := ⟨3, ![2, 192, 2]⟩
abbrev S2x2048x2 : Shape := ⟨3, ![2, 2048, 2]⟩
abbrev S2x192x1 : Shape := ⟨3, ![2, 192, 1]⟩

class Facts : Prop where
  slices_S2x192x4096_S2x192x2048_0_0_0 : S2x192x4096.Slices ![0, 0, 0] S2x192x2048
  bcast_S_S2x2048x2048 : S_.BroadcastsInDim S2x2048x2048 (![] : Fin 0 → Fin S2x2048x2048.rank)
  reducesTo_S2x2048x2048_S2x2048_d2 : S2x2048x2048.ReducesTo [2] S2x2048
  h_S_ : 0 < S_.numel
  bcast_S_S2x2048 : S_.BroadcastsInDim S2x2048 (![] : Fin 0 → Fin S2x2048.rank)
  bcast_S2x2048_S2x2048x2048_0_1 : S2x2048.BroadcastsInDim S2x2048x2048 (![0, 1] : Fin 2 → Fin S2x2048x2048.rank)
  slices_S2x192x4096_S2x192x1024_0_0_2048 : S2x192x4096.Slices ![0, 0, 2048] S2x192x1024
  bcast_S_S2x2048x1024 : S_.BroadcastsInDim S2x2048x1024 (![] : Fin 0 → Fin S2x2048x1024.rank)
  reducesTo_S2x2048x1024_S2x2048_d2 : S2x2048x1024.ReducesTo [2] S2x2048
  bcast_S2x2048_S2x2048x1024_0_1 : S2x2048.BroadcastsInDim S2x2048x1024 (![0, 1] : Fin 2 → Fin S2x2048x1024.rank)
  slices_S2x192x4096_S2x192x512_0_0_3072 : S2x192x4096.Slices ![0, 0, 3072] S2x192x512
  bcast_S_S2x2048x512 : S_.BroadcastsInDim S2x2048x512 (![] : Fin 0 → Fin S2x2048x512.rank)
  reducesTo_S2x2048x512_S2x2048_d2 : S2x2048x512.ReducesTo [2] S2x2048
  bcast_S2x2048_S2x2048x512_0_1 : S2x2048.BroadcastsInDim S2x2048x512 (![0, 1] : Fin 2 → Fin S2x2048x512.rank)
  slices_S2x192x4096_S2x192x256_0_0_3584 : S2x192x4096.Slices ![0, 0, 3584] S2x192x256
  bcast_S_S2x2048x256 : S_.BroadcastsInDim S2x2048x256 (![] : Fin 0 → Fin S2x2048x256.rank)
  reducesTo_S2x2048x256_S2x2048_d2 : S2x2048x256.ReducesTo [2] S2x2048
  bcast_S2x2048_S2x2048x256_0_1 : S2x2048.BroadcastsInDim S2x2048x256 (![0, 1] : Fin 2 → Fin S2x2048x256.rank)
  slices_S2x192x4096_S2x192x128_0_0_3840 : S2x192x4096.Slices ![0, 0, 3840] S2x192x128
  bcast_S_S2x2048x128 : S_.BroadcastsInDim S2x2048x128 (![] : Fin 0 → Fin S2x2048x128.rank)
  reducesTo_S2x2048x128_S2x2048_d2 : S2x2048x128.ReducesTo [2] S2x2048
  bcast_S2x2048_S2x2048x128_0_1 : S2x2048.BroadcastsInDim S2x2048x128 (![0, 1] : Fin 2 → Fin S2x2048x128.rank)
  slices_S2x192x4096_S2x192x64_0_0_3968 : S2x192x4096.Slices ![0, 0, 3968] S2x192x64
  bcast_S_S2x2048x64 : S_.BroadcastsInDim S2x2048x64 (![] : Fin 0 → Fin S2x2048x64.rank)
  reducesTo_S2x2048x64_S2x2048_d2 : S2x2048x64.ReducesTo [2] S2x2048
  bcast_S2x2048_S2x2048x64_0_1 : S2x2048.BroadcastsInDim S2x2048x64 (![0, 1] : Fin 2 → Fin S2x2048x64.rank)
  slices_S2x192x4096_S2x192x32_0_0_4032 : S2x192x4096.Slices ![0, 0, 4032] S2x192x32
  bcast_S_S2x2048x32 : S_.BroadcastsInDim S2x2048x32 (![] : Fin 0 → Fin S2x2048x32.rank)
  reducesTo_S2x2048x32_S2x2048_d2 : S2x2048x32.ReducesTo [2] S2x2048
  bcast_S2x2048_S2x2048x32_0_1 : S2x2048.BroadcastsInDim S2x2048x32 (![0, 1] : Fin 2 → Fin S2x2048x32.rank)
  slices_S2x192x4096_S2x192x16_0_0_4064 : S2x192x4096.Slices ![0, 0, 4064] S2x192x16
  bcast_S_S2x2048x16 : S_.BroadcastsInDim S2x2048x16 (![] : Fin 0 → Fin S2x2048x16.rank)
  reducesTo_S2x2048x16_S2x2048_d2 : S2x2048x16.ReducesTo [2] S2x2048
  bcast_S2x2048_S2x2048x16_0_1 : S2x2048.BroadcastsInDim S2x2048x16 (![0, 1] : Fin 2 → Fin S2x2048x16.rank)
  slices_S2x192x4096_S2x192x8_0_0_4080 : S2x192x4096.Slices ![0, 0, 4080] S2x192x8
  bcast_S_S2x2048x8 : S_.BroadcastsInDim S2x2048x8 (![] : Fin 0 → Fin S2x2048x8.rank)
  reducesTo_S2x2048x8_S2x2048_d2 : S2x2048x8.ReducesTo [2] S2x2048
  bcast_S2x2048_S2x2048x8_0_1 : S2x2048.BroadcastsInDim S2x2048x8 (![0, 1] : Fin 2 → Fin S2x2048x8.rank)
  slices_S2x192x4096_S2x192x4_0_0_4088 : S2x192x4096.Slices ![0, 0, 4088] S2x192x4
  bcast_S_S2x2048x4 : S_.BroadcastsInDim S2x2048x4 (![] : Fin 0 → Fin S2x2048x4.rank)
  reducesTo_S2x2048x4_S2x2048_d2 : S2x2048x4.ReducesTo [2] S2x2048
  slices_S2x192x4096_S2x192x2_0_0_4092 : S2x192x4096.Slices ![0, 0, 4092] S2x192x2
  bcast_S_S2x2048x2 : S_.BroadcastsInDim S2x2048x2 (![] : Fin 0 → Fin S2x2048x2.rank)
  reducesTo_S2x2048x2_S2x2048_d2 : S2x2048x2.ReducesTo [2] S2x2048
  slices_S2x192x4096_S2x192x1_0_0_4094 : S2x192x4096.Slices ![0, 0, 4094] S2x192x1
  bcast_S_S2x2048x1 : S_.BroadcastsInDim S2x2048x1 (![] : Fin 0 → Fin S2x2048x1.rank)
  reducesTo_S2x2048x1_S2x2048_d2 : S2x2048x1.ReducesTo [2] S2x2048
  dot_S2x2048x192_S2x192x2048_S2x2048x2048_2_1_1_2_0_0_wf : DotDims.WF S2x2048x192 S2x192x2048 S2x2048x2048 [2] [1] [1] [2] [0] [0]
  dot_S2x2048x192_S2x192x1024_S2x2048x1024_2_1_1_2_0_0_wf : DotDims.WF S2x2048x192 S2x192x1024 S2x2048x1024 [2] [1] [1] [2] [0] [0]
  dot_S2x2048x192_S2x192x512_S2x2048x512_2_1_1_2_0_0_wf : DotDims.WF S2x2048x192 S2x192x512 S2x2048x512 [2] [1] [1] [2] [0] [0]
  dot_S2x2048x192_S2x192x256_S2x2048x256_2_1_1_2_0_0_wf : DotDims.WF S2x2048x192 S2x192x256 S2x2048x256 [2] [1] [1] [2] [0] [0]
  dot_S2x2048x192_S2x192x128_S2x2048x128_2_1_1_2_0_0_wf : DotDims.WF S2x2048x192 S2x192x128 S2x2048x128 [2] [1] [1] [2] [0] [0]
  dot_S2x2048x192_S2x192x64_S2x2048x64_2_1_1_2_0_0_wf : DotDims.WF S2x2048x192 S2x192x64 S2x2048x64 [2] [1] [1] [2] [0] [0]
  dot_S2x2048x192_S2x192x32_S2x2048x32_2_1_1_2_0_0_wf : DotDims.WF S2x2048x192 S2x192x32 S2x2048x32 [2] [1] [1] [2] [0] [0]
  dot_S2x2048x192_S2x192x16_S2x2048x16_2_1_1_2_0_0_wf : DotDims.WF S2x2048x192 S2x192x16 S2x2048x16 [2] [1] [1] [2] [0] [0]
  dot_S2x2048x192_S2x192x8_S2x2048x8_2_1_1_2_0_0_wf : DotDims.WF S2x2048x192 S2x192x8 S2x2048x8 [2] [1] [1] [2] [0] [0]
  dot_S2x2048x192_S2x192x4_S2x2048x4_2_1_1_2_0_0_wf : DotDims.WF S2x2048x192 S2x192x4 S2x2048x4 [2] [1] [1] [2] [0] [0]
  dot_S2x2048x192_S2x192x2_S2x2048x2_2_1_1_2_0_0_wf : DotDims.WF S2x2048x192 S2x192x2 S2x2048x2 [2] [1] [1] [2] [0] [0]
  dot_S2x2048x192_S2x192x1_S2x2048x1_2_1_1_2_0_0_wf : DotDims.WF S2x2048x192 S2x192x1 S2x2048x1 [2] [1] [1] [2] [0] [0]

variable [Facts]

def dot_S2x2048x192_S2x192x2048_S2x2048x2048_2_1_1_2_0_0 : DotDims S2x2048x192 S2x192x2048 S2x2048x2048 where
  lhsContracting := [2]
  rhsContracting := [1]
  lhsNonContracting := [1]
  rhsNonContracting := [2]
  lhsBatch := [0]
  rhsBatch := [0]
  wf := dot_S2x2048x192_S2x192x2048_S2x2048x2048_2_1_1_2_0_0_wf
def dot_S2x2048x192_S2x192x1024_S2x2048x1024_2_1_1_2_0_0 : DotDims S2x2048x192 S2x192x1024 S2x2048x1024 where
  lhsContracting := [2]
  rhsContracting := [1]
  lhsNonContracting := [1]
  rhsNonContracting := [2]
  lhsBatch := [0]
  rhsBatch := [0]
  wf := dot_S2x2048x192_S2x192x1024_S2x2048x1024_2_1_1_2_0_0_wf
def dot_S2x2048x192_S2x192x512_S2x2048x512_2_1_1_2_0_0 : DotDims S2x2048x192 S2x192x512 S2x2048x512 where
  lhsContracting := [2]
  rhsContracting := [1]
  lhsNonContracting := [1]
  rhsNonContracting := [2]
  lhsBatch := [0]
  rhsBatch := [0]
  wf := dot_S2x2048x192_S2x192x512_S2x2048x512_2_1_1_2_0_0_wf
def dot_S2x2048x192_S2x192x256_S2x2048x256_2_1_1_2_0_0 : DotDims S2x2048x192 S2x192x256 S2x2048x256 where
  lhsContracting := [2]
  rhsContracting := [1]
  lhsNonContracting := [1]
  rhsNonContracting := [2]
  lhsBatch := [0]
  rhsBatch := [0]
  wf := dot_S2x2048x192_S2x192x256_S2x2048x256_2_1_1_2_0_0_wf
def dot_S2x2048x192_S2x192x128_S2x2048x128_2_1_1_2_0_0 : DotDims S2x2048x192 S2x192x128 S2x2048x128 where
  lhsContracting := [2]
  rhsContracting := [1]
  lhsNonContracting := [1]
  rhsNonContracting := [2]
  lhsBatch := [0]
  rhsBatch := [0]
  wf := dot_S2x2048x192_S2x192x128_S2x2048x128_2_1_1_2_0_0_wf
def dot_S2x2048x192_S2x192x64_S2x2048x64_2_1_1_2_0_0 : DotDims S2x2048x192 S2x192x64 S2x2048x64 where
  lhsContracting := [2]
  rhsContracting := [1]
  lhsNonContracting := [1]
  rhsNonContracting := [2]
  lhsBatch := [0]
  rhsBatch := [0]
  wf := dot_S2x2048x192_S2x192x64_S2x2048x64_2_1_1_2_0_0_wf
def dot_S2x2048x192_S2x192x32_S2x2048x32_2_1_1_2_0_0 : DotDims S2x2048x192 S2x192x32 S2x2048x32 where
  lhsContracting := [2]
  rhsContracting := [1]
  lhsNonContracting := [1]
  rhsNonContracting := [2]
  lhsBatch := [0]
  rhsBatch := [0]
  wf := dot_S2x2048x192_S2x192x32_S2x2048x32_2_1_1_2_0_0_wf
def dot_S2x2048x192_S2x192x16_S2x2048x16_2_1_1_2_0_0 : DotDims S2x2048x192 S2x192x16 S2x2048x16 where
  lhsContracting := [2]
  rhsContracting := [1]
  lhsNonContracting := [1]
  rhsNonContracting := [2]
  lhsBatch := [0]
  rhsBatch := [0]
  wf := dot_S2x2048x192_S2x192x16_S2x2048x16_2_1_1_2_0_0_wf
def dot_S2x2048x192_S2x192x8_S2x2048x8_2_1_1_2_0_0 : DotDims S2x2048x192 S2x192x8 S2x2048x8 where
  lhsContracting := [2]
  rhsContracting := [1]
  lhsNonContracting := [1]
  rhsNonContracting := [2]
  lhsBatch := [0]
  rhsBatch := [0]
  wf := dot_S2x2048x192_S2x192x8_S2x2048x8_2_1_1_2_0_0_wf
def dot_S2x2048x192_S2x192x4_S2x2048x4_2_1_1_2_0_0 : DotDims S2x2048x192 S2x192x4 S2x2048x4 where
  lhsContracting := [2]
  rhsContracting := [1]
  lhsNonContracting := [1]
  rhsNonContracting := [2]
  lhsBatch := [0]
  rhsBatch := [0]
  wf := dot_S2x2048x192_S2x192x4_S2x2048x4_2_1_1_2_0_0_wf
def dot_S2x2048x192_S2x192x2_S2x2048x2_2_1_1_2_0_0 : DotDims S2x2048x192 S2x192x2 S2x2048x2 where
  lhsContracting := [2]
  rhsContracting := [1]
  lhsNonContracting := [1]
  rhsNonContracting := [2]
  lhsBatch := [0]
  rhsBatch := [0]
  wf := dot_S2x2048x192_S2x192x2_S2x2048x2_2_1_1_2_0_0_wf
def dot_S2x2048x192_S2x192x1_S2x2048x1_2_1_1_2_0_0 : DotDims S2x2048x192 S2x192x1 S2x2048x1 where
  lhsContracting := [2]
  rhsContracting := [1]
  lhsNonContracting := [1]
  rhsNonContracting := [2]
  lhsBatch := [0]
  rhsBatch := [0]
  wf := dot_S2x2048x192_S2x192x1_S2x2048x1_2_1_1_2_0_0_wf
def fn_part23 {F : FTy → Type} [FloatOps F] (main_v395 : IVec S2x2048 1) (main_v403 : FVec F S2x2048 .f32) (main_v405 : IVec S2x2048 1) : IVec S2x2048x2048 1 :=
  let main_cst_145 : FVec F S_ .f32 := constant S_ .f32 0x7F800000#32
  let main_v406 : FVec F S2x2048 .f32 := broadcastInDim S2x2048 ![] bcast_S_S2x2048 main_cst_145
  let main_v407 : IVec S2x2048 1 := cmpf .olt main_v403 main_v406
  let main_v408 : IVec S2x2048 1 := andi main_v405 main_v407
  let main_v409 : IVec S2x2048 1 := andi main_v395 main_v408
  let main_v410 : IVec S2x2048x2048 1 := broadcastInDim S2x2048x2048 ![0, 1] bcast_S2x2048_S2x2048x2048_0_1 main_v409
  main_v410

def fn_part22 {F : FTy → Type} [FloatOps F] (main_arg0 : FVec F S2x2048x192 .f32) (main_arg3 : FVec F S2x192x4096 .f32) (main_v381 : IVec S2x2048 1) (main_v383 : FVec F S2x2048x2 .f32) (main_v386 : IVec S2x2048x2 1) (main_v387 : FVec F S2x2048x2 .f32) : IVec S2x2048x2048 1 :=
  let main_v388 : FVec F S2x2048x2 .f32 := select main_v386 main_v387 main_v383
  let main_cst_139 : FVec F S_ .f32 := constant S_ .f32 0xFF800000#32
  let main_v389 : FVec F S2x2048 .f32 := (fun x v => Host.reduce FloatOps.maximumf x v reducesTo_S2x2048x2_S2x2048_d2 h_S_) main_v388 main_cst_139
  let main_cst_140 : FVec F S_ .f32 := constant S_ .f32 0xFF800000#32
  let main_v390 : FVec F S2x2048 .f32 := broadcastInDim S2x2048 ![] bcast_S_S2x2048 main_cst_140
  let main_v391 : IVec S2x2048 1 := cmpf .ogt main_v389 main_v390
  let main_cst_141 : FVec F S_ .f32 := constant S_ .f32 0x7F800000#32
  let main_v392 : FVec F S2x2048 .f32 := broadcastInDim S2x2048 ![] bcast_S_S2x2048 main_cst_141
  let main_v393 : IVec S2x2048 1 := cmpf .olt main_v389 main_v392
  let main_v394 : IVec S2x2048 1 := andi main_v391 main_v393
  let main_v395 : IVec S2x2048 1 := andi main_v381 main_v394
  let main_v396 : FVec F S2x192x1 .f32 := (extractStridedSlice S2x192x1 ![0, 0, 4094] · slices_S2x192x4096_S2x192x1_0_0_4094) main_arg3
  let main_v397 : FVec F S2x2048x1 .f32 := (fun l r => Host.dotGeneral dot_S2x2048x192_S2x192x1_S2x2048x1_2_1_1_2_0_0 none l r) main_arg0 main_v396
  let main_v398 : IVec S2x2048x1 32 := iotaInDim S2x2048x1 32 2
  let main_v399 : IVec S2x2048x1 32 := iotaInDim S2x2048x1 32 1
  let main_v400 : IVec S2x2048x1 1 := cmpi .sgt main_v398 main_v399
  let main_cst_142 : FVec F S_ .f32 := constant S_ .f32 0xFF800000#32
  let main_v401 : FVec F S2x2048x1 .f32 := broadcastInDim S2x2048x1 ![] bcast_S_S2x2048x1 main_cst_142
  let main_v402 : FVec F S2x2048x1 .f32 := select main_v400 main_v401 main_v397
  let main_cst_143 : FVec F S_ .f32 := constant S_ .f32 0xFF800000#32
  let main_v403 : FVec F S2x2048 .f32 := (fun x v => Host.reduce FloatOps.maximumf x v reducesTo_S2x2048x1_S2x2048_d2 h_S_) main_v402 main_cst_143
  let main_cst_144 : FVec F S_ .f32 := constant S_ .f32 0xFF800000#32
  let main_v404 : FVec F S2x2048 .f32 := broadcastInDim S2x2048 ![] bcast_S_S2x2048 main_cst_144
  let main_v405 : IVec S2x2048 1 := cmpf .ogt main_v403 main_v404
  fn_part23 (F := F) main_v395 main_v403 main_v405

def fn_part21 {F : FTy → Type} [FloatOps F] (main_arg0 : FVec F S2x2048x192 .f32) (main_arg3 : FVec F S2x192x4096 .f32) (main_v367 : IVec S2x2048 1) (main_v368 : FVec F S2x192x4 .f32) : IVec S2x2048x2048 1 :=
  let main_v369 : FVec F S2x2048x4 .f32 := (fun l r => Host.dotGeneral dot_S2x2048x192_S2x192x4_S2x2048x4_2_1_1_2_0_0 none l r) main_arg0 main_v368
  let main_v370 : IVec S2x2048x4 32 := iotaInDim S2x2048x4 32 2
  let main_v371 : IVec S2x2048x4 32 := iotaInDim S2x2048x4 32 1
  let main_v372 : IVec S2x2048x4 1 := cmpi .sgt main_v370 main_v371
  let main_cst_134 : FVec F S_ .f32 := constant S_ .f32 0xFF800000#32
  let main_v373 : FVec F S2x2048x4 .f32 := broadcastInDim S2x2048x4 ![] bcast_S_S2x2048x4 main_cst_134
  let main_v374 : FVec F S2x2048x4 .f32 := select main_v372 main_v373 main_v369
  let main_cst_135 : FVec F S_ .f32 := constant S_ .f32 0xFF800000#32
  let main_v375 : FVec F S2x2048 .f32 := (fun x v => Host.reduce FloatOps.maximumf x v reducesTo_S2x2048x4_S2x2048_d2 h_S_) main_v374 main_cst_135
  let main_cst_136 : FVec F S_ .f32 := constant S_ .f32 0xFF800000#32
  let main_v376 : FVec F S2x2048 .f32 := broadcastInDim S2x2048 ![] bcast_S_S2x2048 main_cst_136
  let main_v377 : IVec S2x2048 1 := cmpf .ogt main_v375 main_v376
  let main_cst_137 : FVec F S_ .f32 := constant S_ .f32 0x7F800000#32
  let main_v378 : FVec F S2x2048 .f32 := broadcastInDim S2x2048 ![] bcast_S_S2x2048 main_cst_137
  let main_v379 : IVec S2x2048 1 := cmpf .olt main_v375 main_v378
  let main_v380 : IVec S2x2048 1 := andi main_v377 main_v379
  let main_v381 : IVec S2x2048 1 := andi main_v367 main_v380
  let main_v382 : FVec F S2x192x2 .f32 := (extractStridedSlice S2x192x2 ![0, 0, 4092] · slices_S2x192x4096_S2x192x2_0_0_4092) main_arg3
  let main_v383 : FVec F S2x2048x2 .f32 := (fun l r => Host.dotGeneral dot_S2x2048x192_S2x192x2_S2x2048x2_2_1_1_2_0_0 none l r) main_arg0 main_v382
  let main_v384 : IVec S2x2048x2 32 := iotaInDim S2x2048x2 32 2
  let main_v385 : IVec S2x2048x2 32 := iotaInDim S2x2048x2 32 1
  let main_v386 : IVec S2x2048x2 1 := cmpi .sgt main_v384 main_v385
  let main_cst_138 : FVec F S_ .f32 := constant S_ .f32 0xFF800000#32
  let main_v387 : FVec F S2x2048x2 .f32 := broadcastInDim S2x2048x2 ![] bcast_S_S2x2048x2 main_cst_138
  fn_part22 (F := F) main_arg0 main_arg3 main_v381 main_v383 main_v386 main_v387

def fn_part20 {F : FTy → Type} [FloatOps F] (main_arg0 : FVec F S2x2048x192 .f32) (main_arg3 : FVec F S2x192x4096 .f32) (main_v326 : IVec S2x2048 1) (main_v333 : FVec F S2x2048x8 .f32) (main_v339 : IVec S2x2048 1) (main_v351 : IVec S2x2048x8 1) : IVec S2x2048x2048 1 :=
  let main_cst_127 : FVec F S_ .f32 := constant S_ .f32 0xFF800000#32
  let main_v352 : FVec F S2x2048x8 .f32 := broadcastInDim S2x2048x8 ![] bcast_S_S2x2048x8 main_cst_127
  let main_v353 : FVec F S2x2048x8 .f32 := select main_v351 main_v352 main_v333
  let main_cst_128 : FVec F S_ .f32 := constant S_ .f32 0xFF800000#32
  let main_v354 : FVec F S2x2048 .f32 := (fun x v => Host.reduce FloatOps.maximumf x v reducesTo_S2x2048x8_S2x2048_d2 h_S_) main_v353 main_cst_128
  let main_v355 : FVec F S2x2048x8 .f32 := broadcastInDim S2x2048x8 ![0, 1] bcast_S2x2048_S2x2048x8_0_1 main_v354
  let main_v356 : IVec S2x2048x8 1 := cmpf .oge main_v333 main_v355
  let main_cst_129 : FVec F S_ .f32 := constant S_ .f32 0xFF800000#32
  let main_v357 : FVec F S2x2048x8 .f32 := broadcastInDim S2x2048x8 ![] bcast_S_S2x2048x8 main_cst_129
  let main_v358 : IVec S2x2048x8 1 := cmpf .ogt main_v333 main_v357
  let main_v359 : IVec S2x2048x8 1 := andi main_v356 main_v358
  let main_cst_130 : FVec F S_ .f32 := constant S_ .f32 0x3F800000#32
  let main_v360 : FVec F S2x2048x8 .f32 := broadcastInDim S2x2048x8 ![] bcast_S_S2x2048x8 main_cst_130
  let main_cst_131 : FVec F S_ .f32 := constant S_ .f32 0x00000000#32
  let main_v361 : FVec F S2x2048x8 .f32 := broadcastInDim S2x2048x8 ![] bcast_S_S2x2048x8 main_cst_131
  let main_v362 : FVec F S2x2048x8 .f32 := select main_v359 main_v360 main_v361
  let main_cst_132 : FVec F S_ .f32 := constant S_ .f32 0x00000000#32
  let main_v363 : FVec F S2x2048 .f32 := (fun x v => Host.reduceAdd x v reducesTo_S2x2048x8_S2x2048_d2 h_S_) main_v362 main_cst_132
  let main_cst_133 : FVec F S_ .f32 := constant S_ .f32 0x40800000#32
  let main_v364 : FVec F S2x2048 .f32 := broadcastInDim S2x2048 ![] bcast_S_S2x2048 main_cst_133
  let main_v365 : IVec S2x2048 1 := cmpf .ole main_v363 main_v364
  let main_v366 : IVec S2x2048 1 := andi main_v339 main_v365
  let main_v367 : IVec S2x2048 1 := andi main_v326 main_v366
  let main_v368 : FVec F S2x192x4 .f32 := (extractStridedSlice S2x192x4 ![0, 0, 4088] · slices_S2x192x4096_S2x192x4_0_0_4088) main_arg3
  fn_part21 (F := F) main_arg0 main_arg3 main_v367 main_v368

def fn_part19 {F : FTy → Type} [FloatOps F] (main_arg0 : FVec F S2x2048x192 .f32) (main_arg3 : FVec F S2x192x4096 .f32) (main_v326 : IVec S2x2048 1) (main_v333 : FVec F S2x2048x8 .f32) (main_cst_120 : FVec F S_ .f32) : IVec S2x2048x2048 1 :=
  let main_v334 : FVec F S2x2048 .f32 := (fun x v => Host.reduce FloatOps.maximumf x v reducesTo_S2x2048x8_S2x2048_d2 h_S_) main_v333 main_cst_120
  let main_cst_121 : FVec F S_ .f32 := constant S_ .f32 0xFF800000#32
  let main_v335 : FVec F S2x2048 .f32 := broadcastInDim S2x2048 ![] bcast_S_S2x2048 main_cst_121
  let main_v336 : IVec S2x2048 1 := cmpf .ogt main_v334 main_v335
  let main_cst_122 : FVec F S_ .f32 := constant S_ .f32 0x7F800000#32
  let main_v337 : FVec F S2x2048 .f32 := broadcastInDim S2x2048 ![] bcast_S_S2x2048 main_cst_122
  let main_v338 : IVec S2x2048 1 := cmpf .olt main_v334 main_v337
  let main_v339 : IVec S2x2048 1 := andi main_v336 main_v338
  let main_v340 : FVec F S2x2048x8 .f32 := broadcastInDim S2x2048x8 ![0, 1] bcast_S2x2048_S2x2048x8_0_1 main_v334
  let main_v341 : IVec S2x2048x8 1 := cmpf .oge main_v333 main_v340
  let main_cst_123 : FVec F S_ .f32 := constant S_ .f32 0xFF800000#32
  let main_v342 : FVec F S2x2048x8 .f32 := broadcastInDim S2x2048x8 ![] bcast_S_S2x2048x8 main_cst_123
  let main_v343 : FVec F S2x2048x8 .f32 := select main_v341 main_v342 main_v333
  let main_cst_124 : FVec F S_ .f32 := constant S_ .f32 0xFF800000#32
  let main_v344 : FVec F S2x2048 .f32 := (fun x v => Host.reduce FloatOps.maximumf x v reducesTo_S2x2048x8_S2x2048_d2 h_S_) main_v343 main_cst_124
  let main_v345 : FVec F S2x2048x8 .f32 := broadcastInDim S2x2048x8 ![0, 1] bcast_S2x2048_S2x2048x8_0_1 main_v344
  let main_v346 : IVec S2x2048x8 1 := cmpf .oge main_v333 main_v345
  let main_cst_125 : FVec F S_ .f32 := constant S_ .f32 0xFF800000#32
  let main_v347 : FVec F S2x2048x8 .f32 := broadcastInDim S2x2048x8 ![] bcast_S_S2x2048x8 main_cst_125
  let main_v348 : FVec F S2x2048x8 .f32 := select main_v346 main_v347 main_v333
  let main_cst_126 : FVec F S_ .f32 := constant S_ .f32 0xFF800000#32
  let main_v349 : FVec F S2x2048 .f32 := (fun x v => Host.reduce FloatOps.maximumf x v reducesTo_S2x2048x8_S2x2048_d2 h_S_) main_v348 main_cst_126
  let main_v350 : FVec F S2x2048x8 .f32 := broadcastInDim S2x2048x8 ![0, 1] bcast_S2x2048_S2x2048x8_0_1 main_v349
  let main_v351 : IVec S2x2048x8 1 := cmpf .oge main_v333 main_v350
  fn_part20 (F := F) main_arg0 main_arg3 main_v326 main_v333 main_v339 main_v351

def fn_part18 {F : FTy → Type} [FloatOps F] (main_arg0 : FVec F S2x2048x192 .f32) (main_arg3 : FVec F S2x192x4096 .f32) (main_v285 : IVec S2x2048 1) (main_v292 : FVec F S2x2048x16 .f32) (main_v298 : IVec S2x2048 1) (main_v315 : IVec S2x2048x16 1) (main_cst_114 : FVec F S_ .f32) : IVec S2x2048x2048 1 :=
  let main_v316 : FVec F S2x2048x16 .f32 := broadcastInDim S2x2048x16 ![] bcast_S_S2x2048x16 main_cst_114
  let main_v317 : IVec S2x2048x16 1 := cmpf .ogt main_v292 main_v316
  let main_v318 : IVec S2x2048x16 1 := andi main_v315 main_v317
  let main_cst_115 : FVec F S_ .f32 := constant S_ .f32 0x3F800000#32
  let main_v319 : FVec F S2x2048x16 .f32 := broadcastInDim S2x2048x16 ![] bcast_S_S2x2048x16 main_cst_115
  let main_cst_116 : FVec F S_ .f32 := constant S_ .f32 0x00000000#32
  let main_v320 : FVec F S2x2048x16 .f32 := broadcastInDim S2x2048x16 ![] bcast_S_S2x2048x16 main_cst_116
  let main_v321 : FVec F S2x2048x16 .f32 := select main_v318 main_v319 main_v320
  let main_cst_117 : FVec F S_ .f32 := constant S_ .f32 0x00000000#32
  let main_v322 : FVec F S2x2048 .f32 := (fun x v => Host.reduceAdd x v reducesTo_S2x2048x16_S2x2048_d2 h_S_) main_v321 main_cst_117
  let main_cst_118 : FVec F S_ .f32 := constant S_ .f32 0x40800000#32
  let main_v323 : FVec F S2x2048 .f32 := broadcastInDim S2x2048 ![] bcast_S_S2x2048 main_cst_118
  let main_v324 : IVec S2x2048 1 := cmpf .ole main_v322 main_v323
  let main_v325 : IVec S2x2048 1 := andi main_v298 main_v324
  let main_v326 : IVec S2x2048 1 := andi main_v285 main_v325
  let main_v327 : FVec F S2x192x8 .f32 := (extractStridedSlice S2x192x8 ![0, 0, 4080] · slices_S2x192x4096_S2x192x8_0_0_4080) main_arg3
  let main_v328 : FVec F S2x2048x8 .f32 := (fun l r => Host.dotGeneral dot_S2x2048x192_S2x192x8_S2x2048x8_2_1_1_2_0_0 none l r) main_arg0 main_v327
  let main_v329 : IVec S2x2048x8 32 := iotaInDim S2x2048x8 32 2
  let main_v330 : IVec S2x2048x8 32 := iotaInDim S2x2048x8 32 1
  let main_v331 : IVec S2x2048x8 1 := cmpi .sgt main_v329 main_v330
  let main_cst_119 : FVec F S_ .f32 := constant S_ .f32 0xFF800000#32
  let main_v332 : FVec F S2x2048x8 .f32 := broadcastInDim S2x2048x8 ![] bcast_S_S2x2048x8 main_cst_119
  let main_v333 : FVec F S2x2048x8 .f32 := select main_v331 main_v332 main_v328
  let main_cst_120 : FVec F S_ .f32 := constant S_ .f32 0xFF800000#32
  fn_part19 (F := F) main_arg0 main_arg3 main_v326 main_v333 main_cst_120

def fn_part17 {F : FTy → Type} [FloatOps F] (main_arg0 : FVec F S2x2048x192 .f32) (main_arg3 : FVec F S2x192x4096 .f32) (main_v285 : IVec S2x2048 1) (main_v292 : FVec F S2x2048x16 .f32) (main_v293 : FVec F S2x2048 .f32) (main_v298 : IVec S2x2048 1) : IVec S2x2048x2048 1 :=
  let main_v299 : FVec F S2x2048x16 .f32 := broadcastInDim S2x2048x16 ![0, 1] bcast_S2x2048_S2x2048x16_0_1 main_v293
  let main_v300 : IVec S2x2048x16 1 := cmpf .oge main_v292 main_v299
  let main_cst_108 : FVec F S_ .f32 := constant S_ .f32 0xFF800000#32
  let main_v301 : FVec F S2x2048x16 .f32 := broadcastInDim S2x2048x16 ![] bcast_S_S2x2048x16 main_cst_108
  let main_v302 : FVec F S2x2048x16 .f32 := select main_v300 main_v301 main_v292
  let main_cst_109 : FVec F S_ .f32 := constant S_ .f32 0xFF800000#32
  let main_v303 : FVec F S2x2048 .f32 := (fun x v => Host.reduce FloatOps.maximumf x v reducesTo_S2x2048x16_S2x2048_d2 h_S_) main_v302 main_cst_109
  let main_v304 : FVec F S2x2048x16 .f32 := broadcastInDim S2x2048x16 ![0, 1] bcast_S2x2048_S2x2048x16_0_1 main_v303
  let main_v305 : IVec S2x2048x16 1 := cmpf .oge main_v292 main_v304
  let main_cst_110 : FVec F S_ .f32 := constant S_ .f32 0xFF800000#32
  let main_v306 : FVec F S2x2048x16 .f32 := broadcastInDim S2x2048x16 ![] bcast_S_S2x2048x16 main_cst_110
  let main_v307 : FVec F S2x2048x16 .f32 := select main_v305 main_v306 main_v292
  let main_cst_111 : FVec F S_ .f32 := constant S_ .f32 0xFF800000#32
  let main_v308 : FVec F S2x2048 .f32 := (fun x v => Host.reduce FloatOps.maximumf x v reducesTo_S2x2048x16_S2x2048_d2 h_S_) main_v307 main_cst_111
  let main_v309 : FVec F S2x2048x16 .f32 := broadcastInDim S2x2048x16 ![0, 1] bcast_S2x2048_S2x2048x16_0_1 main_v308
  let main_v310 : IVec S2x2048x16 1 := cmpf .oge main_v292 main_v309
  let main_cst_112 : FVec F S_ .f32 := constant S_ .f32 0xFF800000#32
  let main_v311 : FVec F S2x2048x16 .f32 := broadcastInDim S2x2048x16 ![] bcast_S_S2x2048x16 main_cst_112
  let main_v312 : FVec F S2x2048x16 .f32 := select main_v310 main_v311 main_v292
  let main_cst_113 : FVec F S_ .f32 := constant S_ .f32 0xFF800000#32
  let main_v313 : FVec F S2x2048 .f32 := (fun x v => Host.reduce FloatOps.maximumf x v reducesTo_S2x2048x16_S2x2048_d2 h_S_) main_v312 main_cst_113
  let main_v314 : FVec F S2x2048x16 .f32 := broadcastInDim S2x2048x16 ![0, 1] bcast_S2x2048_S2x2048x16_0_1 main_v313
  let main_v315 : IVec S2x2048x16 1 := cmpf .oge main_v292 main_v314
  let main_cst_114 : FVec F S_ .f32 := constant S_ .f32 0xFF800000#32
  fn_part18 (F := F) main_arg0 main_arg3 main_v285 main_v292 main_v298 main_v315 main_cst_114

def fn_part16 {F : FTy → Type} [FloatOps F] (main_arg0 : FVec F S2x2048x192 .f32) (main_arg3 : FVec F S2x192x4096 .f32) (main_v244 : IVec S2x2048 1) (main_v257 : IVec S2x2048 1) (main_v280 : FVec F S2x2048x32 .f32) : IVec S2x2048x2048 1 :=
  let main_cst_102 : FVec F S_ .f32 := constant S_ .f32 0x00000000#32
  let main_v281 : FVec F S2x2048 .f32 := (fun x v => Host.reduceAdd x v reducesTo_S2x2048x32_S2x2048_d2 h_S_) main_v280 main_cst_102
  let main_cst_103 : FVec F S_ .f32 := constant S_ .f32 0x40800000#32
  let main_v282 : FVec F S2x2048 .f32 := broadcastInDim S2x2048 ![] bcast_S_S2x2048 main_cst_103
  let main_v283 : IVec S2x2048 1 := cmpf .ole main_v281 main_v282
  let main_v284 : IVec S2x2048 1 := andi main_v257 main_v283
  let main_v285 : IVec S2x2048 1 := andi main_v244 main_v284
  let main_v286 : FVec F S2x192x16 .f32 := (extractStridedSlice S2x192x16 ![0, 0, 4064] · slices_S2x192x4096_S2x192x16_0_0_4064) main_arg3
  let main_v287 : FVec F S2x2048x16 .f32 := (fun l r => Host.dotGeneral dot_S2x2048x192_S2x192x16_S2x2048x16_2_1_1_2_0_0 none l r) main_arg0 main_v286
  let main_v288 : IVec S2x2048x16 32 := iotaInDim S2x2048x16 32 2
  let main_v289 : IVec S2x2048x16 32 := iotaInDim S2x2048x16 32 1
  let main_v290 : IVec S2x2048x16 1 := cmpi .sgt main_v288 main_v289
  let main_cst_104 : FVec F S_ .f32 := constant S_ .f32 0xFF800000#32
  let main_v291 : FVec F S2x2048x16 .f32 := broadcastInDim S2x2048x16 ![] bcast_S_S2x2048x16 main_cst_104
  let main_v292 : FVec F S2x2048x16 .f32 := select main_v290 main_v291 main_v287
  let main_cst_105 : FVec F S_ .f32 := constant S_ .f32 0xFF800000#32
  let main_v293 : FVec F S2x2048 .f32 := (fun x v => Host.reduce FloatOps.maximumf x v reducesTo_S2x2048x16_S2x2048_d2 h_S_) main_v292 main_cst_105
  let main_cst_106 : FVec F S_ .f32 := constant S_ .f32 0xFF800000#32
  let main_v294 : FVec F S2x2048 .f32 := broadcastInDim S2x2048 ![] bcast_S_S2x2048 main_cst_106
  let main_v295 : IVec S2x2048 1 := cmpf .ogt main_v293 main_v294
  let main_cst_107 : FVec F S_ .f32 := constant S_ .f32 0x7F800000#32
  let main_v296 : FVec F S2x2048 .f32 := broadcastInDim S2x2048 ![] bcast_S_S2x2048 main_cst_107
  let main_v297 : IVec S2x2048 1 := cmpf .olt main_v293 main_v296
  let main_v298 : IVec S2x2048 1 := andi main_v295 main_v297
  fn_part17 (F := F) main_arg0 main_arg3 main_v285 main_v292 main_v293 main_v298

def fn_part15 {F : FTy → Type} [FloatOps F] (main_arg0 : FVec F S2x2048x192 .f32) (main_arg3 : FVec F S2x192x4096 .f32) (main_v244 : IVec S2x2048 1) (main_v251 : FVec F S2x2048x32 .f32) (main_v257 : IVec S2x2048 1) (main_v263 : FVec F S2x2048x32 .f32) : IVec S2x2048x2048 1 :=
  let main_v264 : IVec S2x2048x32 1 := cmpf .oge main_v251 main_v263
  let main_cst_95 : FVec F S_ .f32 := constant S_ .f32 0xFF800000#32
  let main_v265 : FVec F S2x2048x32 .f32 := broadcastInDim S2x2048x32 ![] bcast_S_S2x2048x32 main_cst_95
  let main_v266 : FVec F S2x2048x32 .f32 := select main_v264 main_v265 main_v251
  let main_cst_96 : FVec F S_ .f32 := constant S_ .f32 0xFF800000#32
  let main_v267 : FVec F S2x2048 .f32 := (fun x v => Host.reduce FloatOps.maximumf x v reducesTo_S2x2048x32_S2x2048_d2 h_S_) main_v266 main_cst_96
  let main_v268 : FVec F S2x2048x32 .f32 := broadcastInDim S2x2048x32 ![0, 1] bcast_S2x2048_S2x2048x32_0_1 main_v267
  let main_v269 : IVec S2x2048x32 1 := cmpf .oge main_v251 main_v268
  let main_cst_97 : FVec F S_ .f32 := constant S_ .f32 0xFF800000#32
  let main_v270 : FVec F S2x2048x32 .f32 := broadcastInDim S2x2048x32 ![] bcast_S_S2x2048x32 main_cst_97
  let main_v271 : FVec F S2x2048x32 .f32 := select main_v269 main_v270 main_v251
  let main_cst_98 : FVec F S_ .f32 := constant S_ .f32 0xFF800000#32
  let main_v272 : FVec F S2x2048 .f32 := (fun x v => Host.reduce FloatOps.maximumf x v reducesTo_S2x2048x32_S2x2048_d2 h_S_) main_v271 main_cst_98
  let main_v273 : FVec F S2x2048x32 .f32 := broadcastInDim S2x2048x32 ![0, 1] bcast_S2x2048_S2x2048x32_0_1 main_v272
  let main_v274 : IVec S2x2048x32 1 := cmpf .oge main_v251 main_v273
  let main_cst_99 : FVec F S_ .f32 := constant S_ .f32 0xFF800000#32
  let main_v275 : FVec F S2x2048x32 .f32 := broadcastInDim S2x2048x32 ![] bcast_S_S2x2048x32 main_cst_99
  let main_v276 : IVec S2x2048x32 1 := cmpf .ogt main_v251 main_v275
  let main_v277 : IVec S2x2048x32 1 := andi main_v274 main_v276
  let main_cst_100 : FVec F S_ .f32 := constant S_ .f32 0x3F800000#32
  let main_v278 : FVec F S2x2048x32 .f32 := broadcastInDim S2x2048x32 ![] bcast_S_S2x2048x32 main_cst_100
  let main_cst_101 : FVec F S_ .f32 := constant S_ .f32 0x00000000#32
  let main_v279 : FVec F S2x2048x32 .f32 := broadcastInDim S2x2048x32 ![] bcast_S_S2x2048x32 main_cst_101
  let main_v280 : FVec F S2x2048x32 .f32 := select main_v277 main_v278 main_v279
  fn_part16 (F := F) main_arg0 main_arg3 main_v244 main_v257 main_v280

def fn_part14 {F : FTy → Type} [FloatOps F] (main_arg0 : FVec F S2x2048x192 .f32) (main_arg3 : FVec F S2x192x4096 .f32) (main_v244 : IVec S2x2048 1) (main_v245 : FVec F S2x192x32 .f32) : IVec S2x2048x2048 1 :=
  let main_v246 : FVec F S2x2048x32 .f32 := (fun l r => Host.dotGeneral dot_S2x2048x192_S2x192x32_S2x2048x32_2_1_1_2_0_0 none l r) main_arg0 main_v245
  let main_v247 : IVec S2x2048x32 32 := iotaInDim S2x2048x32 32 2
  let main_v248 : IVec S2x2048x32 32 := iotaInDim S2x2048x32 32 1
  let main_v249 : IVec S2x2048x32 1 := cmpi .sgt main_v247 main_v248
  let main_cst_89 : FVec F S_ .f32 := constant S_ .f32 0xFF800000#32
  let main_v250 : FVec F S2x2048x32 .f32 := broadcastInDim S2x2048x32 ![] bcast_S_S2x2048x32 main_cst_89
  let main_v251 : FVec F S2x2048x32 .f32 := select main_v249 main_v250 main_v246
  let main_cst_90 : FVec F S_ .f32 := constant S_ .f32 0xFF800000#32
  let main_v252 : FVec F S2x2048 .f32 := (fun x v => Host.reduce FloatOps.maximumf x v reducesTo_S2x2048x32_S2x2048_d2 h_S_) main_v251 main_cst_90
  let main_cst_91 : FVec F S_ .f32 := constant S_ .f32 0xFF800000#32
  let main_v253 : FVec F S2x2048 .f32 := broadcastInDim S2x2048 ![] bcast_S_S2x2048 main_cst_91
  let main_v254 : IVec S2x2048 1 := cmpf .ogt main_v252 main_v253
  let main_cst_92 : FVec F S_ .f32 := constant S_ .f32 0x7F800000#32
  let main_v255 : FVec F S2x2048 .f32 := broadcastInDim S2x2048 ![] bcast_S_S2x2048 main_cst_92
  let main_v256 : IVec S2x2048 1 := cmpf .olt main_v252 main_v255
  let main_v257 : IVec S2x2048 1 := andi main_v254 main_v256
  let main_v258 : FVec F S2x2048x32 .f32 := broadcastInDim S2x2048x32 ![0, 1] bcast_S2x2048_S2x2048x32_0_1 main_v252
  let main_v259 : IVec S2x2048x32 1 := cmpf .oge main_v251 main_v258
  let main_cst_93 : FVec F S_ .f32 := constant S_ .f32 0xFF800000#32
  let main_v260 : FVec F S2x2048x32 .f32 := broadcastInDim S2x2048x32 ![] bcast_S_S2x2048x32 main_cst_93
  let main_v261 : FVec F S2x2048x32 .f32 := select main_v259 main_v260 main_v251
  let main_cst_94 : FVec F S_ .f32 := constant S_ .f32 0xFF800000#32
  let main_v262 : FVec F S2x2048 .f32 := (fun x v => Host.reduce FloatOps.maximumf x v reducesTo_S2x2048x32_S2x2048_d2 h_S_) main_v261 main_cst_94
  let main_v263 : FVec F S2x2048x32 .f32 := broadcastInDim S2x2048x32 ![0, 1] bcast_S2x2048_S2x2048x32_0_1 main_v262
  fn_part15 (F := F) main_arg0 main_arg3 main_v244 main_v251 main_v257 main_v263

def fn_part13 {F : FTy → Type} [FloatOps F] (main_arg0 : FVec F S2x2048x192 .f32) (main_arg3 : FVec F S2x192x4096 .f32) (main_v203 : IVec S2x2048 1) (main_v210 : FVec F S2x2048x64 .f32) (main_v216 : IVec S2x2048 1) (main_v228 : IVec S2x2048x64 1) : IVec S2x2048x2048 1 :=
  let main_cst_82 : FVec F S_ .f32 := constant S_ .f32 0xFF800000#32
  let main_v229 : FVec F S2x2048x64 .f32 := broadcastInDim S2x2048x64 ![] bcast_S_S2x2048x64 main_cst_82
  let main_v230 : FVec F S2x2048x64 .f32 := select main_v228 main_v229 main_v210
  let main_cst_83 : FVec F S_ .f32 := constant S_ .f32 0xFF800000#32
  let main_v231 : FVec F S2x2048 .f32 := (fun x v => Host.reduce FloatOps.maximumf x v reducesTo_S2x2048x64_S2x2048_d2 h_S_) main_v230 main_cst_83
  let main_v232 : FVec F S2x2048x64 .f32 := broadcastInDim S2x2048x64 ![0, 1] bcast_S2x2048_S2x2048x64_0_1 main_v231
  let main_v233 : IVec S2x2048x64 1 := cmpf .oge main_v210 main_v232
  let main_cst_84 : FVec F S_ .f32 := constant S_ .f32 0xFF800000#32
  let main_v234 : FVec F S2x2048x64 .f32 := broadcastInDim S2x2048x64 ![] bcast_S_S2x2048x64 main_cst_84
  let main_v235 : IVec S2x2048x64 1 := cmpf .ogt main_v210 main_v234
  let main_v236 : IVec S2x2048x64 1 := andi main_v233 main_v235
  let main_cst_85 : FVec F S_ .f32 := constant S_ .f32 0x3F800000#32
  let main_v237 : FVec F S2x2048x64 .f32 := broadcastInDim S2x2048x64 ![] bcast_S_S2x2048x64 main_cst_85
  let main_cst_86 : FVec F S_ .f32 := constant S_ .f32 0x00000000#32
  let main_v238 : FVec F S2x2048x64 .f32 := broadcastInDim S2x2048x64 ![] bcast_S_S2x2048x64 main_cst_86
  let main_v239 : FVec F S2x2048x64 .f32 := select main_v236 main_v237 main_v238
  let main_cst_87 : FVec F S_ .f32 := constant S_ .f32 0x00000000#32
  let main_v240 : FVec F S2x2048 .f32 := (fun x v => Host.reduceAdd x v reducesTo_S2x2048x64_S2x2048_d2 h_S_) main_v239 main_cst_87
  let main_cst_88 : FVec F S_ .f32 := constant S_ .f32 0x40800000#32
  let main_v241 : FVec F S2x2048 .f32 := broadcastInDim S2x2048 ![] bcast_S_S2x2048 main_cst_88
  let main_v242 : IVec S2x2048 1 := cmpf .ole main_v240 main_v241
  let main_v243 : IVec S2x2048 1 := andi main_v216 main_v242
  let main_v244 : IVec S2x2048 1 := andi main_v203 main_v243
  let main_v245 : FVec F S2x192x32 .f32 := (extractStridedSlice S2x192x32 ![0, 0, 4032] · slices_S2x192x4096_S2x192x32_0_0_4032) main_arg3
  fn_part14 (F := F) main_arg0 main_arg3 main_v244 main_v245

def fn_part12 {F : FTy → Type} [FloatOps F] (main_arg0 : FVec F S2x2048x192 .f32) (main_arg3 : FVec F S2x192x4096 .f32) (main_v203 : IVec S2x2048 1) (main_v210 : FVec F S2x2048x64 .f32) (main_cst_75 : FVec F S_ .f32) : IVec S2x2048x2048 1 :=
  let main_v211 : FVec F S2x2048 .f32 := (fun x v => Host.reduce FloatOps.maximumf x v reducesTo_S2x2048x64_S2x2048_d2 h_S_) main_v210 main_cst_75
  let main_cst_76 : FVec F S_ .f32 := constant S_ .f32 0xFF800000#32
  let main_v212 : FVec F S2x2048 .f32 := broadcastInDim S2x2048 ![] bcast_S_S2x2048 main_cst_76
  let main_v213 : IVec S2x2048 1 := cmpf .ogt main_v211 main_v212
  let main_cst_77 : FVec F S_ .f32 := constant S_ .f32 0x7F800000#32
  let main_v214 : FVec F S2x2048 .f32 := broadcastInDim S2x2048 ![] bcast_S_S2x2048 main_cst_77
  let main_v215 : IVec S2x2048 1 := cmpf .olt main_v211 main_v214
  let main_v216 : IVec S2x2048 1 := andi main_v213 main_v215
  let main_v217 : FVec F S2x2048x64 .f32 := broadcastInDim S2x2048x64 ![0, 1] bcast_S2x2048_S2x2048x64_0_1 main_v211
  let main_v218 : IVec S2x2048x64 1 := cmpf .oge main_v210 main_v217
  let main_cst_78 : FVec F S_ .f32 := constant S_ .f32 0xFF800000#32
  let main_v219 : FVec F S2x2048x64 .f32 := broadcastInDim S2x2048x64 ![] bcast_S_S2x2048x64 main_cst_78
  let main_v220 : FVec F S2x2048x64 .f32 := select main_v218 main_v219 main_v210
  let main_cst_79 : FVec F S_ .f32 := constant S_ .f32 0xFF800000#32
  let main_v221 : FVec F S2x2048 .f32 := (fun x v => Host.reduce FloatOps.maximumf x v reducesTo_S2x2048x64_S2x2048_d2 h_S_) main_v220 main_cst_79
  let main_v222 : FVec F S2x2048x64 .f32 := broadcastInDim S2x2048x64 ![0, 1] bcast_S2x2048_S2x2048x64_0_1 main_v221
  let main_v223 : IVec S2x2048x64 1 := cmpf .oge main_v210 main_v222
  let main_cst_80 : FVec F S_ .f32 := constant S_ .f32 0xFF800000#32
  let main_v224 : FVec F S2x2048x64 .f32 := broadcastInDim S2x2048x64 ![] bcast_S_S2x2048x64 main_cst_80
  let main_v225 : FVec F S2x2048x64 .f32 := select main_v223 main_v224 main_v210
  let main_cst_81 : FVec F S_ .f32 := constant S_ .f32 0xFF800000#32
  let main_v226 : FVec F S2x2048 .f32 := (fun x v => Host.reduce FloatOps.maximumf x v reducesTo_S2x2048x64_S2x2048_d2 h_S_) main_v225 main_cst_81
  let main_v227 : FVec F S2x2048x64 .f32 := broadcastInDim S2x2048x64 ![0, 1] bcast_S2x2048_S2x2048x64_0_1 main_v226
  let main_v228 : IVec S2x2048x64 1 := cmpf .oge main_v210 main_v227
  fn_part13 (F := F) main_arg0 main_arg3 main_v203 main_v210 main_v216 main_v228

def fn_part11 {F : FTy → Type} [FloatOps F] (main_arg0 : FVec F S2x2048x192 .f32) (main_arg3 : FVec F S2x192x4096 .f32) (main_v162 : IVec S2x2048 1) (main_v169 : FVec F S2x2048x128 .f32) (main_v175 : IVec S2x2048 1) (main_v192 : IVec S2x2048x128 1) (main_cst_69 : FVec F S_ .f32) : IVec S2x2048x2048 1 :=
  let main_v193 : FVec F S2x2048x128 .f32 := broadcastInDim S2x2048x128 ![] bcast_S_S2x2048x128 main_cst_69
  let main_v194 : IVec S2x2048x128 1 := cmpf .ogt main_v169 main_v193
  let main_v195 : IVec S2x2048x128 1 := andi main_v192 main_v194
  let main_cst_70 : FVec F S_ .f32 := constant S_ .f32 0x3F800000#32
  let main_v196 : FVec F S2x2048x128 .f32 := broadcastInDim S2x2048x128 ![] bcast_S_S2x2048x128 main_cst_70
  let main_cst_71 : FVec F S_ .f32 := constant S_ .f32 0x00000000#32
  let main_v197 : FVec F S2x2048x128 .f32 := broadcastInDim S2x2048x128 ![] bcast_S_S2x2048x128 main_cst_71
  let main_v198 : FVec F S2x2048x128 .f32 := select main_v195 main_v196 main_v197
  let main_cst_72 : FVec F S_ .f32 := constant S_ .f32 0x00000000#32
  let main_v199 : FVec F S2x2048 .f32 := (fun x v => Host.reduceAdd x v reducesTo_S2x2048x128_S2x2048_d2 h_S_) main_v198 main_cst_72
  let main_cst_73 : FVec F S_ .f32 := constant S_ .f32 0x40800000#32
  let main_v200 : FVec F S2x2048 .f32 := broadcastInDim S2x2048 ![] bcast_S_S2x2048 main_cst_73
  let main_v201 : IVec S2x2048 1 := cmpf .ole main_v199 main_v200
  let main_v202 : IVec S2x2048 1 := andi main_v175 main_v201
  let main_v203 : IVec S2x2048 1 := andi main_v162 main_v202
  let main_v204 : FVec F S2x192x64 .f32 := (extractStridedSlice S2x192x64 ![0, 0, 3968] · slices_S2x192x4096_S2x192x64_0_0_3968) main_arg3
  let main_v205 : FVec F S2x2048x64 .f32 := (fun l r => Host.dotGeneral dot_S2x2048x192_S2x192x64_S2x2048x64_2_1_1_2_0_0 none l r) main_arg0 main_v204
  let main_v206 : IVec S2x2048x64 32 := iotaInDim S2x2048x64 32 2
  let main_v207 : IVec S2x2048x64 32 := iotaInDim S2x2048x64 32 1
  let main_v208 : IVec S2x2048x64 1 := cmpi .sgt main_v206 main_v207
  let main_cst_74 : FVec F S_ .f32 := constant S_ .f32 0xFF800000#32
  let main_v209 : FVec F S2x2048x64 .f32 := broadcastInDim S2x2048x64 ![] bcast_S_S2x2048x64 main_cst_74
  let main_v210 : FVec F S2x2048x64 .f32 := select main_v208 main_v209 main_v205
  let main_cst_75 : FVec F S_ .f32 := constant S_ .f32 0xFF800000#32
  fn_part12 (F := F) main_arg0 main_arg3 main_v203 main_v210 main_cst_75

def fn_part10 {F : FTy → Type} [FloatOps F] (main_arg0 : FVec F S2x2048x192 .f32) (main_arg3 : FVec F S2x192x4096 .f32) (main_v162 : IVec S2x2048 1) (main_v169 : FVec F S2x2048x128 .f32) (main_v170 : FVec F S2x2048 .f32) (main_v175 : IVec S2x2048 1) : IVec S2x2048x2048 1 :=
  let main_v176 : FVec F S2x2048x128 .f32 := broadcastInDim S2x2048x128 ![0, 1] bcast_S2x2048_S2x2048x128_0_1 main_v170
  let main_v177 : IVec S2x2048x128 1 := cmpf .oge main_v169 main_v176
  let main_cst_63 : FVec F S_ .f32 := constant S_ .f32 0xFF800000#32
  let main_v178 : FVec F S2x2048x128 .f32 := broadcastInDim S2x2048x128 ![] bcast_S_S2x2048x128 main_cst_63
  let main_v179 : FVec F S2x2048x128 .f32 := select main_v177 main_v178 main_v169
  let main_cst_64 : FVec F S_ .f32 := constant S_ .f32 0xFF800000#32
  let main_v180 : FVec F S2x2048 .f32 := (fun x v => Host.reduce FloatOps.maximumf x v reducesTo_S2x2048x128_S2x2048_d2 h_S_) main_v179 main_cst_64
  let main_v181 : FVec F S2x2048x128 .f32 := broadcastInDim S2x2048x128 ![0, 1] bcast_S2x2048_S2x2048x128_0_1 main_v180
  let main_v182 : IVec S2x2048x128 1 := cmpf .oge main_v169 main_v181
  let main_cst_65 : FVec F S_ .f32 := constant S_ .f32 0xFF800000#32
  let main_v183 : FVec F S2x2048x128 .f32 := broadcastInDim S2x2048x128 ![] bcast_S_S2x2048x128 main_cst_65
  let main_v184 : FVec F S2x2048x128 .f32 := select main_v182 main_v183 main_v169
  let main_cst_66 : FVec F S_ .f32 := constant S_ .f32 0xFF800000#32
  let main_v185 : FVec F S2x2048 .f32 := (fun x v => Host.reduce FloatOps.maximumf x v reducesTo_S2x2048x128_S2x2048_d2 h_S_) main_v184 main_cst_66
  let main_v186 : FVec F S2x2048x128 .f32 := broadcastInDim S2x2048x128 ![0, 1] bcast_S2x2048_S2x2048x128_0_1 main_v185
  let main_v187 : IVec S2x2048x128 1 := cmpf .oge main_v169 main_v186
  let main_cst_67 : FVec F S_ .f32 := constant S_ .f32 0xFF800000#32
  let main_v188 : FVec F S2x2048x128 .f32 := broadcastInDim S2x2048x128 ![] bcast_S_S2x2048x128 main_cst_67
  let main_v189 : FVec F S2x2048x128 .f32 := select main_v187 main_v188 main_v169
  let main_cst_68 : FVec F S_ .f32 := constant S_ .f32 0xFF800000#32
  let main_v190 : FVec F S2x2048 .f32 := (fun x v => Host.reduce FloatOps.maximumf x v reducesTo_S2x2048x128_S2x2048_d2 h_S_) main_v189 main_cst_68
  let main_v191 : FVec F S2x2048x128 .f32 := broadcastInDim S2x2048x128 ![0, 1] bcast_S2x2048_S2x2048x128_0_1 main_v190
  let main_v192 : IVec S2x2048x128 1 := cmpf .oge main_v169 main_v191
  let main_cst_69 : FVec F S_ .f32 := constant S_ .f32 0xFF800000#32
  fn_part11 (F := F) main_arg0 main_arg3 main_v162 main_v169 main_v175 main_v192 main_cst_69

def fn_part9 {F : FTy → Type} [FloatOps F] (main_arg0 : FVec F S2x2048x192 .f32) (main_arg3 : FVec F S2x192x4096 .f32) (main_v121 : IVec S2x2048 1) (main_v134 : IVec S2x2048 1) (main_v157 : FVec F S2x2048x256 .f32) : IVec S2x2048x2048 1 :=
  let main_cst_57 : FVec F S_ .f32 := constant S_ .f32 0x00000000#32
  let main_v158 : FVec F S2x2048 .f32 := (fun x v => Host.reduceAdd x v reducesTo_S2x2048x256_S2x2048_d2 h_S_) main_v157 main_cst_57
  let main_cst_58 : FVec F S_ .f32 := constant S_ .f32 0x40800000#32
  let main_v159 : FVec F S2x2048 .f32 := broadcastInDim S2x2048 ![] bcast_S_S2x2048 main_cst_58
  let main_v160 : IVec S2x2048 1 := cmpf .ole main_v158 main_v159
  let main_v161 : IVec S2x2048 1 := andi main_v134 main_v160
  let main_v162 : IVec S2x2048 1 := andi main_v121 main_v161
  let main_v163 : FVec F S2x192x128 .f32 := (extractStridedSlice S2x192x128 ![0, 0, 3840] · slices_S2x192x4096_S2x192x128_0_0_3840) main_arg3
  let main_v164 : FVec F S2x2048x128 .f32 := (fun l r => Host.dotGeneral dot_S2x2048x192_S2x192x128_S2x2048x128_2_1_1_2_0_0 none l r) main_arg0 main_v163
  let main_v165 : IVec S2x2048x128 32 := iotaInDim S2x2048x128 32 2
  let main_v166 : IVec S2x2048x128 32 := iotaInDim S2x2048x128 32 1
  let main_v167 : IVec S2x2048x128 1 := cmpi .sgt main_v165 main_v166
  let main_cst_59 : FVec F S_ .f32 := constant S_ .f32 0xFF800000#32
  let main_v168 : FVec F S2x2048x128 .f32 := broadcastInDim S2x2048x128 ![] bcast_S_S2x2048x128 main_cst_59
  let main_v169 : FVec F S2x2048x128 .f32 := select main_v167 main_v168 main_v164
  let main_cst_60 : FVec F S_ .f32 := constant S_ .f32 0xFF800000#32
  let main_v170 : FVec F S2x2048 .f32 := (fun x v => Host.reduce FloatOps.maximumf x v reducesTo_S2x2048x128_S2x2048_d2 h_S_) main_v169 main_cst_60
  let main_cst_61 : FVec F S_ .f32 := constant S_ .f32 0xFF800000#32
  let main_v171 : FVec F S2x2048 .f32 := broadcastInDim S2x2048 ![] bcast_S_S2x2048 main_cst_61
  let main_v172 : IVec S2x2048 1 := cmpf .ogt main_v170 main_v171
  let main_cst_62 : FVec F S_ .f32 := constant S_ .f32 0x7F800000#32
  let main_v173 : FVec F S2x2048 .f32 := broadcastInDim S2x2048 ![] bcast_S_S2x2048 main_cst_62
  let main_v174 : IVec S2x2048 1 := cmpf .olt main_v170 main_v173
  let main_v175 : IVec S2x2048 1 := andi main_v172 main_v174
  fn_part10 (F := F) main_arg0 main_arg3 main_v162 main_v169 main_v170 main_v175

def fn_part8 {F : FTy → Type} [FloatOps F] (main_arg0 : FVec F S2x2048x192 .f32) (main_arg3 : FVec F S2x192x4096 .f32) (main_v121 : IVec S2x2048 1) (main_v128 : FVec F S2x2048x256 .f32) (main_v134 : IVec S2x2048 1) (main_v140 : FVec F S2x2048x256 .f32) : IVec S2x2048x2048 1 :=
  let main_v141 : IVec S2x2048x256 1 := cmpf .oge main_v128 main_v140
  let main_cst_50 : FVec F S_ .f32 := constant S_ .f32 0xFF800000#32
  let main_v142 : FVec F S2x2048x256 .f32 := broadcastInDim S2x2048x256 ![] bcast_S_S2x2048x256 main_cst_50
  let main_v143 : FVec F S2x2048x256 .f32 := select main_v141 main_v142 main_v128
  let main_cst_51 : FVec F S_ .f32 := constant S_ .f32 0xFF800000#32
  let main_v144 : FVec F S2x2048 .f32 := (fun x v => Host.reduce FloatOps.maximumf x v reducesTo_S2x2048x256_S2x2048_d2 h_S_) main_v143 main_cst_51
  let main_v145 : FVec F S2x2048x256 .f32 := broadcastInDim S2x2048x256 ![0, 1] bcast_S2x2048_S2x2048x256_0_1 main_v144
  let main_v146 : IVec S2x2048x256 1 := cmpf .oge main_v128 main_v145
  let main_cst_52 : FVec F S_ .f32 := constant S_ .f32 0xFF800000#32
  let main_v147 : FVec F S2x2048x256 .f32 := broadcastInDim S2x2048x256 ![] bcast_S_S2x2048x256 main_cst_52
  let main_v148 : FVec F S2x2048x256 .f32 := select main_v146 main_v147 main_v128
  let main_cst_53 : FVec F S_ .f32 := constant S_ .f32 0xFF800000#32
  let main_v149 : FVec F S2x2048 .f32 := (fun x v => Host.reduce FloatOps.maximumf x v reducesTo_S2x2048x256_S2x2048_d2 h_S_) main_v148 main_cst_53
  let main_v150 : FVec F S2x2048x256 .f32 := broadcastInDim S2x2048x256 ![0, 1] bcast_S2x2048_S2x2048x256_0_1 main_v149
  let main_v151 : IVec S2x2048x256 1 := cmpf .oge main_v128 main_v150
  let main_cst_54 : FVec F S_ .f32 := constant S_ .f32 0xFF800000#32
  let main_v152 : FVec F S2x2048x256 .f32 := broadcastInDim S2x2048x256 ![] bcast_S_S2x2048x256 main_cst_54
  let main_v153 : IVec S2x2048x256 1 := cmpf .ogt main_v128 main_v152
  let main_v154 : IVec S2x2048x256 1 := andi main_v151 main_v153
  let main_cst_55 : FVec F S_ .f32 := constant S_ .f32 0x3F800000#32
  let main_v155 : FVec F S2x2048x256 .f32 := broadcastInDim S2x2048x256 ![] bcast_S_S2x2048x256 main_cst_55
  let main_cst_56 : FVec F S_ .f32 := constant S_ .f32 0x00000000#32
  let main_v156 : FVec F S2x2048x256 .f32 := broadcastInDim S2x2048x256 ![] bcast_S_S2x2048x256 main_cst_56
  let main_v157 : FVec F S2x2048x256 .f32 := select main_v154 main_v155 main_v156
  fn_part9 (F := F) main_arg0 main_arg3 main_v121 main_v134 main_v157

def fn_part7 {F : FTy → Type} [FloatOps F] (main_arg0 : FVec F S2x2048x192 .f32) (main_arg3 : FVec F S2x192x4096 .f32) (main_v121 : IVec S2x2048 1) (main_v122 : FVec F S2x192x256 .f32) : IVec S2x2048x2048 1 :=
  let main_v123 : FVec F S2x2048x256 .f32 := (fun l r => Host.dotGeneral dot_S2x2048x192_S2x192x256_S2x2048x256_2_1_1_2_0_0 none l r) main_arg0 main_v122
  let main_v124 : IVec S2x2048x256 32 := iotaInDim S2x2048x256 32 2
  let main_v125 : IVec S2x2048x256 32 := iotaInDim S2x2048x256 32 1
  let main_v126 : IVec S2x2048x256 1 := cmpi .sgt main_v124 main_v125
  let main_cst_44 : FVec F S_ .f32 := constant S_ .f32 0xFF800000#32
  let main_v127 : FVec F S2x2048x256 .f32 := broadcastInDim S2x2048x256 ![] bcast_S_S2x2048x256 main_cst_44
  let main_v128 : FVec F S2x2048x256 .f32 := select main_v126 main_v127 main_v123
  let main_cst_45 : FVec F S_ .f32 := constant S_ .f32 0xFF800000#32
  let main_v129 : FVec F S2x2048 .f32 := (fun x v => Host.reduce FloatOps.maximumf x v reducesTo_S2x2048x256_S2x2048_d2 h_S_) main_v128 main_cst_45
  let main_cst_46 : FVec F S_ .f32 := constant S_ .f32 0xFF800000#32
  let main_v130 : FVec F S2x2048 .f32 := broadcastInDim S2x2048 ![] bcast_S_S2x2048 main_cst_46
  let main_v131 : IVec S2x2048 1 := cmpf .ogt main_v129 main_v130
  let main_cst_47 : FVec F S_ .f32 := constant S_ .f32 0x7F800000#32
  let main_v132 : FVec F S2x2048 .f32 := broadcastInDim S2x2048 ![] bcast_S_S2x2048 main_cst_47
  let main_v133 : IVec S2x2048 1 := cmpf .olt main_v129 main_v132
  let main_v134 : IVec S2x2048 1 := andi main_v131 main_v133
  let main_v135 : FVec F S2x2048x256 .f32 := broadcastInDim S2x2048x256 ![0, 1] bcast_S2x2048_S2x2048x256_0_1 main_v129
  let main_v136 : IVec S2x2048x256 1 := cmpf .oge main_v128 main_v135
  let main_cst_48 : FVec F S_ .f32 := constant S_ .f32 0xFF800000#32
  let main_v137 : FVec F S2x2048x256 .f32 := broadcastInDim S2x2048x256 ![] bcast_S_S2x2048x256 main_cst_48
  let main_v138 : FVec F S2x2048x256 .f32 := select main_v136 main_v137 main_v128
  let main_cst_49 : FVec F S_ .f32 := constant S_ .f32 0xFF800000#32
  let main_v139 : FVec F S2x2048 .f32 := (fun x v => Host.reduce FloatOps.maximumf x v reducesTo_S2x2048x256_S2x2048_d2 h_S_) main_v138 main_cst_49
  let main_v140 : FVec F S2x2048x256 .f32 := broadcastInDim S2x2048x256 ![0, 1] bcast_S2x2048_S2x2048x256_0_1 main_v139
  fn_part8 (F := F) main_arg0 main_arg3 main_v121 main_v128 main_v134 main_v140

def fn_part6 {F : FTy → Type} [FloatOps F] (main_arg0 : FVec F S2x2048x192 .f32) (main_arg3 : FVec F S2x192x4096 .f32) (main_v80 : IVec S2x2048 1) (main_v87 : FVec F S2x2048x512 .f32) (main_v93 : IVec S2x2048 1) (main_v105 : IVec S2x2048x512 1) : IVec S2x2048x2048 1 :=
  let main_cst_37 : FVec F S_ .f32 := constant S_ .f32 0xFF800000#32
  let main_v106 : FVec F S2x2048x512 .f32 := broadcastInDim S2x2048x512 ![] bcast_S_S2x2048x512 main_cst_37
  let main_v107 : FVec F S2x2048x512 .f32 := select main_v105 main_v106 main_v87
  let main_cst_38 : FVec F S_ .f32 := constant S_ .f32 0xFF800000#32
  let main_v108 : FVec F S2x2048 .f32 := (fun x v => Host.reduce FloatOps.maximumf x v reducesTo_S2x2048x512_S2x2048_d2 h_S_) main_v107 main_cst_38
  let main_v109 : FVec F S2x2048x512 .f32 := broadcastInDim S2x2048x512 ![0, 1] bcast_S2x2048_S2x2048x512_0_1 main_v108
  let main_v110 : IVec S2x2048x512 1 := cmpf .oge main_v87 main_v109
  let main_cst_39 : FVec F S_ .f32 := constant S_ .f32 0xFF800000#32
  let main_v111 : FVec F S2x2048x512 .f32 := broadcastInDim S2x2048x512 ![] bcast_S_S2x2048x512 main_cst_39
  let main_v112 : IVec S2x2048x512 1 := cmpf .ogt main_v87 main_v111
  let main_v113 : IVec S2x2048x512 1 := andi main_v110 main_v112
  let main_cst_40 : FVec F S_ .f32 := constant S_ .f32 0x3F800000#32
  let main_v114 : FVec F S2x2048x512 .f32 := broadcastInDim S2x2048x512 ![] bcast_S_S2x2048x512 main_cst_40
  let main_cst_41 : FVec F S_ .f32 := constant S_ .f32 0x00000000#32
  let main_v115 : FVec F S2x2048x512 .f32 := broadcastInDim S2x2048x512 ![] bcast_S_S2x2048x512 main_cst_41
  let main_v116 : FVec F S2x2048x512 .f32 := select main_v113 main_v114 main_v115
  let main_cst_42 : FVec F S_ .f32 := constant S_ .f32 0x00000000#32
  let main_v117 : FVec F S2x2048 .f32 := (fun x v => Host.reduceAdd x v reducesTo_S2x2048x512_S2x2048_d2 h_S_) main_v116 main_cst_42
  let main_cst_43 : FVec F S_ .f32 := constant S_ .f32 0x40800000#32
  let main_v118 : FVec F S2x2048 .f32 := broadcastInDim S2x2048 ![] bcast_S_S2x2048 main_cst_43
  let main_v119 : IVec S2x2048 1 := cmpf .ole main_v117 main_v118
  let main_v120 : IVec S2x2048 1 := andi main_v93 main_v119
  let main_v121 : IVec S2x2048 1 := andi main_v80 main_v120
  let main_v122 : FVec F S2x192x256 .f32 := (extractStridedSlice S2x192x256 ![0, 0, 3584] · slices_S2x192x4096_S2x192x256_0_0_3584) main_arg3
  fn_part7 (F := F) main_arg0 main_arg3 main_v121 main_v122

def fn_part5 {F : FTy → Type} [FloatOps F] (main_arg0 : FVec F S2x2048x192 .f32) (main_arg3 : FVec F S2x192x4096 .f32) (main_v80 : IVec S2x2048 1) (main_v87 : FVec F S2x2048x512 .f32) (main_cst_30 : FVec F S_ .f32) : IVec S2x2048x2048 1 :=
  let main_v88 : FVec F S2x2048 .f32 := (fun x v => Host.reduce FloatOps.maximumf x v reducesTo_S2x2048x512_S2x2048_d2 h_S_) main_v87 main_cst_30
  let main_cst_31 : FVec F S_ .f32 := constant S_ .f32 0xFF800000#32
  let main_v89 : FVec F S2x2048 .f32 := broadcastInDim S2x2048 ![] bcast_S_S2x2048 main_cst_31
  let main_v90 : IVec S2x2048 1 := cmpf .ogt main_v88 main_v89
  let main_cst_32 : FVec F S_ .f32 := constant S_ .f32 0x7F800000#32
  let main_v91 : FVec F S2x2048 .f32 := broadcastInDim S2x2048 ![] bcast_S_S2x2048 main_cst_32
  let main_v92 : IVec S2x2048 1 := cmpf .olt main_v88 main_v91
  let main_v93 : IVec S2x2048 1 := andi main_v90 main_v92
  let main_v94 : FVec F S2x2048x512 .f32 := broadcastInDim S2x2048x512 ![0, 1] bcast_S2x2048_S2x2048x512_0_1 main_v88
  let main_v95 : IVec S2x2048x512 1 := cmpf .oge main_v87 main_v94
  let main_cst_33 : FVec F S_ .f32 := constant S_ .f32 0xFF800000#32
  let main_v96 : FVec F S2x2048x512 .f32 := broadcastInDim S2x2048x512 ![] bcast_S_S2x2048x512 main_cst_33
  let main_v97 : FVec F S2x2048x512 .f32 := select main_v95 main_v96 main_v87
  let main_cst_34 : FVec F S_ .f32 := constant S_ .f32 0xFF800000#32
  let main_v98 : FVec F S2x2048 .f32 := (fun x v => Host.reduce FloatOps.maximumf x v reducesTo_S2x2048x512_S2x2048_d2 h_S_) main_v97 main_cst_34
  let main_v99 : FVec F S2x2048x512 .f32 := broadcastInDim S2x2048x512 ![0, 1] bcast_S2x2048_S2x2048x512_0_1 main_v98
  let main_v100 : IVec S2x2048x512 1 := cmpf .oge main_v87 main_v99
  let main_cst_35 : FVec F S_ .f32 := constant S_ .f32 0xFF800000#32
  let main_v101 : FVec F S2x2048x512 .f32 := broadcastInDim S2x2048x512 ![] bcast_S_S2x2048x512 main_cst_35
  let main_v102 : FVec F S2x2048x512 .f32 := select main_v100 main_v101 main_v87
  let main_cst_36 : FVec F S_ .f32 := constant S_ .f32 0xFF800000#32
  let main_v103 : FVec F S2x2048 .f32 := (fun x v => Host.reduce FloatOps.maximumf x v reducesTo_S2x2048x512_S2x2048_d2 h_S_) main_v102 main_cst_36
  let main_v104 : FVec F S2x2048x512 .f32 := broadcastInDim S2x2048x512 ![0, 1] bcast_S2x2048_S2x2048x512_0_1 main_v103
  let main_v105 : IVec S2x2048x512 1 := cmpf .oge main_v87 main_v104
  fn_part6 (F := F) main_arg0 main_arg3 main_v80 main_v87 main_v93 main_v105

def fn_part4 {F : FTy → Type} [FloatOps F] (main_arg0 : FVec F S2x2048x192 .f32) (main_arg3 : FVec F S2x192x4096 .f32) (main_v39 : IVec S2x2048 1) (main_v46 : FVec F S2x2048x1024 .f32) (main_v52 : IVec S2x2048 1) (main_v69 : IVec S2x2048x1024 1) (main_cst_24 : FVec F S_ .f32) : IVec S2x2048x2048 1 :=
  let main_v70 : FVec F S2x2048x1024 .f32 := broadcastInDim S2x2048x1024 ![] bcast_S_S2x2048x1024 main_cst_24
  let main_v71 : IVec S2x2048x1024 1 := cmpf .ogt main_v46 main_v70
  let main_v72 : IVec S2x2048x1024 1 := andi main_v69 main_v71
  let main_cst_25 : FVec F S_ .f32 := constant S_ .f32 0x3F800000#32
  let main_v73 : FVec F S2x2048x1024 .f32 := broadcastInDim S2x2048x1024 ![] bcast_S_S2x2048x1024 main_cst_25
  let main_cst_26 : FVec F S_ .f32 := constant S_ .f32 0x00000000#32
  let main_v74 : FVec F S2x2048x1024 .f32 := broadcastInDim S2x2048x1024 ![] bcast_S_S2x2048x1024 main_cst_26
  let main_v75 : FVec F S2x2048x1024 .f32 := select main_v72 main_v73 main_v74
  let main_cst_27 : FVec F S_ .f32 := constant S_ .f32 0x00000000#32
  let main_v76 : FVec F S2x2048 .f32 := (fun x v => Host.reduceAdd x v reducesTo_S2x2048x1024_S2x2048_d2 h_S_) main_v75 main_cst_27
  let main_cst_28 : FVec F S_ .f32 := constant S_ .f32 0x40800000#32
  let main_v77 : FVec F S2x2048 .f32 := broadcastInDim S2x2048 ![] bcast_S_S2x2048 main_cst_28
  let main_v78 : IVec S2x2048 1 := cmpf .ole main_v76 main_v77
  let main_v79 : IVec S2x2048 1 := andi main_v52 main_v78
  let main_v80 : IVec S2x2048 1 := andi main_v39 main_v79
  let main_v81 : FVec F S2x192x512 .f32 := (extractStridedSlice S2x192x512 ![0, 0, 3072] · slices_S2x192x4096_S2x192x512_0_0_3072) main_arg3
  let main_v82 : FVec F S2x2048x512 .f32 := (fun l r => Host.dotGeneral dot_S2x2048x192_S2x192x512_S2x2048x512_2_1_1_2_0_0 none l r) main_arg0 main_v81
  let main_v83 : IVec S2x2048x512 32 := iotaInDim S2x2048x512 32 2
  let main_v84 : IVec S2x2048x512 32 := iotaInDim S2x2048x512 32 1
  let main_v85 : IVec S2x2048x512 1 := cmpi .sgt main_v83 main_v84
  let main_cst_29 : FVec F S_ .f32 := constant S_ .f32 0xFF800000#32
  let main_v86 : FVec F S2x2048x512 .f32 := broadcastInDim S2x2048x512 ![] bcast_S_S2x2048x512 main_cst_29
  let main_v87 : FVec F S2x2048x512 .f32 := select main_v85 main_v86 main_v82
  let main_cst_30 : FVec F S_ .f32 := constant S_ .f32 0xFF800000#32
  fn_part5 (F := F) main_arg0 main_arg3 main_v80 main_v87 main_cst_30

def fn_part3 {F : FTy → Type} [FloatOps F] (main_arg0 : FVec F S2x2048x192 .f32) (main_arg3 : FVec F S2x192x4096 .f32) (main_v39 : IVec S2x2048 1) (main_v46 : FVec F S2x2048x1024 .f32) (main_v47 : FVec F S2x2048 .f32) (main_v52 : IVec S2x2048 1) : IVec S2x2048x2048 1 :=
  let main_v53 : FVec F S2x2048x1024 .f32 := broadcastInDim S2x2048x1024 ![0, 1] bcast_S2x2048_S2x2048x1024_0_1 main_v47
  let main_v54 : IVec S2x2048x1024 1 := cmpf .oge main_v46 main_v53
  let main_cst_18 : FVec F S_ .f32 := constant S_ .f32 0xFF800000#32
  let main_v55 : FVec F S2x2048x1024 .f32 := broadcastInDim S2x2048x1024 ![] bcast_S_S2x2048x1024 main_cst_18
  let main_v56 : FVec F S2x2048x1024 .f32 := select main_v54 main_v55 main_v46
  let main_cst_19 : FVec F S_ .f32 := constant S_ .f32 0xFF800000#32
  let main_v57 : FVec F S2x2048 .f32 := (fun x v => Host.reduce FloatOps.maximumf x v reducesTo_S2x2048x1024_S2x2048_d2 h_S_) main_v56 main_cst_19
  let main_v58 : FVec F S2x2048x1024 .f32 := broadcastInDim S2x2048x1024 ![0, 1] bcast_S2x2048_S2x2048x1024_0_1 main_v57
  let main_v59 : IVec S2x2048x1024 1 := cmpf .oge main_v46 main_v58
  let main_cst_20 : FVec F S_ .f32 := constant S_ .f32 0xFF800000#32
  let main_v60 : FVec F S2x2048x1024 .f32 := broadcastInDim S2x2048x1024 ![] bcast_S_S2x2048x1024 main_cst_20
  let main_v61 : FVec F S2x2048x1024 .f32 := select main_v59 main_v60 main_v46
  let main_cst_21 : FVec F S_ .f32 := constant S_ .f32 0xFF800000#32
  let main_v62 : FVec F S2x2048 .f32 := (fun x v => Host.reduce FloatOps.maximumf x v reducesTo_S2x2048x1024_S2x2048_d2 h_S_) main_v61 main_cst_21
  let main_v63 : FVec F S2x2048x1024 .f32 := broadcastInDim S2x2048x1024 ![0, 1] bcast_S2x2048_S2x2048x1024_0_1 main_v62
  let main_v64 : IVec S2x2048x1024 1 := cmpf .oge main_v46 main_v63
  let main_cst_22 : FVec F S_ .f32 := constant S_ .f32 0xFF800000#32
  let main_v65 : FVec F S2x2048x1024 .f32 := broadcastInDim S2x2048x1024 ![] bcast_S_S2x2048x1024 main_cst_22
  let main_v66 : FVec F S2x2048x1024 .f32 := select main_v64 main_v65 main_v46
  let main_cst_23 : FVec F S_ .f32 := constant S_ .f32 0xFF800000#32
  let main_v67 : FVec F S2x2048 .f32 := (fun x v => Host.reduce FloatOps.maximumf x v reducesTo_S2x2048x1024_S2x2048_d2 h_S_) main_v66 main_cst_23
  let main_v68 : FVec F S2x2048x1024 .f32 := broadcastInDim S2x2048x1024 ![0, 1] bcast_S2x2048_S2x2048x1024_0_1 main_v67
  let main_v69 : IVec S2x2048x1024 1 := cmpf .oge main_v46 main_v68
  let main_cst_24 : FVec F S_ .f32 := constant S_ .f32 0xFF800000#32
  fn_part4 (F := F) main_arg0 main_arg3 main_v39 main_v46 main_v52 main_v69 main_cst_24

def fn_part2 {F : FTy → Type} [FloatOps F] (main_arg0 : FVec F S2x2048x192 .f32) (main_arg3 : FVec F S2x192x4096 .f32) (main_v12 : IVec S2x2048 1) (main_v32 : IVec S2x2048x2048 1) (main_v33 : FVec F S2x2048x2048 .f32) (main_v34 : FVec F S2x2048x2048 .f32) : IVec S2x2048x2048 1 :=
  let main_v35 : FVec F S2x2048x2048 .f32 := select main_v32 main_v33 main_v34
  let main_cst_12 : FVec F S_ .f32 := constant S_ .f32 0x00000000#32
  let main_v36 : FVec F S2x2048 .f32 := (fun x v => Host.reduceAdd x v reducesTo_S2x2048x2048_S2x2048_d2 h_S_) main_v35 main_cst_12
  let main_cst_13 : FVec F S_ .f32 := constant S_ .f32 0x40800000#32
  let main_v37 : FVec F S2x2048 .f32 := broadcastInDim S2x2048 ![] bcast_S_S2x2048 main_cst_13
  let main_v38 : IVec S2x2048 1 := cmpf .ole main_v36 main_v37
  let main_v39 : IVec S2x2048 1 := andi main_v12 main_v38
  let main_v40 : FVec F S2x192x1024 .f32 := (extractStridedSlice S2x192x1024 ![0, 0, 2048] · slices_S2x192x4096_S2x192x1024_0_0_2048) main_arg3
  let main_v41 : FVec F S2x2048x1024 .f32 := (fun l r => Host.dotGeneral dot_S2x2048x192_S2x192x1024_S2x2048x1024_2_1_1_2_0_0 none l r) main_arg0 main_v40
  let main_v42 : IVec S2x2048x1024 32 := iotaInDim S2x2048x1024 32 2
  let main_v43 : IVec S2x2048x1024 32 := iotaInDim S2x2048x1024 32 1
  let main_v44 : IVec S2x2048x1024 1 := cmpi .sgt main_v42 main_v43
  let main_cst_14 : FVec F S_ .f32 := constant S_ .f32 0xFF800000#32
  let main_v45 : FVec F S2x2048x1024 .f32 := broadcastInDim S2x2048x1024 ![] bcast_S_S2x2048x1024 main_cst_14
  let main_v46 : FVec F S2x2048x1024 .f32 := select main_v44 main_v45 main_v41
  let main_cst_15 : FVec F S_ .f32 := constant S_ .f32 0xFF800000#32
  let main_v47 : FVec F S2x2048 .f32 := (fun x v => Host.reduce FloatOps.maximumf x v reducesTo_S2x2048x1024_S2x2048_d2 h_S_) main_v46 main_cst_15
  let main_cst_16 : FVec F S_ .f32 := constant S_ .f32 0xFF800000#32
  let main_v48 : FVec F S2x2048 .f32 := broadcastInDim S2x2048 ![] bcast_S_S2x2048 main_cst_16
  let main_v49 : IVec S2x2048 1 := cmpf .ogt main_v47 main_v48
  let main_cst_17 : FVec F S_ .f32 := constant S_ .f32 0x7F800000#32
  let main_v50 : FVec F S2x2048 .f32 := broadcastInDim S2x2048 ![] bcast_S_S2x2048 main_cst_17
  let main_v51 : IVec S2x2048 1 := cmpf .olt main_v47 main_v50
  let main_v52 : IVec S2x2048 1 := andi main_v49 main_v51
  fn_part3 (F := F) main_arg0 main_arg3 main_v39 main_v46 main_v47 main_v52

def fn_part1 {F : FTy → Type} [FloatOps F] (main_arg0 : FVec F S2x2048x192 .f32) (main_arg3 : FVec F S2x192x4096 .f32) (main_v6 : FVec F S2x2048x2048 .f32) (main_v12 : IVec S2x2048 1) (main_v17 : FVec F S2x2048 .f32) : IVec S2x2048x2048 1 :=
  let main_v18 : FVec F S2x2048x2048 .f32 := broadcastInDim S2x2048x2048 ![0, 1] bcast_S2x2048_S2x2048x2048_0_1 main_v17
  let main_v19 : IVec S2x2048x2048 1 := cmpf .oge main_v6 main_v18
  let main_cst_5 : FVec F S_ .f32 := constant S_ .f32 0xFF800000#32
  let main_v20 : FVec F S2x2048x2048 .f32 := broadcastInDim S2x2048x2048 ![] bcast_S_S2x2048x2048 main_cst_5
  let main_v21 : FVec F S2x2048x2048 .f32 := select main_v19 main_v20 main_v6
  let main_cst_6 : FVec F S_ .f32 := constant S_ .f32 0xFF800000#32
  let main_v22 : FVec F S2x2048 .f32 := (fun x v => Host.reduce FloatOps.maximumf x v reducesTo_S2x2048x2048_S2x2048_d2 h_S_) main_v21 main_cst_6
  let main_v23 : FVec F S2x2048x2048 .f32 := broadcastInDim S2x2048x2048 ![0, 1] bcast_S2x2048_S2x2048x2048_0_1 main_v22
  let main_v24 : IVec S2x2048x2048 1 := cmpf .oge main_v6 main_v23
  let main_cst_7 : FVec F S_ .f32 := constant S_ .f32 0xFF800000#32
  let main_v25 : FVec F S2x2048x2048 .f32 := broadcastInDim S2x2048x2048 ![] bcast_S_S2x2048x2048 main_cst_7
  let main_v26 : FVec F S2x2048x2048 .f32 := select main_v24 main_v25 main_v6
  let main_cst_8 : FVec F S_ .f32 := constant S_ .f32 0xFF800000#32
  let main_v27 : FVec F S2x2048 .f32 := (fun x v => Host.reduce FloatOps.maximumf x v reducesTo_S2x2048x2048_S2x2048_d2 h_S_) main_v26 main_cst_8
  let main_v28 : FVec F S2x2048x2048 .f32 := broadcastInDim S2x2048x2048 ![0, 1] bcast_S2x2048_S2x2048x2048_0_1 main_v27
  let main_v29 : IVec S2x2048x2048 1 := cmpf .oge main_v6 main_v28
  let main_cst_9 : FVec F S_ .f32 := constant S_ .f32 0xFF800000#32
  let main_v30 : FVec F S2x2048x2048 .f32 := broadcastInDim S2x2048x2048 ![] bcast_S_S2x2048x2048 main_cst_9
  let main_v31 : IVec S2x2048x2048 1 := cmpf .ogt main_v6 main_v30
  let main_v32 : IVec S2x2048x2048 1 := andi main_v29 main_v31
  let main_cst_10 : FVec F S_ .f32 := constant S_ .f32 0x3F800000#32
  let main_v33 : FVec F S2x2048x2048 .f32 := broadcastInDim S2x2048x2048 ![] bcast_S_S2x2048x2048 main_cst_10
  let main_cst_11 : FVec F S_ .f32 := constant S_ .f32 0x00000000#32
  let main_v34 : FVec F S2x2048x2048 .f32 := broadcastInDim S2x2048x2048 ![] bcast_S_S2x2048x2048 main_cst_11
  fn_part2 (F := F) main_arg0 main_arg3 main_v12 main_v32 main_v33 main_v34

def fn {F : FTy → Type} [FloatOps F] (main_arg0 : FVec F S2x2048x192 .f32) (main_arg1 : FVec F S2x2048x1 .f32) (main_arg2 : FVec F S2x2048x192 .f32) (main_arg3 : FVec F S2x192x4096 .f32) (main_arg4 : FVec F S2x4096x192 .f32) (main_arg5 : FVec F S192x2048 .f32) (main_arg6 : FVec F S2048 .f32) (main_arg7 : FVec F S_ .f32) : IVec S2x2048x2048 1 :=
  let main_v0 : FVec F S2x192x2048 .f32 := (extractStridedSlice S2x192x2048 ![0, 0, 0] · slices_S2x192x4096_S2x192x2048_0_0_0) main_arg3
  let main_v1 : FVec F S2x2048x2048 .f32 := (fun l r => Host.dotGeneral dot_S2x2048x192_S2x192x2048_S2x2048x2048_2_1_1_2_0_0 none l r) main_arg0 main_v0
  let main_v2 : IVec S2x2048x2048 32 := iotaInDim S2x2048x2048 32 2
  let main_v3 : IVec S2x2048x2048 32 := iotaInDim S2x2048x2048 32 1
  let main_v4 : IVec S2x2048x2048 1 := cmpi .sgt main_v2 main_v3
  let main_cst : FVec F S_ .f32 := constant S_ .f32 0xFF800000#32
  let main_v5 : FVec F S2x2048x2048 .f32 := broadcastInDim S2x2048x2048 ![] bcast_S_S2x2048x2048 main_cst
  let main_v6 : FVec F S2x2048x2048 .f32 := select main_v4 main_v5 main_v1
  let main_cst_0 : FVec F S_ .f32 := constant S_ .f32 0xFF800000#32
  let main_v7 : FVec F S2x2048 .f32 := (fun x v => Host.reduce FloatOps.maximumf x v reducesTo_S2x2048x2048_S2x2048_d2 h_S_) main_v6 main_cst_0
  let main_cst_1 : FVec F S_ .f32 := constant S_ .f32 0xFF800000#32
  let main_v8 : FVec F S2x2048 .f32 := broadcastInDim S2x2048 ![] bcast_S_S2x2048 main_cst_1
  let main_v9 : IVec S2x2048 1 := cmpf .ogt main_v7 main_v8
  let main_cst_2 : FVec F S_ .f32 := constant S_ .f32 0x7F800000#32
  let main_v10 : FVec F S2x2048 .f32 := broadcastInDim S2x2048 ![] bcast_S_S2x2048 main_cst_2
  let main_v11 : IVec S2x2048 1 := cmpf .olt main_v7 main_v10
  let main_v12 : IVec S2x2048 1 := andi main_v9 main_v11
  let main_v13 : FVec F S2x2048x2048 .f32 := broadcastInDim S2x2048x2048 ![0, 1] bcast_S2x2048_S2x2048x2048_0_1 main_v7
  let main_v14 : IVec S2x2048x2048 1 := cmpf .oge main_v6 main_v13
  let main_cst_3 : FVec F S_ .f32 := constant S_ .f32 0xFF800000#32
  let main_v15 : FVec F S2x2048x2048 .f32 := broadcastInDim S2x2048x2048 ![] bcast_S_S2x2048x2048 main_cst_3
  let main_v16 : FVec F S2x2048x2048 .f32 := select main_v14 main_v15 main_v6
  let main_cst_4 : FVec F S_ .f32 := constant S_ .f32 0xFF800000#32
  let main_v17 : FVec F S2x2048 .f32 := (fun x v => Host.reduce FloatOps.maximumf x v reducesTo_S2x2048x2048_S2x2048_d2 h_S_) main_v16 main_cst_4
  fn_part1 (F := F) main_arg0 main_arg3 main_v6 main_v12 main_v17
-- ==== Pre_weights_nonneg.lean ====
abbrev S2x2048x192 : Shape := ⟨3, ![2, 2048, 192]⟩
abbrev S2x2048x1 : Shape := ⟨3, ![2, 2048, 1]⟩
abbrev S_ : Shape := ⟨0, ![]⟩

class Facts : Prop where
  bcast_S_S2x2048x1 : S_.BroadcastsInDim S2x2048x1 (![] : Fin 0 → Fin S2x2048x1.rank)

variable [Facts]

def fn {F : FTy → Type} [FloatOps F] (main_arg0 : FVec F S2x2048x192 .f32) (main_arg1 : FVec F S2x2048x192 .f32) (main_arg2 : FVec F S2x2048x1 .f32) : IVec S2x2048x1 1 :=
  let main_cst : FVec F S_ .f32 := constant S_ .f32 0x00000000#32
  let main_v0 : FVec F S2x2048x1 .f32 := broadcastInDim S2x2048x1 ![] bcast_S_S2x2048x1 main_cst
  let main_v1 : IVec S2x2048x1 1 := cmpf .oge main_arg2 main_v0
  main_v1
-- ==== Prep.lean ====
abbrev S2x2048x2048 : Shape := ⟨3, ![2, 2048, 2048]⟩
abbrev S2x2048x7 : Shape := ⟨3, ![2, 2048, 7]⟩
abbrev S2048x192 : Shape := ⟨2, ![2048, 192]⟩
abbrev S192 : Shape := ⟨1, ![192]⟩
abbrev S4103x256 : Shape := ⟨2, ![4103, 256]⟩
abbrev S256 : Shape := ⟨1, ![256]⟩
abbrev S256x1 : Shape := ⟨2, ![256, 1]⟩
abbrev S1 : Shape := ⟨1, ![1]⟩
abbrev S192x192 : Shape := ⟨2, ![192, 192]⟩
abbrev S1x8x192 : Shape := ⟨3, ![1, 8, 192]⟩
abbrev S4096x2048 : Shape := ⟨2, ![4096, 2048]⟩
abbrev S4096x7 : Shape := ⟨2, ![4096, 7]⟩
abbrev S8x192 : Shape := ⟨2, ![8, 192]⟩
abbrev S192x8 : Shape := ⟨2, ![192, 8]⟩
abbrev S1x192 : Shape := ⟨2, ![1, 192]⟩
abbrev S1x256 : Shape := ⟨2, ![1, 256]⟩
abbrev S1x1 : Shape := ⟨2, ![1, 1]⟩
abbrev S4096x192 : Shape := ⟨2, ![4096, 192]⟩
abbrev S4096x1 : Shape := ⟨2, ![4096, 1]⟩
abbrev S256x2048 : Shape := ⟨2, ![256, 2048]⟩
abbrev S256x7 : Shape := ⟨2, ![256, 7]⟩
abbrev S256x192 : Shape := ⟨2, ![256, 192]⟩
abbrev S2048x256 : Shape := ⟨2, ![2048, 256]⟩
abbrev S256x256 : Shape := ⟨2, ![256, 256]⟩
abbrev S7x256 : Shape := ⟨2, ![7, 256]⟩
abbrev S256x8 : Shape := ⟨2, ![256, 8]⟩

abbrev nBuf : Space → Nat
  | .hbm => 32
  | .vmem => 30
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x7, .f32⟩
  | .hbm, ⟨3, _⟩ => ⟨S2048x192, .f32⟩
  | .hbm, ⟨4, _⟩ => ⟨S192, .f32⟩
  | .hbm, ⟨5, _⟩ => ⟨S2048x192, .f32⟩
  | .hbm, ⟨6, _⟩ => ⟨S192, .f32⟩
  | .hbm, ⟨7, _⟩ => ⟨S2048x192, .f32⟩
  | .hbm, ⟨8, _⟩ => ⟨S192, .f32⟩
  | .hbm, ⟨9, _⟩ => ⟨S4103x256, .f32⟩
  | .hbm, ⟨10, _⟩ => ⟨S256, .f32⟩
  | .hbm, ⟨11, _⟩ => ⟨S256x1, .f32⟩
  | .hbm, ⟨12, _⟩ => ⟨S1, .f32⟩
  | .hbm, ⟨13, _⟩ => ⟨S192x192, .f32⟩
  | .hbm, ⟨14, _⟩ => ⟨S192, .f32⟩
  | .hbm, ⟨15, _⟩ => ⟨S1x8x192, .f32⟩
  | .hbm, ⟨16, _⟩ => ⟨S4096x2048, .f32⟩
  | .hbm, ⟨17, _⟩ => ⟨S4096x2048, .f32⟩
  | .hbm, ⟨18, _⟩ => ⟨S4096x7, .f32⟩
  | .hbm, ⟨19, _⟩ => ⟨S8x192, .f32⟩
  | .hbm, ⟨20, _⟩ => ⟨S192x8, .f32⟩
  | .hbm, ⟨21, _⟩ => ⟨S1x192, .f32⟩
  | .hbm, ⟨22, _⟩ => ⟨S1x192, .f32⟩
  | .hbm, ⟨23, _⟩ => ⟨S1x192, .f32⟩
  | .hbm, ⟨24, _⟩ => ⟨S1x256, .f32⟩
  | .hbm, ⟨25, _⟩ => ⟨S1x1, .f32⟩
  | .hbm, ⟨26, _⟩ => ⟨S1x192, .f32⟩
  | .hbm, ⟨27, _⟩ => ⟨S4096x192, .f32⟩
  | .hbm, ⟨28, _⟩ => ⟨S4096x192, .f32⟩
  | .hbm, ⟨29, _⟩ => ⟨S4096x192, .f32⟩
  | .hbm, ⟨30, _⟩ => ⟨S4096x1, .f32⟩
  | .hbm, ⟨31, _⟩ => ⟨S4096x192, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x7, .f32⟩
  | .local _ .vmem, ⟨5, _⟩ => ⟨S256x7, .f32⟩
  | .local _ .vmem, ⟨6, _⟩ => ⟨S2048x192, .f32⟩
  | .local _ .vmem, ⟨7, _⟩ => ⟨S1x192, .f32⟩
  | .local _ .vmem, ⟨8, _⟩ => ⟨S2048x192, .f32⟩
  | .local _ .vmem, ⟨9, _⟩ => ⟨S1x192, .f32⟩
  | .local _ .vmem, ⟨10, _⟩ => ⟨S2048x192, .f32⟩
  | .local _ .vmem, ⟨11, _⟩ => ⟨S1x192, .f32⟩
  | .local _ .vmem, ⟨12, _⟩ => ⟨S4103x256, .f32⟩
  | .local _ .vmem, ⟨13, _⟩ => ⟨S1x256, .f32⟩
  | .local _ .vmem, ⟨14, _⟩ => ⟨S256x1, .f32⟩
  | .local _ .vmem, ⟨15, _⟩ => ⟨S1x1, .f32⟩
  | .local _ .vmem, ⟨16, _⟩ => ⟨S192x192, .f32⟩
  | .local _ .vmem, ⟨17, _⟩ => ⟨S1x192, .f32⟩
  | .local _ .vmem, ⟨18, _⟩ => ⟨S8x192, .f32⟩
  | .local _ .vmem, ⟨19, _⟩ => ⟨S192x8, .f32⟩
  | .local _ .vmem, ⟨20, _⟩ => ⟨S256x192, .f32⟩
  | .local _ .vmem, ⟨21, _⟩ => ⟨S256x192, .f32⟩
  | .local _ .vmem, ⟨22, _⟩ => ⟨S256x192, .f32⟩
  | .local _ .vmem, ⟨23, _⟩ => ⟨S256x192, .f32⟩
  | .local _ .vmem, ⟨24, _⟩ => ⟨S256x192, .f32⟩
  | .local _ .vmem, ⟨25, _⟩ => ⟨S256x192, .f32⟩
  | .local _ .vmem, ⟨26, _⟩ => ⟨S256x1, .f32⟩
  | .local _ .vmem, ⟨27, _⟩ => ⟨S256x1, .f32⟩
  | .local _ .vmem, ⟨28, _⟩ => ⟨S256x192, .f32⟩
  | .local _ .vmem, ⟨29, _⟩ => ⟨S256x192, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v11_3 : Ref sig .tc := ⟨.hbm, 30, rfl⟩
abbrev main_v11_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x7 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4103x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S192x192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x192 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S192x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x192 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x192 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x192 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x192 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== PrepIdeal.lean ====
variable {F : FTy → Type} [FloatOps F] [Named F]
def κ : String → Option EReal := fun
  | "inv_sqrt_m" => some (((Real.sqrt 192)⁻¹ : ℝ) : EReal)
  | _ => none
-- ==== PrepRefIdeal.lean ====
abbrev S2x2048x2048 : Shape := ⟨3, ![2, 2048, 2048]⟩
abbrev S2x2048x7 : Shape := ⟨3, ![2, 2048, 7]⟩
abbrev S2048x192 : Shape := ⟨2, ![2048, 192]⟩
abbrev S192 : Shape := ⟨1, ![192]⟩
abbrev S4103x256 : Shape := ⟨2, ![4103, 256]⟩
abbrev S256 : Shape := ⟨1, ![256]⟩
abbrev S256x1 : Shape := ⟨2, ![256, 1]⟩
abbrev S1 : Shape := ⟨1, ![1]⟩
abbrev S192x192 : Shape := ⟨2, ![192, 192]⟩
abbrev S1x8x192 : Shape := ⟨3, ![1, 8, 192]⟩
abbrev S2x2048x192 : Shape := ⟨3, ![2, 2048, 192]⟩
abbrev S1x1x192 : Shape := ⟨3, ![1, 1, 192]⟩
abbrev S2x8x192 : Shape := ⟨3, ![2, 8, 192]⟩
abbrev S_ : Shape := ⟨0, ![]⟩
abbrev S2x2048x4103 : Shape := ⟨3, ![2, 2048, 4103]⟩
abbrev S2x2048x256 : Shape := ⟨3, ![2, 2048, 256]⟩
abbrev S1x1x256 : Shape := ⟨3, ![1, 1, 256]⟩
abbrev S2x2048x1 : Shape := ⟨3, ![2, 2048, 1]⟩
abbrev S1x1x1 : Shape := ⟨3, ![1, 1, 1]⟩
abbrev S2x2048 : Shape := ⟨2, ![2, 2048]⟩
abbrev S2x2048x8 : Shape := ⟨3, ![2, 2048, 8]⟩
abbrev S4096x192 : Shape := ⟨2, ![4096, 192]⟩
abbrev S4096x1 : Shape := ⟨2, ![4096, 1]⟩

abbrev nBuf : Space → Nat
  | .hbm => 91
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x7, .f32⟩
  | .hbm, ⟨3, _⟩ => ⟨S2048x192, .f32⟩
  | .hbm, ⟨4, _⟩ => ⟨S192, .f32⟩
  | .hbm, ⟨5, _⟩ => ⟨S2048x192, .f32⟩
  | .hbm, ⟨6, _⟩ => ⟨S192, .f32⟩
  | .hbm, ⟨7, _⟩ => ⟨S2048x192, .f32⟩
  | .hbm, ⟨8, _⟩ => ⟨S192, .f32⟩
  | .hbm, ⟨9, _⟩ => ⟨S4103x256, .f32⟩
  | .hbm, ⟨10, _⟩ => ⟨S256, .f32⟩
  | .hbm, ⟨11, _⟩ => ⟨S256x1, .f32⟩
  | .hbm, ⟨12, _⟩ => ⟨S1, .f32⟩
  | .hbm, ⟨13, _⟩ => ⟨S192x192, .f32⟩
  | .hbm, ⟨14, _⟩ => ⟨S192, .f32⟩
  | .hbm, ⟨15, _⟩ => ⟨S1x8x192, .f32⟩
  | .hbm, ⟨16, _⟩ => ⟨S2x2048x192, .f32⟩
  | .hbm, ⟨17, _⟩ => ⟨S1x1x192, .f32⟩
  | .hbm, ⟨18, _⟩ => ⟨S2x2048x192, .f32⟩
  | .hbm, ⟨19, _⟩ => ⟨S2x2048x192, .f32⟩
  | .hbm, ⟨20, _⟩ => ⟨S2x2048x192, .f32⟩
  | .hbm, ⟨21, _⟩ => ⟨S1x1x192, .f32⟩
  | .hbm, ⟨22, _⟩ => ⟨S2x2048x192, .f32⟩
  | .hbm, ⟨23, _⟩ => ⟨S2x2048x192, .f32⟩
  | .hbm, ⟨24, _⟩ => ⟨S2x8x192, .f32⟩
  | .hbm, ⟨25, _⟩ => ⟨S2x2048x192, .f32⟩
  | .hbm, ⟨26, _⟩ => ⟨S1x1x192, .f32⟩
  | .hbm, ⟨27, _⟩ => ⟨S2x2048x192, .f32⟩
  | .hbm, ⟨28, _⟩ => ⟨S2x2048x192, .f32⟩
  | .hbm, ⟨29, _⟩ => ⟨S_, .f32⟩
  | .hbm, ⟨30, _⟩ => ⟨S_, .f32⟩
  | .hbm, ⟨31, _⟩ => ⟨S2x2048x2048, .f32⟩
  | .hbm, ⟨32, _⟩ => ⟨S2x2048x2048, .f32⟩
  | .hbm, ⟨33, _⟩ => ⟨S2x2048x2048, .f32⟩
  | .hbm, ⟨34, _⟩ => ⟨S2x2048x2048, .f32⟩
  | .hbm, ⟨35, _⟩ => ⟨S2x2048x4103, .f32⟩
  | .hbm, ⟨36, _⟩ => ⟨S2x2048x256, .f32⟩
  | .hbm, ⟨37, _⟩ => ⟨S1x1x256, .f32⟩
  | .hbm, ⟨38, _⟩ => ⟨S2x2048x256, .f32⟩
  | .hbm, ⟨39, _⟩ => ⟨S2x2048x256, .f32⟩
  | .hbm, ⟨40, _⟩ => ⟨S2x2048x256, .f32⟩
  | .hbm, ⟨41, _⟩ => ⟨S2x2048x256, .f32⟩
  | .hbm, ⟨42, _⟩ => ⟨S_, .f32⟩
  | .hbm, ⟨43, _⟩ => ⟨S2x2048x256, .f32⟩
  | .hbm, ⟨44, _⟩ => ⟨S2x2048x256, .f32⟩
  | .hbm, ⟨45, _⟩ => ⟨S_, .f32⟩
  | .hbm, ⟨46, _⟩ => ⟨S2x2048x256, .f32⟩
  | .hbm, ⟨47, _⟩ => ⟨S2x2048x256, .f32⟩
  | .hbm, ⟨48, _⟩ => ⟨S2x2048x256, .f32⟩
  | .hbm, ⟨49, _⟩ => ⟨S2x2048x1, .f32⟩
  | .hbm, ⟨50, _⟩ => ⟨S1x1x1, .f32⟩
  | .hbm, ⟨51, _⟩ => ⟨S2x2048x1, .f32⟩
  | .hbm, ⟨52, _⟩ => ⟨S2x2048x1, .f32⟩
  | .hbm, ⟨53, _⟩ => ⟨S2x2048, .f32⟩
  | .hbm, ⟨54, _⟩ => ⟨S2x2048, .f32⟩
  | .hbm, ⟨55, _⟩ => ⟨S2x2048, .f32⟩
  | .hbm, ⟨56, _⟩ => ⟨S_, .f32⟩
  | .hbm, ⟨57, _⟩ => ⟨S2x2048, .f32⟩
  | .hbm, ⟨58, _⟩ => ⟨S2x2048, .f32⟩
  | .hbm, ⟨59, _⟩ => ⟨S_, .f32⟩
  | .hbm, ⟨60, _⟩ => ⟨S2x2048, .f32⟩
  | .hbm, ⟨61, _⟩ => ⟨S2x2048, .f32⟩
  | .hbm, ⟨62, _⟩ => ⟨S2x2048x192, .f32⟩
  | .hbm, ⟨63, _⟩ => ⟨S1x1x192, .f32⟩
  | .hbm, ⟨64, _⟩ => ⟨S2x2048x192, .f32⟩
  | .hbm, ⟨65, _⟩ => ⟨S2x2048x192, .f32⟩
  | .hbm, ⟨66, _⟩ => ⟨S2x2048x8, .f32⟩
  | .hbm, ⟨67, _⟩ => ⟨S_, .f32⟩
  | .hbm, ⟨68, _⟩ => ⟨S_, .f32⟩
  | .hbm, ⟨69, _⟩ => ⟨S2x2048x8, .f32⟩
  | .hbm, ⟨70, _⟩ => ⟨S2x2048x8, .f32⟩
  | .hbm, ⟨71, _⟩ => ⟨S_, .f32⟩
  | .hbm, ⟨72, _⟩ => ⟨S2x2048, .f32⟩
  | .hbm, ⟨73, _⟩ => ⟨S_, .f32⟩
  | .hbm, ⟨74, _⟩ => ⟨S2x2048, .f32⟩
  | .hbm, ⟨75, _⟩ => ⟨S2x2048, .f32⟩
  | .hbm, ⟨76, _⟩ => ⟨S2x2048x1, .f32⟩
  | .hbm, ⟨77, _⟩ => ⟨S2x2048x8, .f32⟩
  | .hbm, ⟨78, _⟩ => ⟨S2x2048x8, .f32⟩
  | .hbm, ⟨79, _⟩ => ⟨S2x2048x8, .f32⟩
  | .hbm, ⟨80, _⟩ => ⟨S_, .f32⟩
  | .hbm, ⟨81, _⟩ => ⟨S2x2048, .f32⟩
  | .hbm, ⟨82, _⟩ => ⟨S2x2048x1, .f32⟩
  | .hbm, ⟨83, _⟩ => ⟨S2x2048x8, .f32⟩
  | .hbm, ⟨84, _⟩ => ⟨S2x2048x8, .f32⟩
  | .hbm, ⟨85, _⟩ => ⟨S2x2048x192, .f32⟩
  | .hbm, ⟨86, _⟩ => ⟨S4096x192, .f32⟩
  | .hbm, ⟨87, _⟩ => ⟨S4096x192, .f32⟩
  | .hbm, ⟨88, _⟩ => ⟨S4096x192, .f32⟩
  | .hbm, ⟨89, _⟩ => ⟨S4096x1, .f32⟩
  | .hbm, ⟨90, _⟩ => ⟨S4096x192, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_0 : Ref sig .tc := ⟨.hbm, 56, rfl⟩
abbrev main_v29 : Ref sig .tc := ⟨.hbm, 57, rfl⟩
abbrev main_v30 : Ref sig .tc := ⟨.hbm, 58, rfl⟩
abbrev main_cst_1 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_2 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_3 : Ref sig .tc := ⟨.hbm, 71, rfl⟩
abbrev main_v41 : Ref sig .tc := ⟨.hbm, 72, rfl⟩
abbrev main_cst_4 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_5 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]
-- ==== Attn.lean ====
abbrev S2x2048x192 : Shape := ⟨3, ![2, 2048, 192]⟩
abbrev S2x2048x1 : Shape := ⟨3, ![2, 2048, 1]⟩
abbrev S2x192x4096 : Shape := ⟨3, ![2, 192, 4096]⟩
abbrev S2x4096x192 : Shape := ⟨3, ![2, 4096, 192]⟩
abbrev S192x2048 : Shape := ⟨2, ![192, 2048]⟩
abbrev S2048 : Shape := ⟨1, ![2048]⟩
abbrev S_ : Shape := ⟨0, ![]⟩
abbrev S1x1 : Shape := ⟨2, ![1, 1]⟩
abbrev S1x2048 : Shape := ⟨2, ![1, 2048]⟩
abbrev S2x2048x2048 : Shape := ⟨3, ![2, 2048, 2048]⟩
abbrev S1x256x192 : Shape := ⟨3, ![1, 256, 192]⟩
abbrev S1x256x1 : Shape := ⟨3, ![1, 256, 1]⟩
abbrev S1x192x4096 : Shape := ⟨3, ![1, 192, 4096]⟩
abbrev S1x4096x192 : Shape := ⟨3, ![1, 4096, 192]⟩
abbrev S1x256x2048 : Shape := ⟨3, ![1, 256, 2048]⟩
abbrev S256x192 : Shape := ⟨2, ![256, 192]⟩
abbrev S256x1 : Shape := ⟨2, ![256, 1]⟩
abbrev S256x2048 : Shape := ⟨2, ![256, 2048]⟩
abbrev S1x192x2048 : Shape := ⟨3, ![1, 192, 2048]⟩
abbrev S1x2048x192 : Shape := ⟨3, ![1, 2048, 192]⟩
abbrev S2048x192 : Shape := ⟨2, ![2048, 192]⟩
abbrev S256 : Shape := ⟨1, ![256]⟩
abbrev S1x192x1024 : Shape := ⟨3, ![1, 192, 1024]⟩
abbrev S192x1024 : Shape := ⟨2, ![192, 1024]⟩
abbrev S1x1024x192 : Shape := ⟨3, ![1, 1024, 192]⟩
abbrev S1024x192 : Shape := ⟨2, ![1024, 192]⟩
abbrev S256x1024 : Shape := ⟨2, ![256, 1024]⟩
abbrev S1x192x512 : Shape := ⟨3, ![1, 192, 512]⟩
abbrev S192x512 : Shape := ⟨2, ![192, 512]⟩
abbrev S1x512x192 : Shape := ⟨3, ![1, 512, 192]⟩
abbrev S512x192 : Shape := ⟨2, ![512, 192]⟩
abbrev S256x512 : Shape := ⟨2, ![256, 512]⟩
abbrev S1x192x256 : Shape := ⟨3, ![1, 192, 256]⟩
abbrev S192x256 : Shape := ⟨2, ![192, 256]⟩
abbrev S256x256 : Shape := ⟨2, ![256, 256]⟩
abbrev S1x192x128 : Shape := ⟨3, ![1, 192, 128]⟩
abbrev S192x128 : Shape := ⟨2, ![192, 128]⟩
abbrev S1x128x192 : Shape := ⟨3, ![1, 128, 192]⟩
abbrev S128x192 : Shape := ⟨2, ![128, 192]⟩
abbrev S256x128 : Shape := ⟨2, ![256, 128]⟩
abbrev S1x192x64 : Shape := ⟨3, ![1, 192, 64]⟩
abbrev S192x64 : Shape := ⟨2, ![192, 64]⟩
abbrev S1x64x192 : Shape := ⟨3, ![1, 64, 192]⟩
abbrev S64x192 : Shape := ⟨2, ![64, 192]⟩
abbrev S256x64 : Shape := ⟨2, ![256, 64]⟩
abbrev S1x192x32 : Shape := ⟨3, ![1, 192, 32]⟩
abbrev S192x32 : Shape := ⟨2, ![192, 32]⟩
abbrev S1x32x192 : Shape := ⟨3, ![1, 32, 192]⟩
abbrev S32x192 : Shape := ⟨2, ![32, 192]⟩
abbrev S256x32 : Shape := ⟨2, ![256, 32]⟩
abbrev S1x192x16 : Shape := ⟨3, ![1, 192, 16]⟩
abbrev S192x16 : Shape := ⟨2, ![192, 16]⟩
abbrev S1x16x192 : Shape := ⟨3, ![1, 16, 192]⟩
abbrev S16x192 : Shape := ⟨2, ![16, 192]⟩
abbrev S256x16 : Shape := ⟨2, ![256, 16]⟩
abbrev S1x192x8 : Shape := ⟨3, ![1, 192, 8]⟩
abbrev S192x8 : Shape := ⟨2, ![192, 8]⟩
abbrev S1x8x192 : Shape := ⟨3, ![1, 8, 192]⟩
abbrev S8x192 : Shape := ⟨2, ![8, 192]⟩
abbrev S256x8 : Shape := ⟨2, ![256, 8]⟩
abbrev S1x192x4 : Shape := ⟨3, ![1, 192, 4]⟩
abbrev S192x4 : Shape := ⟨2, ![192, 4]⟩
abbrev S1x4x192 : Shape := ⟨3, ![1, 4, 192]⟩
abbrev S4x192 : Shape := ⟨2, ![4, 192]⟩
abbrev S256x4 : Shape := ⟨2, ![256, 4]⟩
abbrev S1x192x2 : Shape := ⟨3, ![1, 192, 2]⟩
abbrev S192x2 : Shape := ⟨2, ![192, 2]⟩
abbrev S1x2x192 : Shape := ⟨3, ![1, 2, 192]⟩
abbrev S2x192 : Shape := ⟨2, ![2, 192]⟩
abbrev S256x2 : Shape := ⟨2, ![256, 2]⟩
abbrev S1x192x1 : Shape := ⟨3, ![1, 192, 1]⟩
abbrev S192x1 : Shape := ⟨2, ![192, 1]⟩
abbrev S1x1x192 : Shape := ⟨3, ![1, 1, 192]⟩
abbrev S1x192 : Shape := ⟨2, ![1, 192]⟩

abbrev nBuf : Space → Nat
  | .hbm => 11
  | .vmem => 15
  | .smem => 0
  | _ => 0

abbrev bufTy : (tb : Table) → Fin (tcTables nBuf tb) → BufTy
  | .hbm, ⟨0, _⟩ => ⟨S2x2048x192, .f32⟩
  | .hbm, ⟨1, _⟩ => ⟨S2x2048x1, .f32⟩
  | .hbm, ⟨2, _⟩ => ⟨S2x2048x192, .f32⟩
  | .hbm, ⟨3, _⟩ => ⟨S2x192x4096, .f32⟩
  | .hbm, ⟨4, _⟩ => ⟨S2x4096x192, .f32⟩
  | .hbm, ⟨5, _⟩ => ⟨S192x2048, .f32⟩
  | .hbm, ⟨6, _⟩ => ⟨S2048, .f32⟩
  | .hbm, ⟨7, _⟩ => ⟨S_, .f32⟩
  | .hbm, ⟨8, _⟩ => ⟨S1x1, .f32⟩
  | .hbm, ⟨9, _⟩ => ⟨S1x2048, .f32⟩
  | .hbm, ⟨10, _⟩ => ⟨S2x2048x2048, .f32⟩
  | .local _ .vmem, ⟨0, _⟩ => ⟨S1x256x192, .f32⟩
  | .local _ .vmem, ⟨1, _⟩ => ⟨S1x256x192, .f32⟩
  | .local _ .vmem, ⟨2, _⟩ => ⟨S1x256x1, .f32⟩
  | .local _ .vmem, ⟨3, _⟩ => ⟨S1x256x1, .f32⟩
  | .local _ .vmem, ⟨4, _⟩ => ⟨S1x256x192, .f32⟩
  | .local _ .vmem, ⟨5, _⟩ => ⟨S1x256x192, .f32⟩
  | .local _ .vmem, ⟨6, _⟩ => ⟨S1x192x4096, .f32⟩
  | .local _ .vmem, ⟨7, _⟩ => ⟨S1x192x4096, .f32⟩
  | .local _ .vmem, ⟨8, _⟩ => ⟨S1x4096x192, .f32⟩
  | .local _ .vmem, ⟨9, _⟩ => ⟨S1x4096x192, .f32⟩
  | .local _ .vmem, ⟨10, _⟩ => ⟨S192x2048, .f32⟩
  | .local _ .vmem, ⟨11, _⟩ => ⟨S1x2048, .f32⟩
  | .local _ .vmem, ⟨12, _⟩ => ⟨S1x1, .f32⟩
  | .local _ .vmem, ⟨13, _⟩ => ⟨S1x256x2048, .f32⟩
  | .local _ .vmem, ⟨14, _⟩ => ⟨S1x256x2048, .f32⟩
  | _, _ => ⟨S2x2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x192x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S192x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "inv_sqrt_m" => some (((Real.sqrt 192)⁻¹ : ℝ) : EReal)
  | "mask" => some ⊥
  | _ => none
-- ==== AttnRefIdeal.lean ====
abbrev S2x2048x192 : Shape := ⟨3, ![2, 2048, 192]⟩
abbrev S2x2048x1 : Shape := ⟨3, ![2, 2048, 1]⟩
abbrev S2x192x4096 : Shape := ⟨3, ![2, 192, 4096]⟩
abbrev S2x4096x192 : Shape := ⟨3, ![2, 4096, 192]⟩
abbrev S192x2048 : Shape := ⟨2, ![192, 2048]⟩
abbrev S2048 : Shape := ⟨1, ![2048]⟩
abbrev S_ : Shape := ⟨0, ![]⟩
abbrev S2x192x2048 : Shape := ⟨3, ![2, 192, 2048]⟩
abbrev S2x192x1024 : Shape := ⟨3, ![2, 192, 1024]⟩
abbrev S2x1024x192 : Shape := ⟨3, ![2, 1024, 192]⟩
abbrev S2x192x512 : Shape := ⟨3, ![2, 192, 512]⟩
abbrev S2x512x192 : Shape := ⟨3, ![2, 512, 192]⟩
abbrev S2x192x256 : Shape := ⟨3, ![2, 192, 256]⟩
abbrev S2x256x192 : Shape := ⟨3, ![2, 256, 192]⟩
abbrev S2x192x128 : Shape := ⟨3, ![2, 192, 128]⟩
abbrev S2x128x192 : Shape := ⟨3, ![2, 128, 192]⟩
abbrev S2x192x64 : Shape := ⟨3, ![2, 192, 64]⟩
abbrev S2x64x192 : Shape := ⟨3, ![2, 64, 192]⟩
abbrev S2x192x32 : Shape := ⟨3, ![2, 192, 32]⟩
abbrev S2x32x192 : Shape := ⟨3, ![2, 32, 192]⟩
abbrev S2x192x16 : Shape := ⟨3, ![2, 192, 16]⟩
abbrev S2x16x192 : Shape := ⟨3, ![2, 16, 192]⟩
abbrev S2x192x8 : Shape := ⟨3, ![2, 192, 8]⟩
abbrev S2x8x192 : Shape := ⟨3, ![2, 8, 192]⟩
abbrev S2x192x4 : Shape := ⟨3, ![2, 192, 4]⟩
abbrev S2x4x192 : Shape := ⟨3, ![2, 4, 192]⟩
abbrev S2x192x2 : Shape := ⟨3, ![2, 192, 2]⟩
abbrev S2x2x192 : Shape := ⟨3, ![2, 2, 192]⟩
abbrev S2x192x1 : Shape := ⟨3, ![2, 192, 1]⟩
abbrev S2x1x192 : Shape := ⟨3, ![2, 1, 192]⟩
abbrev S2x2048 : Shape := ⟨2, ![2, 2048]⟩
abbrev S2x2048x2048 : Shape := ⟨3, ![2, 2048, 2048]⟩
abbrev S2048x2048 : Shape := ⟨2, ![2048, 2048]⟩
abbrev S1x2048x2048 : Shape := ⟨3, ![1, 2048, 2048]⟩
abbrev S2x2048x4 : Shape := ⟨3, ![2, 2048, 4]⟩
abbrev S2 : Shape := ⟨1, ![2]⟩
abbrev S2x1x1 : Shape := ⟨3, ![2, 1, 1]⟩
abbrev S1x2048x1 : Shape := ⟨3, ![1, 2048, 1]⟩
abbrev S2x2048x4x1 : Shape := ⟨4, ![2, 2048, 4, 1]⟩
abbrev S2x2048x4x3 : Shape := ⟨4, ![2, 2048, 4, 3]⟩
abbrev S2x2048x1024 : Shape := ⟨3, ![2, 2048, 1024]⟩
abbrev S2048x1024 : Shape := ⟨2, ![2048, 1024]⟩
abbrev S1x2048x1024 : Shape := ⟨3, ![1, 2048, 1024]⟩
abbrev S2x2048x512 : Shape := ⟨3, ![2, 2048, 512]⟩
abbrev S2048x512 : Shape := ⟨2, ![2048, 512]⟩
abbrev S1x2048x512 : Shape := ⟨3, ![1, 2048, 512]⟩
abbrev S2x2048x256 : Shape := ⟨3, ![2, 2048, 256]⟩
abbrev S2048x256 : Shape := ⟨2, ![2048, 256]⟩
abbrev S1x2048x256 : Shape := ⟨3, ![1, 2048, 256]⟩
abbrev S2x2048x128 : Shape := ⟨3, ![2, 2048, 128]⟩
abbrev S2048x128 : Shape := ⟨2, ![2048, 128]⟩
abbrev S1x2048x128 : Shape := ⟨3, ![1, 2048, 128]⟩
abbrev S2x2048x64 : Shape := ⟨3, ![2, 2048, 64]⟩
abbrev S2048x64 : Shape := ⟨2, ![2048, 64]⟩
abbrev S1x2048x64 : Shape := ⟨3, ![1, 2048, 64]⟩
abbrev S2x2048x32 : Shape := ⟨3, ![2, 2048, 32]⟩
abbrev S2048x32 : Shape := ⟨2, ![2048, 32]⟩
abbrev S1x2048x32 : Shape := ⟨3, ![1, 2048, 32]⟩
abbrev S2x2048x16 : Shape := ⟨3, ![2, 2048, 16]⟩
abbrev S2048x16 : Shape := ⟨2, ![2048, 16]⟩
abbrev S1x2048x16 : Shape := ⟨3, ![1, 2048, 16]⟩
abbrev S2x2048x8 : Shape := ⟨3, ![2, 2048, 8]⟩
abbrev S2048x8 : Shape := ⟨2, ![2048, 8]⟩
abbrev S1x2048x8 : Shape := ⟨3, ![1, 2048, 8]⟩
abbrev S2048x4 : Shape := ⟨2, ![2048, 4]⟩
abbrev S1x2048x4 : Shape := ⟨3, ![1, 2048, 4]⟩
abbrev S2x2048x2 : Shape := ⟨3, ![2, 2048, 2]⟩
abbrev S2048x2 : Shape := ⟨2, ![2048, 2]⟩
abbrev S1x2048x2 : Shape := ⟨3, ![1, 2048, 2]⟩
abbrev S2048x1 : Shape := ⟨2, ![2048, 1]⟩
abbrev S2x2048x1x192 : Shape := ⟨4, ![2, 2048, 1, 192]⟩
abbrev S2x2048x12x192 : Shape := ⟨4, ![2, 2048, 12, 192]⟩
abbrev S12 : Shape := ⟨1, ![12]⟩
abbrev S1x1x12 : Shape := ⟨3, ![1, 1, 12]⟩
abbrev S2x2048x12 : Shape := ⟨3, ![2, 2048, 12]⟩
abbrev S2x2048x12x1 : Shape := ⟨4, ![2, 2048, 12, 1]⟩
abbrev S1x1x2048 : Shape := ⟨3, ![1, 1, 2048]⟩

abbrev nBuf : Space → Nat
  | .hbm => 840
  | .vmem => 0
  | .smem => 0
  | _ => 0

abbrev hbmTy0_0 (i : Nat) : BufTy := match i % 128 with
  | 0 => ⟨S2x2048x192, .f32⟩
  | 1 => ⟨S2x2048x1, .f32⟩
  | 2 => ⟨S2x2048x192, .f32⟩
  | 3 => ⟨S2x192x4096, .f32⟩
  | 4 => ⟨S2x4096x192, .f32⟩
  | 5 => ⟨S192x2048, .f32⟩
  | 6 => ⟨S2048, .f32⟩
  | 7 => ⟨S_, .f32⟩
  | 8 => ⟨S2x192x2048, .f32⟩
  | 9 => ⟨S2x2048x192, .f32⟩
  | 10 => ⟨S2x2048x192, .f32⟩
  | 11 => ⟨S2x192x1024, .f32⟩
  | 12 => ⟨S2x1024x192, .f32⟩
  | 13 => ⟨S2x1024x192, .f32⟩
  | 14 => ⟨S2x192x512, .f32⟩
  | 15 => ⟨S2x512x192, .f32⟩
  | 16 => ⟨S2x512x192, .f32⟩
  | 17 => ⟨S2x192x256, .f32⟩
  | 18 => ⟨S2x256x192, .f32⟩
  | 19 => ⟨S2x256x192, .f32⟩
  | 20 => ⟨S2x192x128, .f32⟩
  | 21 => ⟨S2x128x192, .f32⟩
  | 22 => ⟨S2x128x192, .f32⟩
  | 23 => ⟨S2x192x64, .f32⟩
  | 24 => ⟨S2x64x192, .f32⟩
  | 25 => ⟨S2x64x192, .f32⟩
  | 26 => ⟨S2x192x32, .f32⟩
  | 27 => ⟨S2x32x192, .f32⟩
  | 28 => ⟨S2x32x192, .f32⟩
  | 29 => ⟨S2x192x16, .f32⟩
  | 30 => ⟨S2x16x192, .f32⟩
  | 31 => ⟨S2x16x192, .f32⟩
  | 32 => ⟨S2x192x8, .f32⟩
  | 33 => ⟨S2x8x192, .f32⟩
  | 34 => ⟨S2x8x192, .f32⟩
  | 35 => ⟨S2x192x4, .f32⟩
  | 36 => ⟨S2x4x192, .f32⟩
  | 37 => ⟨S2x4x192, .f32⟩
  | 38 => ⟨S2x192x2, .f32⟩
  | 39 => ⟨S2x2x192, .f32⟩
  | 40 => ⟨S2x2x192, .f32⟩
  | 41 => ⟨S2x192x1, .f32⟩
  | 42 => ⟨S2x1x192, .f32⟩
  | 43 => ⟨S2x1x192, .f32⟩
  | 44 => ⟨S2x2048, .f32⟩
  | 45 => ⟨S2x2048x2048, .f32⟩
  | 46 => ⟨S_, .f32⟩
  | 47 => ⟨S_, .f32⟩
  | 48 => ⟨S2x2048x2048, .f32⟩
  | 49 => ⟨S2x2048x2048, .f32⟩
  | 50 => ⟨S_, .f32⟩
  | 51 => ⟨S2048x2048, .f32⟩
  | 52 => ⟨S2048x2048, .i32⟩
  | 53 => ⟨S_, .i32⟩
  | 54 => ⟨S2048x2048, .i32⟩
  | 55 => ⟨S2048x2048, .i32⟩
  | 56 => ⟨S2048x2048, .i32⟩
  | 57 => ⟨S2048x2048, .i1⟩
  | 58 => ⟨S_, .f32⟩
  | 59 => ⟨S2048x2048, .f32⟩
  | 60 => ⟨S2048x2048, .f32⟩
  | 61 => ⟨S1x2048x2048, .f32⟩
  | 62 => ⟨S2x2048x2048, .f32⟩
  | 63 => ⟨S2x2048x2048, .f32⟩
  | 64 => ⟨S2x2048x4, .f32⟩
  | 65 => ⟨S2x2048x4, .i32⟩
  | 66 => ⟨S_, .f32⟩
  | 67 => ⟨S2x2048x2048, .f32⟩
  | 68 => ⟨S2, .i32⟩
  | 69 => ⟨S2x1x1, .i32⟩
  | 70 => ⟨S2048, .i32⟩
  | 71 => ⟨S1x2048x1, .i32⟩
  | 72 => ⟨S_, .i32⟩
  | 73 => ⟨S2x1x1, .i32⟩
  | 74 => ⟨S2x1x1, .i1⟩
  | 75 => ⟨S_, .i32⟩
  | 76 => ⟨S2x1x1, .i32⟩
  | 77 => ⟨S2x1x1, .i32⟩
  | 78 => ⟨S2x1x1, .i32⟩
  | 79 => ⟨S_, .i32⟩
  | 80 => ⟨S1x2048x1, .i32⟩
  | 81 => ⟨S1x2048x1, .i1⟩
  | 82 => ⟨S_, .i32⟩
  | 83 => ⟨S1x2048x1, .i32⟩
  | 84 => ⟨S1x2048x1, .i32⟩
  | 85 => ⟨S1x2048x1, .i32⟩
  | 86 => ⟨S_, .i32⟩
  | 87 => ⟨S2x2048x4, .i32⟩
  | 88 => ⟨S2x2048x4, .i1⟩
  | 89 => ⟨S_, .i32⟩
  | 90 => ⟨S2x2048x4, .i32⟩
  | 91 => ⟨S2x2048x4, .i32⟩
  | 92 => ⟨S2x2048x4, .i32⟩
  | 93 => ⟨S2x2048x4, .i32⟩
  | 94 => ⟨S2x2048x4, .i32⟩
  | 95 => ⟨S2x2048x4x1, .i32⟩
  | 96 => ⟨S2x2048x4x1, .i32⟩
  | 97 => ⟨S2x2048x4x1, .i32⟩
  | 98 => ⟨S2x2048x4x3, .i32⟩
  | 99 => ⟨S2x2048x2048, .f32⟩
  | 100 => ⟨S_, .f32⟩
  | 101 => ⟨S2x2048, .f32⟩
  | 102 => ⟨S_, .f32⟩
  | 103 => ⟨S2x2048, .f32⟩
  | 104 => ⟨S2x2048, .f32⟩
  | 105 => ⟨S2x2048x1, .f32⟩
  | 106 => ⟨S2x2048x2048, .f32⟩
  | 107 => ⟨S2x2048x2048, .f32⟩
  | 108 => ⟨S2x2048x2048, .f32⟩
  | 109 => ⟨S_, .f32⟩
  | 110 => ⟨S2x2048, .f32⟩
  | 111 => ⟨S2x2048x1, .f32⟩
  | 112 => ⟨S2x2048x2048, .f32⟩
  | 113 => ⟨S2x2048x2048, .f32⟩
  | 114 => ⟨S2x2048x192, .f32⟩
  | 115 => ⟨S2x2048x1024, .f32⟩
  | 116 => ⟨S_, .f32⟩
  | 117 => ⟨S_, .f32⟩
  | 118 => ⟨S2x2048x1024, .f32⟩
  | 119 => ⟨S2x2048x1024, .f32⟩
  | 120 => ⟨S_, .f32⟩
  | 121 => ⟨S2048x1024, .f32⟩
  | 122 => ⟨S2048x1024, .i32⟩
  | 123 => ⟨S_, .i32⟩
  | 124 => ⟨S2048x1024, .i32⟩
  | 125 => ⟨S2048x1024, .i32⟩
  | 126 => ⟨S2048x1024, .i32⟩
  | 127 => ⟨S2048x1024, .i1⟩
  | _ => ⟨S2x2048x192, .f32⟩

abbrev hbmTy0_1 (i : Nat) : BufTy := match i % 128 with
  | 0 => ⟨S_, .f32⟩
  | 1 => ⟨S2048x1024, .f32⟩
  | 2 => ⟨S2048x1024, .f32⟩
  | 3 => ⟨S1x2048x1024, .f32⟩
  | 4 => ⟨S2x2048x1024, .f32⟩
  | 5 => ⟨S2x2048x1024, .f32⟩
  | 6 => ⟨S2x2048x4, .f32⟩
  | 7 => ⟨S2x2048x4, .i32⟩
  | 8 => ⟨S_, .f32⟩
  | 9 => ⟨S2x2048x1024, .f32⟩
  | 10 => ⟨S2, .i32⟩
  | 11 => ⟨S2x1x1, .i32⟩
  | 12 => ⟨S2048, .i32⟩
  | 13 => ⟨S1x2048x1, .i32⟩
  | 14 => ⟨S_, .i32⟩
  | 15 => ⟨S2x1x1, .i32⟩
  | 16 => ⟨S2x1x1, .i1⟩
  | 17 => ⟨S_, .i32⟩
  | 18 => ⟨S2x1x1, .i32⟩
  | 19 => ⟨S2x1x1, .i32⟩
  | 20 => ⟨S2x1x1, .i32⟩
  | 21 => ⟨S_, .i32⟩
  | 22 => ⟨S1x2048x1, .i32⟩
  | 23 => ⟨S1x2048x1, .i1⟩
  | 24 => ⟨S_, .i32⟩
  | 25 => ⟨S1x2048x1, .i32⟩
  | 26 => ⟨S1x2048x1, .i32⟩
  | 27 => ⟨S1x2048x1, .i32⟩
  | 28 => ⟨S_, .i32⟩
  | 29 => ⟨S2x2048x4, .i32⟩
  | 30 => ⟨S2x2048x4, .i1⟩
  | 31 => ⟨S_, .i32⟩
  | 32 => ⟨S2x2048x4, .i32⟩
  | 33 => ⟨S2x2048x4, .i32⟩
  | 34 => ⟨S2x2048x4, .i32⟩
  | 35 => ⟨S2x2048x4, .i32⟩
  | 36 => ⟨S2x2048x4, .i32⟩
  | 37 => ⟨S2x2048x4x1, .i32⟩
  | 38 => ⟨S2x2048x4x1, .i32⟩
  | 39 => ⟨S2x2048x4x1, .i32⟩
  | 40 => ⟨S2x2048x4x3, .i32⟩
  | 41 => ⟨S2x2048x1024, .f32⟩
  | 42 => ⟨S_, .f32⟩
  | 43 => ⟨S2x2048, .f32⟩
  | 44 => ⟨S_, .f32⟩
  | 45 => ⟨S2x2048, .f32⟩
  | 46 => ⟨S2x2048, .f32⟩
  | 47 => ⟨S2x2048x1, .f32⟩
  | 48 => ⟨S2x2048x1024, .f32⟩
  | 49 => ⟨S2x2048x1024, .f32⟩
  | 50 => ⟨S2x2048x1024, .f32⟩
  | 51 => ⟨S_, .f32⟩
  | 52 => ⟨S2x2048, .f32⟩
  | 53 => ⟨S2x2048x1, .f32⟩
  | 54 => ⟨S2x2048x1024, .f32⟩
  | 55 => ⟨S2x2048x1024, .f32⟩
  | 56 => ⟨S2x2048x192, .f32⟩
  | 57 => ⟨S2x2048x512, .f32⟩
  | 58 => ⟨S_, .f32⟩
  | 59 => ⟨S_, .f32⟩
  | 60 => ⟨S2x2048x512, .f32⟩
  | 61 => ⟨S2x2048x512, .f32⟩
  | 62 => ⟨S_, .f32⟩
  | 63 => ⟨S2048x512, .f32⟩
  | 64 => ⟨S2048x512, .i32⟩
  | 65 => ⟨S_, .i32⟩
  | 66 => ⟨S2048x512, .i32⟩
  | 67 => ⟨S2048x512, .i32⟩
  | 68 => ⟨S2048x512, .i32⟩
  | 69 => ⟨S2048x512, .i1⟩
  | 70 => ⟨S_, .f32⟩
  | 71 => ⟨S2048x512, .f32⟩
  | 72 => ⟨S2048x512, .f32⟩
  | 73 => ⟨S1x2048x512, .f32⟩
  | 74 => ⟨S2x2048x512, .f32⟩
  | 75 => ⟨S2x2048x512, .f32⟩
  | 76 => ⟨S2x2048x4, .f32⟩
  | 77 => ⟨S2x2048x4, .i32⟩
  | 78 => ⟨S_, .f32⟩
  | 79 => ⟨S2x2048x512, .f32⟩
  | 80 => ⟨S2, .i32⟩
  | 81 => ⟨S2x1x1, .i32⟩
  | 82 => ⟨S2048, .i32⟩
  | 83 => ⟨S1x2048x1, .i32⟩
  | 84 => ⟨S_, .i32⟩
  | 85 => ⟨S2x1x1, .i32⟩
  | 86 => ⟨S2x1x1, .i1⟩
  | 87 => ⟨S_, .i32⟩
  | 88 => ⟨S2x1x1, .i32⟩
  | 89 => ⟨S2x1x1, .i32⟩
  | 90 => ⟨S2x1x1, .i32⟩
  | 91 => ⟨S_, .i32⟩
  | 92 => ⟨S1x2048x1, .i32⟩
  | 93 => ⟨S1x2048x1, .i1⟩
  | 94 => ⟨S_, .i32⟩
  | 95 => ⟨S1x2048x1, .i32⟩
  | 96 => ⟨S1x2048x1, .i32⟩
  | 97 => ⟨S1x2048x1, .i32⟩
  | 98 => ⟨S_, .i32⟩
  | 99 => ⟨S2x2048x4, .i32⟩
  | 100 => ⟨S2x2048x4, .i1⟩
  | 101 => ⟨S_, .i32⟩
  | 102 => ⟨S2x2048x4, .i32⟩
  | 103 => ⟨S2x2048x4, .i32⟩
  | 104 => ⟨S2x2048x4, .i32⟩
  | 105 => ⟨S2x2048x4, .i32⟩
  | 106 => ⟨S2x2048x4, .i32⟩
  | 107 => ⟨S2x2048x4x1, .i32⟩
  | 108 => ⟨S2x2048x4x1, .i32⟩
  | 109 => ⟨S2x2048x4x1, .i32⟩
  | 110 => ⟨S2x2048x4x3, .i32⟩
  | 111 => ⟨S2x2048x512, .f32⟩
  | 112 => ⟨S_, .f32⟩
  | 113 => ⟨S2x2048, .f32⟩
  | 114 => ⟨S_, .f32⟩
  | 115 => ⟨S2x2048, .f32⟩
  | 116 => ⟨S2x2048, .f32⟩
  | 117 => ⟨S2x2048x1, .f32⟩
  | 118 => ⟨S2x2048x512, .f32⟩
  | 119 => ⟨S2x2048x512, .f32⟩
  | 120 => ⟨S2x2048x512, .f32⟩
  | 121 => ⟨S_, .f32⟩
  | 122 => ⟨S2x2048, .f32⟩
  | 123 => ⟨S2x2048x1, .f32⟩
  | 124 => ⟨S2x2048x512, .f32⟩
  | 125 => ⟨S2x2048x512, .f32⟩
  | 126 => ⟨S2x2048x192, .f32⟩
  | 127 => ⟨S2x2048x256, .f32⟩
  | _ => ⟨S2x2048x192, .f32⟩

abbrev hbmTy0_2 (i : Nat) : BufTy := match i % 128 with
  | 0 => ⟨S_, .f32⟩
  | 1 => ⟨S_, .f32⟩
  | 2 => ⟨S2x2048x256, .f32⟩
  | 3 => ⟨S2x2048x256, .f32⟩
  | 4 => ⟨S_, .f32⟩
  | 5 => ⟨S2048x256, .f32⟩
  | 6 => ⟨S2048x256, .i32⟩
  | 7 => ⟨S_, .i32⟩
  | 8 => ⟨S2048x256, .i32⟩
  | 9 => ⟨S2048x256, .i32⟩
  | 10 => ⟨S2048x256, .i32⟩
  | 11 => ⟨S2048x256, .i1⟩
  | 12 => ⟨S_, .f32⟩
  | 13 => ⟨S2048x256, .f32⟩
  | 14 => ⟨S2048x256, .f32⟩
  | 15 => ⟨S1x2048x256, .f32⟩
  | 16 => ⟨S2x2048x256, .f32⟩
  | 17 => ⟨S2x2048x256, .f32⟩
  | 18 => ⟨S2x2048x4, .f32⟩
  | 19 => ⟨S2x2048x4, .i32⟩
  | 20 => ⟨S_, .f32⟩
  | 21 => ⟨S2x2048x256, .f32⟩
  | 22 => ⟨S2, .i32⟩
  | 23 => ⟨S2x1x1, .i32⟩
  | 24 => ⟨S2048, .i32⟩
  | 25 => ⟨S1x2048x1, .i32⟩
  | 26 => ⟨S_, .i32⟩
  | 27 => ⟨S2x1x1, .i32⟩
  | 28 => ⟨S2x1x1, .i1⟩
  | 29 => ⟨S_, .i32⟩
  | 30 => ⟨S2x1x1, .i32⟩
  | 31 => ⟨S2x1x1, .i32⟩
  | 32 => ⟨S2x1x1, .i32⟩
  | 33 => ⟨S_, .i32⟩
  | 34 => ⟨S1x2048x1, .i32⟩
  | 35 => ⟨S1x2048x1, .i1⟩
  | 36 => ⟨S_, .i32⟩
  | 37 => ⟨S1x2048x1, .i32⟩
  | 38 => ⟨S1x2048x1, .i32⟩
  | 39 => ⟨S1x2048x1, .i32⟩
  | 40 => ⟨S_, .i32⟩
  | 41 => ⟨S2x2048x4, .i32⟩
  | 42 => ⟨S2x2048x4, .i1⟩
  | 43 => ⟨S_, .i32⟩
  | 44 => ⟨S2x2048x4, .i32⟩
  | 45 => ⟨S2x2048x4, .i32⟩
  | 46 => ⟨S2x2048x4, .i32⟩
  | 47 => ⟨S2x2048x4, .i32⟩
  | 48 => ⟨S2x2048x4, .i32⟩
  | 49 => ⟨S2x2048x4x1, .i32⟩
  | 50 => ⟨S2x2048x4x1, .i32⟩
  | 51 => ⟨S2x2048x4x1, .i32⟩
  | 52 => ⟨S2x2048x4x3, .i32⟩
  | 53 => ⟨S2x2048x256, .f32⟩
  | 54 => ⟨S_, .f32⟩
  | 55 => ⟨S2x2048, .f32⟩
  | 56 => ⟨S_, .f32⟩
  | 57 => ⟨S2x2048, .f32⟩
  | 58 => ⟨S2x2048, .f32⟩
  | 59 => ⟨S2x2048x1, .f32⟩
  | 60 => ⟨S2x2048x256, .f32⟩
  | 61 => ⟨S2x2048x256, .f32⟩
  | 62 => ⟨S2x2048x256, .f32⟩
  | 63 => ⟨S_, .f32⟩
  | 64 => ⟨S2x2048, .f32⟩
  | 65 => ⟨S2x2048x1, .f32⟩
  | 66 => ⟨S2x2048x256, .f32⟩
  | 67 => ⟨S2x2048x256, .f32⟩
  | 68 => ⟨S2x2048x192, .f32⟩
  | 69 => ⟨S2x2048x128, .f32⟩
  | 70 => ⟨S_, .f32⟩
  | 71 => ⟨S_, .f32⟩
  | 72 => ⟨S2x2048x128, .f32⟩
  | 73 => ⟨S2x2048x128, .f32⟩
  | 74 => ⟨S_, .f32⟩
  | 75 => ⟨S2048x128, .f32⟩
  | 76 => ⟨S2048x128, .i32⟩
  | 77 => ⟨S_, .i32⟩
  | 78 => ⟨S2048x128, .i32⟩
  | 79 => ⟨S2048x128, .i32⟩
  | 80 => ⟨S2048x128, .i32⟩
  | 81 => ⟨S2048x128, .i1⟩
  | 82 => ⟨S_, .f32⟩
  | 83 => ⟨S2048x128, .f32⟩
  | 84 => ⟨S2048x128, .f32⟩
  | 85 => ⟨S1x2048x128, .f32⟩
  | 86 => ⟨S2x2048x128, .f32⟩
  | 87 => ⟨S2x2048x128, .f32⟩
  | 88 => ⟨S2x2048x4, .f32⟩
  | 89 => ⟨S2x2048x4, .i32⟩
  | 90 => ⟨S_, .f32⟩
  | 91 => ⟨S2x2048x128, .f32⟩
  | 92 => ⟨S2, .i32⟩
  | 93 => ⟨S2x1x1, .i32⟩
  | 94 => ⟨S2048, .i32⟩
  | 95 => ⟨S1x2048x1, .i32⟩
  | 96 => ⟨S_, .i32⟩
  | 97 => ⟨S2x1x1, .i32⟩
  | 98 => ⟨S2x1x1, .i1⟩
  | 99 => ⟨S_, .i32⟩
  | 100 => ⟨S2x1x1, .i32⟩
  | 101 => ⟨S2x1x1, .i32⟩
  | 102 => ⟨S2x1x1, .i32⟩
  | 103 => ⟨S_, .i32⟩
  | 104 => ⟨S1x2048x1, .i32⟩
  | 105 => ⟨S1x2048x1, .i1⟩
  | 106 => ⟨S_, .i32⟩
  | 107 => ⟨S1x2048x1, .i32⟩
  | 108 => ⟨S1x2048x1, .i32⟩
  | 109 => ⟨S1x2048x1, .i32⟩
  | 110 => ⟨S_, .i32⟩
  | 111 => ⟨S2x2048x4, .i32⟩
  | 112 => ⟨S2x2048x4, .i1⟩
  | 113 => ⟨S_, .i32⟩
  | 114 => ⟨S2x2048x4, .i32⟩
  | 115 => ⟨S2x2048x4, .i32⟩
  | 116 => ⟨S2x2048x4, .i32⟩
  | 117 => ⟨S2x2048x4, .i32⟩
  | 118 => ⟨S2x2048x4, .i32⟩
  | 119 => ⟨S2x2048x4x1, .i32⟩
  | 120 => ⟨S2x2048x4x1, .i32⟩
  | 121 => ⟨S2x2048x4x1, .i32⟩
  | 122 => ⟨S2x2048x4x3, .i32⟩
  | 123 => ⟨S2x2048x128, .f32⟩
  | 124 => ⟨S_, .f32⟩
  | 125 => ⟨S2x2048, .f32⟩
  | 126 => ⟨S_, .f32⟩
  | 127 => ⟨S2x2048, .f32⟩
  | _ => ⟨S2x2048x192, .f32⟩

abbrev hbmTy0_3 (i : Nat) : BufTy := match i % 128 with
  | 0 => ⟨S2x2048, .f32⟩
  | 1 => ⟨S2x2048x1, .f32⟩
  | 2 => ⟨S2x2048x128, .f32⟩
  | 3 => ⟨S2x2048x128, .f32⟩
  | 4 => ⟨S2x2048x128, .f32⟩
  | 5 => ⟨S_, .f32⟩
  | 6 => ⟨S2x2048, .f32⟩
  | 7 => ⟨S2x2048x1, .f32⟩
  | 8 => ⟨S2x2048x128, .f32⟩
  | 9 => ⟨S2x2048x128, .f32⟩
  | 10 => ⟨S2x2048x192, .f32⟩
  | 11 => ⟨S2x2048x64, .f32⟩
  | 12 => ⟨S_, .f32⟩
  | 13 => ⟨S_, .f32⟩
  | 14 => ⟨S2x2048x64, .f32⟩
  | 15 => ⟨S2x2048x64, .f32⟩
  | 16 => ⟨S_, .f32⟩
  | 17 => ⟨S2048x64, .f32⟩
  | 18 => ⟨S2048x64, .i32⟩
  | 19 => ⟨S_, .i32⟩
  | 20 => ⟨S2048x64, .i32⟩
  | 21 => ⟨S2048x64, .i32⟩
  | 22 => ⟨S2048x64, .i32⟩
  | 23 => ⟨S2048x64, .i1⟩
  | 24 => ⟨S_, .f32⟩
  | 25 => ⟨S2048x64, .f32⟩
  | 26 => ⟨S2048x64, .f32⟩
  | 27 => ⟨S1x2048x64, .f32⟩
  | 28 => ⟨S2x2048x64, .f32⟩
  | 29 => ⟨S2x2048x64, .f32⟩
  | 30 => ⟨S2x2048x4, .f32⟩
  | 31 => ⟨S2x2048x4, .i32⟩
  | 32 => ⟨S_, .f32⟩
  | 33 => ⟨S2x2048x64, .f32⟩
  | 34 => ⟨S2, .i32⟩
  | 35 => ⟨S2x1x1, .i32⟩
  | 36 => ⟨S2048, .i32⟩
  | 37 => ⟨S1x2048x1, .i32⟩
  | 38 => ⟨S_, .i32⟩
  | 39 => ⟨S2x1x1, .i32⟩
  | 40 => ⟨S2x1x1, .i1⟩
  | 41 => ⟨S_, .i32⟩
  | 42 => ⟨S2x1x1, .i32⟩
  | 43 => ⟨S2x1x1, .i32⟩
  | 44 => ⟨S2x1x1, .i32⟩
  | 45 => ⟨S_, .i32⟩
  | 46 => ⟨S1x2048x1, .i32⟩
  | 47 => ⟨S1x2048x1, .i1⟩
  | 48 => ⟨S_, .i32⟩
  | 49 => ⟨S1x2048x1, .i32⟩
  | 50 => ⟨S1x2048x1, .i32⟩
  | 51 => ⟨S1x2048x1, .i32⟩
  | 52 => ⟨S_, .i32⟩
  | 53 => ⟨S2x2048x4, .i32⟩
  | 54 => ⟨S2x2048x4, .i1⟩
  | 55 => ⟨S_, .i32⟩
  | 56 => ⟨S2x2048x4, .i32⟩
  | 57 => ⟨S2x2048x4, .i32⟩
  | 58 => ⟨S2x2048x4, .i32⟩
  | 59 => ⟨S2x2048x4, .i32⟩
  | 60 => ⟨S2x2048x4, .i32⟩
  | 61 => ⟨S2x2048x4x1, .i32⟩
  | 62 => ⟨S2x2048x4x1, .i32⟩
  | 63 => ⟨S2x2048x4x1, .i32⟩
  | 64 => ⟨S2x2048x4x3, .i32⟩
  | 65 => ⟨S2x2048x64, .f32⟩
  | 66 => ⟨S_, .f32⟩
  | 67 => ⟨S2x2048, .f32⟩
  | 68 => ⟨S_, .f32⟩
  | 69 => ⟨S2x2048, .f32⟩
  | 70 => ⟨S2x2048, .f32⟩
  | 71 => ⟨S2x2048x1, .f32⟩
  | 72 => ⟨S2x2048x64, .f32⟩
  | 73 => ⟨S2x2048x64, .f32⟩
  | 74 => ⟨S2x2048x64, .f32⟩
  | 75 => ⟨S_, .f32⟩
  | 76 => ⟨S2x2048, .f32⟩
  | 77 => ⟨S2x2048x1, .f32⟩
  | 78 => ⟨S2x2048x64, .f32⟩
  | 79 => ⟨S2x2048x64, .f32⟩
  | 80 => ⟨S2x2048x192, .f32⟩
  | 81 => ⟨S2x2048x32, .f32⟩
  | 82 => ⟨S_, .f32⟩
  | 83 => ⟨S_, .f32⟩
  | 84 => ⟨S2x2048x32, .f32⟩
  | 85 => ⟨S2x2048x32, .f32⟩
  | 86 => ⟨S_, .f32⟩
  | 87 => ⟨S2048x32, .f32⟩
  | 88 => ⟨S2048x32, .i32⟩
  | 89 => ⟨S_, .i32⟩
  | 90 => ⟨S2048x32, .i32⟩
  | 91 => ⟨S2048x32, .i32⟩
  | 92 => ⟨S2048x32, .i32⟩
  | 93 => ⟨S2048x32, .i1⟩
  | 94 => ⟨S_, .f32⟩
  | 95 => ⟨S2048x32, .f32⟩
  | 96 => ⟨S2048x32, .f32⟩
  | 97 => ⟨S1x2048x32, .f32⟩
  | 98 => ⟨S2x2048x32, .f32⟩
  | 99 => ⟨S2x2048x32, .f32⟩
  | 100 => ⟨S2x2048x4, .f32⟩
  | 101 => ⟨S2x2048x4, .i32⟩
  | 102 => ⟨S_, .f32⟩
  | 103 => ⟨S2x2048x32, .f32⟩
  | 104 => ⟨S2, .i32⟩
  | 105 => ⟨S2x1x1, .i32⟩
  | 106 => ⟨S2048, .i32⟩
  | 107 => ⟨S1x2048x1, .i32⟩
  | 108 => ⟨S_, .i32⟩
  | 109 => ⟨S2x1x1, .i32⟩
  | 110 => ⟨S2x1x1, .i1⟩
  | 111 => ⟨S_, .i32⟩
  | 112 => ⟨S2x1x1, .i32⟩
  | 113 => ⟨S2x1x1, .i32⟩
  | 114 => ⟨S2x1x1, .i32⟩
  | 115 => ⟨S_, .i32⟩
  | 116 => ⟨S1x2048x1, .i32⟩
  | 117 => ⟨S1x2048x1, .i1⟩
  | 118 => ⟨S_, .i32⟩
  | 119 => ⟨S1x2048x1, .i32⟩
  | 120 => ⟨S1x2048x1, .i32⟩
  | 121 => ⟨S1x2048x1, .i32⟩
  | 122 => ⟨S_, .i32⟩
  | 123 => ⟨S2x2048x4, .i32⟩
  | 124 => ⟨S2x2048x4, .i1⟩
  | 125 => ⟨S_, .i32⟩
  | 126 => ⟨S2x2048x4, .i32⟩
  | 127 => ⟨S2x2048x4, .i32⟩
  | _ => ⟨S2x2048x192, .f32⟩

abbrev hbmTy0_4 (i : Nat) : BufTy := match i % 128 with
  | 0 => ⟨S2x2048x4, .i32⟩
  | 1 => ⟨S2x2048x4, .i32⟩
  | 2 => ⟨S2x2048x4, .i32⟩
  | 3 => ⟨S2x2048x4x1, .i32⟩
  | 4 => ⟨S2x2048x4x1, .i32⟩
  | 5 => ⟨S2x2048x4x1, .i32⟩
  | 6 => ⟨S2x2048x4x3, .i32⟩
  | 7 => ⟨S2x2048x32, .f32⟩
  | 8 => ⟨S_, .f32⟩
  | 9 => ⟨S2x2048, .f32⟩
  | 10 => ⟨S_, .f32⟩
  | 11 => ⟨S2x2048, .f32⟩
  | 12 => ⟨S2x2048, .f32⟩
  | 13 => ⟨S2x2048x1, .f32⟩
  | 14 => ⟨S2x2048x32, .f32⟩
  | 15 => ⟨S2x2048x32, .f32⟩
  | 16 => ⟨S2x2048x32, .f32⟩
  | 17 => ⟨S_, .f32⟩
  | 18 => ⟨S2x2048, .f32⟩
  | 19 => ⟨S2x2048x1, .f32⟩
  | 20 => ⟨S2x2048x32, .f32⟩
  | 21 => ⟨S2x2048x32, .f32⟩
  | 22 => ⟨S2x2048x192, .f32⟩
  | 23 => ⟨S2x2048x16, .f32⟩
  | 24 => ⟨S_, .f32⟩
  | 25 => ⟨S_, .f32⟩
  | 26 => ⟨S2x2048x16, .f32⟩
  | 27 => ⟨S2x2048x16, .f32⟩
  | 28 => ⟨S_, .f32⟩
  | 29 => ⟨S2048x16, .f32⟩
  | 30 => ⟨S2048x16, .i32⟩
  | 31 => ⟨S_, .i32⟩
  | 32 => ⟨S2048x16, .i32⟩
  | 33 => ⟨S2048x16, .i32⟩
  | 34 => ⟨S2048x16, .i32⟩
  | 35 => ⟨S2048x16, .i1⟩
  | 36 => ⟨S_, .f32⟩
  | 37 => ⟨S2048x16, .f32⟩
  | 38 => ⟨S2048x16, .f32⟩
  | 39 => ⟨S1x2048x16, .f32⟩
  | 40 => ⟨S2x2048x16, .f32⟩
  | 41 => ⟨S2x2048x16, .f32⟩
  | 42 => ⟨S2x2048x4, .f32⟩
  | 43 => ⟨S2x2048x4, .i32⟩
  | 44 => ⟨S_, .f32⟩
  | 45 => ⟨S2x2048x16, .f32⟩
  | 46 => ⟨S2, .i32⟩
  | 47 => ⟨S2x1x1, .i32⟩
  | 48 => ⟨S2048, .i32⟩
  | 49 => ⟨S1x2048x1, .i32⟩
  | 50 => ⟨S_, .i32⟩
  | 51 => ⟨S2x1x1, .i32⟩
  | 52 => ⟨S2x1x1, .i1⟩
  | 53 => ⟨S_, .i32⟩
  | 54 => ⟨S2x1x1, .i32⟩
  | 55 => ⟨S2x1x1, .i32⟩
  | 56 => ⟨S2x1x1, .i32⟩
  | 57 => ⟨S_, .i32⟩
  | 58 => ⟨S1x2048x1, .i32⟩
  | 59 => ⟨S1x2048x1, .i1⟩
  | 60 => ⟨S_, .i32⟩
  | 61 => ⟨S1x2048x1, .i32⟩
  | 62 => ⟨S1x2048x1, .i32⟩
  | 63 => ⟨S1x2048x1, .i32⟩
  | 64 => ⟨S_, .i32⟩
  | 65 => ⟨S2x2048x4, .i32⟩
  | 66 => ⟨S2x2048x4, .i1⟩
  | 67 => ⟨S_, .i32⟩
  | 68 => ⟨S2x2048x4, .i32⟩
  | 69 => ⟨S2x2048x4, .i32⟩
  | 70 => ⟨S2x2048x4, .i32⟩
  | 71 => ⟨S2x2048x4, .i32⟩
  | 72 => ⟨S2x2048x4, .i32⟩
  | 73 => ⟨S2x2048x4x1, .i32⟩
  | 74 => ⟨S2x2048x4x1, .i32⟩
  | 75 => ⟨S2x2048x4x1, .i32⟩
  | 76 => ⟨S2x2048x4x3, .i32⟩
  | 77 => ⟨S2x2048x16, .f32⟩
  | 78 => ⟨S_, .f32⟩
  | 79 => ⟨S2x2048, .f32⟩
  | 80 => ⟨S_, .f32⟩
  | 81 => ⟨S2x2048, .f32⟩
  | 82 => ⟨S2x2048, .f32⟩
  | 83 => ⟨S2x2048x1, .f32⟩
  | 84 => ⟨S2x2048x16, .f32⟩
  | 85 => ⟨S2x2048x16, .f32⟩
  | 86 => ⟨S2x2048x16, .f32⟩
  | 87 => ⟨S_, .f32⟩
  | 88 => ⟨S2x2048, .f32⟩
  | 89 => ⟨S2x2048x1, .f32⟩
  | 90 => ⟨S2x2048x16, .f32⟩
  | 91 => ⟨S2x2048x16, .f32⟩
  | 92 => ⟨S2x2048x192, .f32⟩
  | 93 => ⟨S2x2048x8, .f32⟩
  | 94 => ⟨S_, .f32⟩
  | 95 => ⟨S_, .f32⟩
  | 96 => ⟨S2x2048x8, .f32⟩
  | 97 => ⟨S2x2048x8, .f32⟩
  | 98 => ⟨S_, .f32⟩
  | 99 => ⟨S2048x8, .f32⟩
  | 100 => ⟨S2048x8, .i32⟩
  | 101 => ⟨S_, .i32⟩
  | 102 => ⟨S2048x8, .i32⟩
  | 103 => ⟨S2048x8, .i32⟩
  | 104 => ⟨S2048x8, .i32⟩
  | 105 => ⟨S2048x8, .i1⟩
  | 106 => ⟨S_, .f32⟩
  | 107 => ⟨S2048x8, .f32⟩
  | 108 => ⟨S2048x8, .f32⟩
  | 109 => ⟨S1x2048x8, .f32⟩
  | 110 => ⟨S2x2048x8, .f32⟩
  | 111 => ⟨S2x2048x8, .f32⟩
  | 112 => ⟨S2x2048x4, .f32⟩
  | 113 => ⟨S2x2048x4, .i32⟩
  | 114 => ⟨S_, .f32⟩
  | 115 => ⟨S2x2048x8, .f32⟩
  | 116 => ⟨S2, .i32⟩
  | 117 => ⟨S2x1x1, .i32⟩
  | 118 => ⟨S2048, .i32⟩
  | 119 => ⟨S1x2048x1, .i32⟩
  | 120 => ⟨S_, .i32⟩
  | 121 => ⟨S2x1x1, .i32⟩
  | 122 => ⟨S2x1x1, .i1⟩
  | 123 => ⟨S_, .i32⟩
  | 124 => ⟨S2x1x1, .i32⟩
  | 125 => ⟨S2x1x1, .i32⟩
  | 126 => ⟨S2x1x1, .i32⟩
  | 127 => ⟨S_, .i32⟩
  | _ => ⟨S2x2048x192, .f32⟩

abbrev hbmTy0_5 (i : Nat) : BufTy := match i % 128 with
  | 0 => ⟨S1x2048x1, .i32⟩
  | 1 => ⟨S1x2048x1, .i1⟩
  | 2 => ⟨S_, .i32⟩
  | 3 => ⟨S1x2048x1, .i32⟩
  | 4 => ⟨S1x2048x1, .i32⟩
  | 5 => ⟨S1x2048x1, .i32⟩
  | 6 => ⟨S_, .i32⟩
  | 7 => ⟨S2x2048x4, .i32⟩
  | 8 => ⟨S2x2048x4, .i1⟩
  | 9 => ⟨S_, .i32⟩
  | 10 => ⟨S2x2048x4, .i32⟩
  | 11 => ⟨S2x2048x4, .i32⟩
  | 12 => ⟨S2x2048x4, .i32⟩
  | 13 => ⟨S2x2048x4, .i32⟩
  | 14 => ⟨S2x2048x4, .i32⟩
  | 15 => ⟨S2x2048x4x1, .i32⟩
  | 16 => ⟨S2x2048x4x1, .i32⟩
  | 17 => ⟨S2x2048x4x1, .i32⟩
  | 18 => ⟨S2x2048x4x3, .i32⟩
  | 19 => ⟨S2x2048x8, .f32⟩
  | 20 => ⟨S_, .f32⟩
  | 21 => ⟨S2x2048, .f32⟩
  | 22 => ⟨S_, .f32⟩
  | 23 => ⟨S2x2048, .f32⟩
  | 24 => ⟨S2x2048, .f32⟩
  | 25 => ⟨S2x2048x1, .f32⟩
  | 26 => ⟨S2x2048x8, .f32⟩
  | 27 => ⟨S2x2048x8, .f32⟩
  | 28 => ⟨S2x2048x8, .f32⟩
  | 29 => ⟨S_, .f32⟩
  | 30 => ⟨S2x2048, .f32⟩
  | 31 => ⟨S2x2048x1, .f32⟩
  | 32 => ⟨S2x2048x8, .f32⟩
  | 33 => ⟨S2x2048x8, .f32⟩
  | 34 => ⟨S2x2048x192, .f32⟩
  | 35 => ⟨S2x2048x4, .f32⟩
  | 36 => ⟨S_, .f32⟩
  | 37 => ⟨S_, .f32⟩
  | 38 => ⟨S2x2048x4, .f32⟩
  | 39 => ⟨S2x2048x4, .f32⟩
  | 40 => ⟨S_, .f32⟩
  | 41 => ⟨S2048x4, .f32⟩
  | 42 => ⟨S2048x4, .i32⟩
  | 43 => ⟨S_, .i32⟩
  | 44 => ⟨S2048x4, .i32⟩
  | 45 => ⟨S2048x4, .i32⟩
  | 46 => ⟨S2048x4, .i32⟩
  | 47 => ⟨S2048x4, .i1⟩
  | 48 => ⟨S_, .f32⟩
  | 49 => ⟨S2048x4, .f32⟩
  | 50 => ⟨S2048x4, .f32⟩
  | 51 => ⟨S1x2048x4, .f32⟩
  | 52 => ⟨S2x2048x4, .f32⟩
  | 53 => ⟨S2x2048x4, .f32⟩
  | 54 => ⟨S_, .f32⟩
  | 55 => ⟨S2x2048, .f32⟩
  | 56 => ⟨S_, .f32⟩
  | 57 => ⟨S2x2048, .f32⟩
  | 58 => ⟨S2x2048, .f32⟩
  | 59 => ⟨S2x2048x1, .f32⟩
  | 60 => ⟨S2x2048x4, .f32⟩
  | 61 => ⟨S2x2048x4, .f32⟩
  | 62 => ⟨S2x2048x4, .f32⟩
  | 63 => ⟨S_, .f32⟩
  | 64 => ⟨S2x2048, .f32⟩
  | 65 => ⟨S2x2048x1, .f32⟩
  | 66 => ⟨S2x2048x4, .f32⟩
  | 67 => ⟨S2x2048x4, .f32⟩
  | 68 => ⟨S2x2048x192, .f32⟩
  | 69 => ⟨S2x2048x2, .f32⟩
  | 70 => ⟨S_, .f32⟩
  | 71 => ⟨S_, .f32⟩
  | 72 => ⟨S2x2048x2, .f32⟩
  | 73 => ⟨S2x2048x2, .f32⟩
  | 74 => ⟨S_, .f32⟩
  | 75 => ⟨S2048x2, .f32⟩
  | 76 => ⟨S2048x2, .i32⟩
  | 77 => ⟨S_, .i32⟩
  | 78 => ⟨S2048x2, .i32⟩
  | 79 => ⟨S2048x2, .i32⟩
  | 80 => ⟨S2048x2, .i32⟩
  | 81 => ⟨S2048x2, .i1⟩
  | 82 => ⟨S_, .f32⟩
  | 83 => ⟨S2048x2, .f32⟩
  | 84 => ⟨S2048x2, .f32⟩
  | 85 => ⟨S1x2048x2, .f32⟩
  | 86 => ⟨S2x2048x2, .f32⟩
  | 87 => ⟨S2x2048x2, .f32⟩
  | 88 => ⟨S_, .f32⟩
  | 89 => ⟨S2x2048, .f32⟩
  | 90 => ⟨S_, .f32⟩
  | 91 => ⟨S2x2048, .f32⟩
  | 92 => ⟨S2x2048, .f32⟩
  | 93 => ⟨S2x2048x1, .f32⟩
  | 94 => ⟨S2x2048x2, .f32⟩
  | 95 => ⟨S2x2048x2, .f32⟩
  | 96 => ⟨S2x2048x2, .f32⟩
  | 97 => ⟨S_, .f32⟩
  | 98 => ⟨S2x2048, .f32⟩
  | 99 => ⟨S2x2048x1, .f32⟩
  | 100 => ⟨S2x2048x2, .f32⟩
  | 101 => ⟨S2x2048x2, .f32⟩
  | 102 => ⟨S2x2048x192, .f32⟩
  | 103 => ⟨S2x2048x1, .f32⟩
  | 104 => ⟨S_, .f32⟩
  | 105 => ⟨S_, .f32⟩
  | 106 => ⟨S2x2048x1, .f32⟩
  | 107 => ⟨S2x2048x1, .f32⟩
  | 108 => ⟨S_, .f32⟩
  | 109 => ⟨S2048x1, .f32⟩
  | 110 => ⟨S2048x1, .i32⟩
  | 111 => ⟨S_, .i32⟩
  | 112 => ⟨S2048x1, .i32⟩
  | 113 => ⟨S2048x1, .i32⟩
  | 114 => ⟨S2048x1, .i32⟩
  | 115 => ⟨S2048x1, .i1⟩
  | 116 => ⟨S_, .f32⟩
  | 117 => ⟨S2048x1, .f32⟩
  | 118 => ⟨S2048x1, .f32⟩
  | 119 => ⟨S1x2048x1, .f32⟩
  | 120 => ⟨S2x2048x1, .f32⟩
  | 121 => ⟨S2x2048x1, .f32⟩
  | 122 => ⟨S_, .f32⟩
  | 123 => ⟨S2x2048, .f32⟩
  | 124 => ⟨S_, .f32⟩
  | 125 => ⟨S2x2048, .f32⟩
  | 126 => ⟨S2x2048, .f32⟩
  | 127 => ⟨S2x2048x1, .f32⟩
  | _ => ⟨S2x2048x192, .f32⟩

abbrev hbmTy0_6 (i : Nat) : BufTy := match i % 128 with
  | 0 => ⟨S2x2048x1, .f32⟩
  | 1 => ⟨S2x2048x1, .f32⟩
  | 2 => ⟨S_, .f32⟩
  | 3 => ⟨S2x2048, .f32⟩
  | 4 => ⟨S2x2048x1, .f32⟩
  | 5 => ⟨S2x2048x1, .f32⟩
  | 6 => ⟨S2x2048x192, .f32⟩
  | 7 => ⟨S2x2048x1x192, .f32⟩
  | 8 => ⟨S2x2048x1x192, .f32⟩
  | 9 => ⟨S2x2048x1x192, .f32⟩
  | 10 => ⟨S2x2048x1x192, .f32⟩
  | 11 => ⟨S2x2048x1x192, .f32⟩
  | 12 => ⟨S2x2048x1x192, .f32⟩
  | 13 => ⟨S2x2048x1x192, .f32⟩
  | 14 => ⟨S2x2048x1x192, .f32⟩
  | 15 => ⟨S2x2048x1x192, .f32⟩
  | 16 => ⟨S2x2048x1x192, .f32⟩
  | 17 => ⟨S2x2048x1x192, .f32⟩
  | 18 => ⟨S2x2048x1x192, .f32⟩
  | 19 => ⟨S2x2048x12x192, .f32⟩
  | 20 => ⟨S12, .f32⟩
  | 21 => ⟨S2x2048x1, .f32⟩
  | 22 => ⟨S_, .f32⟩
  | 23 => ⟨S2x2048x1, .f32⟩
  | 24 => ⟨S2x2048x1, .f32⟩
  | 25 => ⟨S1x1x12, .f32⟩
  | 26 => ⟨S2x2048x12, .f32⟩
  | 27 => ⟨S2x2048x12, .f32⟩
  | 28 => ⟨S2x2048x12, .f32⟩
  | 29 => ⟨S_, .f32⟩
  | 30 => ⟨S2x2048x12, .f32⟩
  | 31 => ⟨S2x2048x12, .f32⟩
  | 32 => ⟨S2x2048x12, .f32⟩
  | 33 => ⟨S_, .f32⟩
  | 34 => ⟨S2x2048x12, .f32⟩
  | 35 => ⟨S2x2048x12, .f32⟩
  | 36 => ⟨S2x2048x12, .f32⟩
  | 37 => ⟨S_, .f32⟩
  | 38 => ⟨S2x2048, .f32⟩
  | 39 => ⟨S2x2048x1, .f32⟩
  | 40 => ⟨S_, .f32⟩
  | 41 => ⟨S_, .f32⟩
  | 42 => ⟨S2x2048x1, .f32⟩
  | 43 => ⟨S2x2048x1, .f32⟩
  | 44 => ⟨S2x2048x12, .f32⟩
  | 45 => ⟨S2x2048x12, .f32⟩
  | 46 => ⟨S2x2048x12x1, .f32⟩
  | 47 => ⟨S2x2048x12x192, .f32⟩
  | 48 => ⟨S2x2048x12x192, .f32⟩
  | 49 => ⟨S_, .f32⟩
  | 50 => ⟨S2x2048x192, .f32⟩
  | 51 => ⟨S2x2048x1, .f32⟩
  | 52 => ⟨S_, .f32⟩
  | 53 => ⟨S2x2048x1, .f32⟩
  | 54 => ⟨S2x2048x1, .f32⟩
  | 55 => ⟨S2x2048x192, .f32⟩
  | 56 => ⟨S2x2048x192, .f32⟩
  | 57 => ⟨S2x2048x192, .f32⟩
  | 58 => ⟨S2x2048x192, .f32⟩
  | 59 => ⟨S2x2048x192, .f32⟩
  | 60 => ⟨S2x2048x2048, .f32⟩
  | 61 => ⟨S1x1x2048, .f32⟩
  | 62 => ⟨S2x2048x2048, .f32⟩
  | 63 => ⟨S2x2048x2048, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S2x2048x2048, .f32⟩
  | 71 => ⟨S2x2048x2048, .f32⟩
  | _ => ⟨S2x2048x192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2x2048x192, .f32⟩

abbrev bufTy : (tb : Table) → Fin (tcTables nBuf tb) → BufTy
  | .hbm, ⟨i, _⟩ => hbmTy i
  | _, _ => ⟨S2x2048x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_0 : Ref sig .tc := ⟨.hbm, 50, rfl⟩
abbrev main_v41 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_cst : Ref sig .tc := ⟨.hbm, 58, rfl⟩
abbrev main_call0_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_values : Ref sig .tc := ⟨.hbm, 64, rfl⟩
abbrev main_indices : Ref sig .tc := ⟨.hbm, 65, rfl⟩
abbrev main_cst_1 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c : Ref sig .tc := ⟨.hbm, 72, rfl⟩
abbrev main_v51 : Ref sig .tc := ⟨.hbm, 73, rfl⟩
abbrev main_v52 : Ref sig .tc := ⟨.hbm, 74, rfl⟩
abbrev main_c_2 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_3 : Ref sig .tc := ⟨.hbm, 79, rfl⟩
abbrev main_v56 : Ref sig .tc := ⟨.hbm, 80, rfl⟩
abbrev main_v57 : Ref sig .tc := ⟨.hbm, 81, rfl⟩
abbrev main_c_4 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_5 : Ref sig .tc := ⟨.hbm, 86, rfl⟩
abbrev main_v61 : Ref sig .tc := ⟨.hbm, 87, rfl⟩
abbrev main_v62 : Ref sig .tc := ⟨.hbm, 88, rfl⟩
abbrev main_c_6 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_7 : Ref sig .tc := ⟨.hbm, 100, rfl⟩
abbrev main_v73 : Ref sig .tc := ⟨.hbm, 101, rfl⟩
abbrev main_cst_8 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_9 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_10 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_11 : Ref sig .tc := ⟨.hbm, 120, rfl⟩
abbrev main_v89 : Ref sig .tc := ⟨.hbm, 121, rfl⟩
abbrev main_call1_v0 : Ref sig .tc := ⟨.hbm, 122, rfl⟩
abbrev main_call1_c : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_cst : Ref sig .tc := ⟨.hbm, 128, rfl⟩
abbrev main_call1_v5 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_values_12 : Ref sig .tc := ⟨.hbm, 134, rfl⟩
abbrev main_indices_13 : Ref sig .tc := ⟨.hbm, 135, rfl⟩
abbrev main_cst_14 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_15 : Ref sig .tc := ⟨.hbm, 142, rfl⟩
abbrev main_v99 : Ref sig .tc := ⟨.hbm, 143, rfl⟩
abbrev main_v100 : Ref sig .tc := ⟨.hbm, 144, rfl⟩
abbrev main_c_16 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_c_17 : Ref sig .tc := ⟨.hbm, 149, rfl⟩
abbrev main_v104 : Ref sig .tc := ⟨.hbm, 150, rfl⟩
abbrev main_v105 : Ref sig .tc := ⟨.hbm, 151, rfl⟩
abbrev main_c_18 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_c_19 : Ref sig .tc := ⟨.hbm, 156, rfl⟩
abbrev main_v109 : Ref sig .tc := ⟨.hbm, 157, rfl⟩
abbrev main_v110 : Ref sig .tc := ⟨.hbm, 158, rfl⟩
abbrev main_c_20 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_21 : Ref sig .tc := ⟨.hbm, 170, rfl⟩
abbrev main_v121 : Ref sig .tc := ⟨.hbm, 171, rfl⟩
abbrev main_cst_22 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_23 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_24 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_25 : Ref sig .tc := ⟨.hbm, 190, rfl⟩
abbrev main_v137 : Ref sig .tc := ⟨.hbm, 191, rfl⟩
abbrev main_call2_v0 : Ref sig .tc := ⟨.hbm, 192, rfl⟩
abbrev main_call2_c : Ref sig .tc := ⟨.hbm, 193, rfl⟩
abbrev main_call2_v1 : Ref sig .tc := ⟨.hbm, 194, rfl⟩
abbrev main_call2_v2 : Ref sig .tc := ⟨.hbm, 195, rfl⟩
abbrev main_call2_v3 : Ref sig .tc := ⟨.hbm, 196, rfl⟩
abbrev main_call2_v4 : Ref sig .tc := ⟨.hbm, 197, rfl⟩
abbrev main_call2_cst : Ref sig .tc := ⟨.hbm, 198, rfl⟩
abbrev main_call2_v5 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_values_26 : Ref sig .tc := ⟨.hbm, 204, rfl⟩
abbrev main_indices_27 : Ref sig .tc := ⟨.hbm, 205, rfl⟩
abbrev main_cst_28 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_c_29 : Ref sig .tc := ⟨.hbm, 212, rfl⟩
abbrev main_v147 : Ref sig .tc := ⟨.hbm, 213, rfl⟩
abbrev main_v148 : Ref sig .tc := ⟨.hbm, 214, rfl⟩
abbrev main_c_30 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_c_31 : Ref sig .tc := ⟨.hbm, 219, rfl⟩
abbrev main_v152 : Ref sig .tc := ⟨.hbm, 220, rfl⟩
abbrev main_v153 : Ref sig .tc := ⟨.hbm, 221, rfl⟩
abbrev main_c_32 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_c_33 : Ref sig .tc := ⟨.hbm, 226, rfl⟩
abbrev main_v157 : Ref sig .tc := ⟨.hbm, 227, rfl⟩
abbrev main_v158 : Ref sig .tc := ⟨.hbm, 228, rfl⟩
abbrev main_c_34 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_cst_35 : Ref sig .tc := ⟨.hbm, 240, rfl⟩
abbrev main_v169 : Ref sig .tc := ⟨.hbm, 241, rfl⟩
abbrev main_cst_36 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_cst_37 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_cst_38 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_cst_39 : Ref sig .tc := ⟨.hbm, 260, rfl⟩
abbrev main_v185 : Ref sig .tc := ⟨.hbm, 261, rfl⟩
abbrev main_call3_v0 : Ref sig .tc := ⟨.hbm, 262, rfl⟩
abbrev main_call3_c : Ref sig .tc := ⟨.hbm, 263, rfl⟩
abbrev main_call3_v1 : Ref sig .tc := ⟨.hbm, 264, rfl⟩
abbrev main_call3_v2 : Ref sig .tc := ⟨.hbm, 265, rfl⟩
abbrev main_call3_v3 : Ref sig .tc := ⟨.hbm, 266, rfl⟩
abbrev main_call3_v4 : Ref sig .tc := ⟨.hbm, 267, rfl⟩
abbrev main_call3_cst : Ref sig .tc := ⟨.hbm, 268, rfl⟩
abbrev main_call3_v5 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_values_40 : Ref sig .tc := ⟨.hbm, 274, rfl⟩
abbrev main_indices_41 : Ref sig .tc := ⟨.hbm, 275, rfl⟩
abbrev main_cst_42 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_c_43 : Ref sig .tc := ⟨.hbm, 282, rfl⟩
abbrev main_v195 : Ref sig .tc := ⟨.hbm, 283, rfl⟩
abbrev main_v196 : Ref sig .tc := ⟨.hbm, 284, rfl⟩
abbrev main_c_44 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_c_45 : Ref sig .tc := ⟨.hbm, 289, rfl⟩
abbrev main_v200 : Ref sig .tc := ⟨.hbm, 290, rfl⟩
abbrev main_v201 : Ref sig .tc := ⟨.hbm, 291, rfl⟩
abbrev main_c_46 : Ref sig .tc := ⟨.hbm, 292, rfl⟩
abbrev main_v202 : Ref sig .tc := ⟨.hbm, 293, rfl⟩
abbrev main_v203 : Ref sig .tc := ⟨.hbm, 294, rfl⟩
abbrev main_v204 : Ref sig .tc := ⟨.hbm, 295, rfl⟩
abbrev main_c_47 : Ref sig .tc := ⟨.hbm, 296, rfl⟩
abbrev main_v205 : Ref sig .tc := ⟨.hbm, 297, rfl⟩
abbrev main_v206 : Ref sig .tc := ⟨.hbm, 298, rfl⟩
abbrev main_c_48 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_cst_49 : Ref sig .tc := ⟨.hbm, 310, rfl⟩
abbrev main_v217 : Ref sig .tc := ⟨.hbm, 311, rfl⟩
abbrev main_cst_50 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_v221 : Ref sig .tc := ⟨.hbm, 316, rfl⟩
abbrev main_v222 : Ref sig .tc := ⟨.hbm, 317, rfl⟩
abbrev main_v223 : Ref sig .tc := ⟨.hbm, 318, rfl⟩
abbrev main_cst_51 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_v229 : Ref sig .tc := ⟨.hbm, 325, rfl⟩
abbrev main_cst_52 : Ref sig .tc := ⟨.hbm, 326, rfl⟩
abbrev main_v230 : Ref sig .tc := ⟨.hbm, 327, rfl⟩
abbrev main_v231 : Ref sig .tc := ⟨.hbm, 328, rfl⟩
abbrev main_v232 : Ref sig .tc := ⟨.hbm, 329, rfl⟩
abbrev main_cst_53 : Ref sig .tc := ⟨.hbm, 330, rfl⟩
abbrev main_v233 : Ref sig .tc := ⟨.hbm, 331, rfl⟩
abbrev main_call4_v0 : Ref sig .tc := ⟨.hbm, 332, rfl⟩
abbrev main_call4_c : Ref sig .tc := ⟨.hbm, 333, rfl⟩
abbrev main_call4_v1 : Ref sig .tc := ⟨.hbm, 334, rfl⟩
abbrev main_call4_v2 : Ref sig .tc := ⟨.hbm, 335, rfl⟩
abbrev main_call4_v3 : Ref sig .tc := ⟨.hbm, 336, rfl⟩
abbrev main_call4_v4 : Ref sig .tc := ⟨.hbm, 337, rfl⟩
abbrev main_call4_cst : Ref sig .tc := ⟨.hbm, 338, rfl⟩
abbrev main_call4_v5 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_values_54 : Ref sig .tc := ⟨.hbm, 344, rfl⟩
abbrev main_indices_55 : Ref sig .tc := ⟨.hbm, 345, rfl⟩
abbrev main_cst_56 : Ref sig .tc := ⟨.hbm, 346, rfl⟩
abbrev main_v238 : Ref sig .tc := ⟨.hbm, 347, rfl⟩
abbrev main_v239 : Ref sig .tc := ⟨.hbm, 348, rfl⟩
abbrev main_v240 : Ref sig .tc := ⟨.hbm, 349, rfl⟩
abbrev main_v241 : Ref sig .tc := ⟨.hbm, 350, rfl⟩
abbrev main_v242 : Ref sig .tc := ⟨.hbm, 351, rfl⟩
abbrev main_c_57 : Ref sig .tc := ⟨.hbm, 352, rfl⟩
abbrev main_v243 : Ref sig .tc := ⟨.hbm, 353, rfl⟩
abbrev main_v244 : Ref sig .tc := ⟨.hbm, 354, rfl⟩
abbrev main_c_58 : Ref sig .tc := ⟨.hbm, 355, rfl⟩
abbrev main_v245 : Ref sig .tc := ⟨.hbm, 356, rfl⟩
abbrev main_v246 : Ref sig .tc := ⟨.hbm, 357, rfl⟩
abbrev main_v247 : Ref sig .tc := ⟨.hbm, 358, rfl⟩
abbrev main_c_59 : Ref sig .tc := ⟨.hbm, 359, rfl⟩
abbrev main_v248 : Ref sig .tc := ⟨.hbm, 360, rfl⟩
abbrev main_v249 : Ref sig .tc := ⟨.hbm, 361, rfl⟩
abbrev main_c_60 : Ref sig .tc := ⟨.hbm, 362, rfl⟩
abbrev main_v250 : Ref sig .tc := ⟨.hbm, 363, rfl⟩
abbrev main_v251 : Ref sig .tc := ⟨.hbm, 364, rfl⟩
abbrev main_v252 : Ref sig .tc := ⟨.hbm, 365, rfl⟩
abbrev main_c_61 : Ref sig .tc := ⟨.hbm, 366, rfl⟩
abbrev main_v253 : Ref sig .tc := ⟨.hbm, 367, rfl⟩
abbrev main_v254 : Ref sig .tc := ⟨.hbm, 368, rfl⟩
abbrev main_c_62 : Ref sig .tc := ⟨.hbm, 369, rfl⟩
abbrev main_v255 : Ref sig .tc := ⟨.hbm, 370, rfl⟩
abbrev main_v256 : Ref sig .tc := ⟨.hbm, 371, rfl⟩
abbrev main_v257 : Ref sig .tc := ⟨.hbm, 372, rfl⟩
abbrev main_v258 : Ref sig .tc := ⟨.hbm, 373, rfl⟩
abbrev main_v259 : Ref sig .tc := ⟨.hbm, 374, rfl⟩
abbrev main_v260 : Ref sig .tc := ⟨.hbm, 375, rfl⟩
abbrev main_v261 : Ref sig .tc := ⟨.hbm, 376, rfl⟩
abbrev main_v262 : Ref sig .tc := ⟨.hbm, 377, rfl⟩
abbrev main_v263 : Ref sig .tc := ⟨.hbm, 378, rfl⟩
abbrev main_v264 : Ref sig .tc := ⟨.hbm, 379, rfl⟩
abbrev main_cst_63 : Ref sig .tc := ⟨.hbm, 380, rfl⟩
abbrev main_v265 : Ref sig .tc := ⟨.hbm, 381, rfl⟩
abbrev main_cst_64 : Ref sig .tc := ⟨.hbm, 382, rfl⟩
abbrev main_v266 : Ref sig .tc := ⟨.hbm, 383, rfl⟩
abbrev main_v267 : Ref sig .tc := ⟨.hbm, 384, rfl⟩
abbrev main_v268 : Ref sig .tc := ⟨.hbm, 385, rfl⟩
abbrev main_v269 : Ref sig .tc := ⟨.hbm, 386, rfl⟩
abbrev main_v270 : Ref sig .tc := ⟨.hbm, 387, rfl⟩
abbrev main_v271 : Ref sig .tc := ⟨.hbm, 388, rfl⟩
abbrev main_cst_65 : Ref sig .tc := ⟨.hbm, 389, rfl⟩
abbrev main_v272 : Ref sig .tc := ⟨.hbm, 390, rfl⟩
abbrev main_v273 : Ref sig .tc := ⟨.hbm, 391, rfl⟩
abbrev main_v274 : Ref sig .tc := ⟨.hbm, 392, rfl⟩
abbrev main_v275 : Ref sig .tc := ⟨.hbm, 393, rfl⟩
abbrev main_v276 : Ref sig .tc := ⟨.hbm, 394, rfl⟩
abbrev main_v277 : Ref sig .tc := ⟨.hbm, 395, rfl⟩
abbrev main_cst_66 : Ref sig .tc := ⟨.hbm, 396, rfl⟩
abbrev main_v278 : Ref sig .tc := ⟨.hbm, 397, rfl⟩
abbrev main_v279 : Ref sig .tc := ⟨.hbm, 398, rfl⟩
abbrev main_v280 : Ref sig .tc := ⟨.hbm, 399, rfl⟩
abbrev main_cst_67 : Ref sig .tc := ⟨.hbm, 400, rfl⟩
abbrev main_v281 : Ref sig .tc := ⟨.hbm, 401, rfl⟩
abbrev main_call5_v0 : Ref sig .tc := ⟨.hbm, 402, rfl⟩
abbrev main_call5_c : Ref sig .tc := ⟨.hbm, 403, rfl⟩
abbrev main_call5_v1 : Ref sig .tc := ⟨.hbm, 404, rfl⟩
abbrev main_call5_v2 : Ref sig .tc := ⟨.hbm, 405, rfl⟩
abbrev main_call5_v3 : Ref sig .tc := ⟨.hbm, 406, rfl⟩
abbrev main_call5_v4 : Ref sig .tc := ⟨.hbm, 407, rfl⟩
abbrev main_call5_cst : Ref sig .tc := ⟨.hbm, 408, rfl⟩
abbrev main_call5_v5 : Ref sig .tc := ⟨.hbm, 409, rfl⟩
abbrev main_v282 : Ref sig .tc := ⟨.hbm, 410, rfl⟩
abbrev main_v283 : Ref sig .tc := ⟨.hbm, 411, rfl⟩
abbrev main_v284 : Ref sig .tc := ⟨.hbm, 412, rfl⟩
abbrev main_v285 : Ref sig .tc := ⟨.hbm, 413, rfl⟩
abbrev main_values_68 : Ref sig .tc := ⟨.hbm, 414, rfl⟩
abbrev main_indices_69 : Ref sig .tc := ⟨.hbm, 415, rfl⟩
abbrev main_cst_70 : Ref sig .tc := ⟨.hbm, 416, rfl⟩
abbrev main_v286 : Ref sig .tc := ⟨.hbm, 417, rfl⟩
abbrev main_v287 : Ref sig .tc := ⟨.hbm, 418, rfl⟩
abbrev main_v288 : Ref sig .tc := ⟨.hbm, 419, rfl⟩
abbrev main_v289 : Ref sig .tc := ⟨.hbm, 420, rfl⟩
abbrev main_v290 : Ref sig .tc := ⟨.hbm, 421, rfl⟩
abbrev main_c_71 : Ref sig .tc := ⟨.hbm, 422, rfl⟩
abbrev main_v291 : Ref sig .tc := ⟨.hbm, 423, rfl⟩
abbrev main_v292 : Ref sig .tc := ⟨.hbm, 424, rfl⟩
abbrev main_c_72 : Ref sig .tc := ⟨.hbm, 425, rfl⟩
abbrev main_v293 : Ref sig .tc := ⟨.hbm, 426, rfl⟩
abbrev main_v294 : Ref sig .tc := ⟨.hbm, 427, rfl⟩
abbrev main_v295 : Ref sig .tc := ⟨.hbm, 428, rfl⟩
abbrev main_c_73 : Ref sig .tc := ⟨.hbm, 429, rfl⟩
abbrev main_v296 : Ref sig .tc := ⟨.hbm, 430, rfl⟩
abbrev main_v297 : Ref sig .tc := ⟨.hbm, 431, rfl⟩
abbrev main_c_74 : Ref sig .tc := ⟨.hbm, 432, rfl⟩
abbrev main_v298 : Ref sig .tc := ⟨.hbm, 433, rfl⟩
abbrev main_v299 : Ref sig .tc := ⟨.hbm, 434, rfl⟩
abbrev main_v300 : Ref sig .tc := ⟨.hbm, 435, rfl⟩
abbrev main_c_75 : Ref sig .tc := ⟨.hbm, 436, rfl⟩
abbrev main_v301 : Ref sig .tc := ⟨.hbm, 437, rfl⟩
abbrev main_v302 : Ref sig .tc := ⟨.hbm, 438, rfl⟩
abbrev main_c_76 : Ref sig .tc := ⟨.hbm, 439, rfl⟩
abbrev main_v303 : Ref sig .tc := ⟨.hbm, 440, rfl⟩
abbrev main_v304 : Ref sig .tc := ⟨.hbm, 441, rfl⟩
abbrev main_v305 : Ref sig .tc := ⟨.hbm, 442, rfl⟩
abbrev main_v306 : Ref sig .tc := ⟨.hbm, 443, rfl⟩
abbrev main_v307 : Ref sig .tc := ⟨.hbm, 444, rfl⟩
abbrev main_v308 : Ref sig .tc := ⟨.hbm, 445, rfl⟩
abbrev main_v309 : Ref sig .tc := ⟨.hbm, 446, rfl⟩
abbrev main_v310 : Ref sig .tc := ⟨.hbm, 447, rfl⟩
abbrev main_v311 : Ref sig .tc := ⟨.hbm, 448, rfl⟩
abbrev main_v312 : Ref sig .tc := ⟨.hbm, 449, rfl⟩
abbrev main_cst_77 : Ref sig .tc := ⟨.hbm, 450, rfl⟩
abbrev main_v313 : Ref sig .tc := ⟨.hbm, 451, rfl⟩
abbrev main_cst_78 : Ref sig .tc := ⟨.hbm, 452, rfl⟩
abbrev main_v314 : Ref sig .tc := ⟨.hbm, 453, rfl⟩
abbrev main_v315 : Ref sig .tc := ⟨.hbm, 454, rfl⟩
abbrev main_v316 : Ref sig .tc := ⟨.hbm, 455, rfl⟩
abbrev main_v317 : Ref sig .tc := ⟨.hbm, 456, rfl⟩
abbrev main_v318 : Ref sig .tc := ⟨.hbm, 457, rfl⟩
abbrev main_v319 : Ref sig .tc := ⟨.hbm, 458, rfl⟩
abbrev main_cst_79 : Ref sig .tc := ⟨.hbm, 459, rfl⟩
abbrev main_v320 : Ref sig .tc := ⟨.hbm, 460, rfl⟩
abbrev main_v321 : Ref sig .tc := ⟨.hbm, 461, rfl⟩
abbrev main_v322 : Ref sig .tc := ⟨.hbm, 462, rfl⟩
abbrev main_v323 : Ref sig .tc := ⟨.hbm, 463, rfl⟩
abbrev main_v324 : Ref sig .tc := ⟨.hbm, 464, rfl⟩
abbrev main_v325 : Ref sig .tc := ⟨.hbm, 465, rfl⟩
abbrev main_cst_80 : Ref sig .tc := ⟨.hbm, 466, rfl⟩
abbrev main_v326 : Ref sig .tc := ⟨.hbm, 467, rfl⟩
abbrev main_v327 : Ref sig .tc := ⟨.hbm, 468, rfl⟩
abbrev main_v328 : Ref sig .tc := ⟨.hbm, 469, rfl⟩
abbrev main_cst_81 : Ref sig .tc := ⟨.hbm, 470, rfl⟩
abbrev main_v329 : Ref sig .tc := ⟨.hbm, 471, rfl⟩
abbrev main_call6_v0 : Ref sig .tc := ⟨.hbm, 472, rfl⟩
abbrev main_call6_c : Ref sig .tc := ⟨.hbm, 473, rfl⟩
abbrev main_call6_v1 : Ref sig .tc := ⟨.hbm, 474, rfl⟩
abbrev main_call6_v2 : Ref sig .tc := ⟨.hbm, 475, rfl⟩
abbrev main_call6_v3 : Ref sig .tc := ⟨.hbm, 476, rfl⟩
abbrev main_call6_v4 : Ref sig .tc := ⟨.hbm, 477, rfl⟩
abbrev main_call6_cst : Ref sig .tc := ⟨.hbm, 478, rfl⟩
abbrev main_call6_v5 : Ref sig .tc := ⟨.hbm, 479, rfl⟩
abbrev main_v330 : Ref sig .tc := ⟨.hbm, 480, rfl⟩
abbrev main_v331 : Ref sig .tc := ⟨.hbm, 481, rfl⟩
abbrev main_v332 : Ref sig .tc := ⟨.hbm, 482, rfl⟩
abbrev main_v333 : Ref sig .tc := ⟨.hbm, 483, rfl⟩
abbrev main_values_82 : Ref sig .tc := ⟨.hbm, 484, rfl⟩
abbrev main_indices_83 : Ref sig .tc := ⟨.hbm, 485, rfl⟩
abbrev main_cst_84 : Ref sig .tc := ⟨.hbm, 486, rfl⟩
abbrev main_v334 : Ref sig .tc := ⟨.hbm, 487, rfl⟩
abbrev main_v335 : Ref sig .tc := ⟨.hbm, 488, rfl⟩
abbrev main_v336 : Ref sig .tc := ⟨.hbm, 489, rfl⟩
abbrev main_v337 : Ref sig .tc := ⟨.hbm, 490, rfl⟩
abbrev main_v338 : Ref sig .tc := ⟨.hbm, 491, rfl⟩
abbrev main_c_85 : Ref sig .tc := ⟨.hbm, 492, rfl⟩
abbrev main_v339 : Ref sig .tc := ⟨.hbm, 493, rfl⟩
abbrev main_v340 : Ref sig .tc := ⟨.hbm, 494, rfl⟩
abbrev main_c_86 : Ref sig .tc := ⟨.hbm, 495, rfl⟩
abbrev main_v341 : Ref sig .tc := ⟨.hbm, 496, rfl⟩
abbrev main_v342 : Ref sig .tc := ⟨.hbm, 497, rfl⟩
abbrev main_v343 : Ref sig .tc := ⟨.hbm, 498, rfl⟩
abbrev main_c_87 : Ref sig .tc := ⟨.hbm, 499, rfl⟩
abbrev main_v344 : Ref sig .tc := ⟨.hbm, 500, rfl⟩
abbrev main_v345 : Ref sig .tc := ⟨.hbm, 501, rfl⟩
abbrev main_c_88 : Ref sig .tc := ⟨.hbm, 502, rfl⟩
abbrev main_v346 : Ref sig .tc := ⟨.hbm, 503, rfl⟩
abbrev main_v347 : Ref sig .tc := ⟨.hbm, 504, rfl⟩
abbrev main_v348 : Ref sig .tc := ⟨.hbm, 505, rfl⟩
abbrev main_c_89 : Ref sig .tc := ⟨.hbm, 506, rfl⟩
abbrev main_v349 : Ref sig .tc := ⟨.hbm, 507, rfl⟩
abbrev main_v350 : Ref sig .tc := ⟨.hbm, 508, rfl⟩
abbrev main_c_90 : Ref sig .tc := ⟨.hbm, 509, rfl⟩
abbrev main_v351 : Ref sig .tc := ⟨.hbm, 510, rfl⟩
abbrev main_v352 : Ref sig .tc := ⟨.hbm, 511, rfl⟩
abbrev main_v353 : Ref sig .tc := ⟨.hbm, 512, rfl⟩
abbrev main_v354 : Ref sig .tc := ⟨.hbm, 513, rfl⟩
abbrev main_v355 : Ref sig .tc := ⟨.hbm, 514, rfl⟩
abbrev main_v356 : Ref sig .tc := ⟨.hbm, 515, rfl⟩
abbrev main_v357 : Ref sig .tc := ⟨.hbm, 516, rfl⟩
abbrev main_v358 : Ref sig .tc := ⟨.hbm, 517, rfl⟩
abbrev main_v359 : Ref sig .tc := ⟨.hbm, 518, rfl⟩
abbrev main_v360 : Ref sig .tc := ⟨.hbm, 519, rfl⟩
abbrev main_cst_91 : Ref sig .tc := ⟨.hbm, 520, rfl⟩
abbrev main_v361 : Ref sig .tc := ⟨.hbm, 521, rfl⟩
abbrev main_cst_92 : Ref sig .tc := ⟨.hbm, 522, rfl⟩
abbrev main_v362 : Ref sig .tc := ⟨.hbm, 523, rfl⟩
abbrev main_v363 : Ref sig .tc := ⟨.hbm, 524, rfl⟩
abbrev main_v364 : Ref sig .tc := ⟨.hbm, 525, rfl⟩
abbrev main_v365 : Ref sig .tc := ⟨.hbm, 526, rfl⟩
abbrev main_v366 : Ref sig .tc := ⟨.hbm, 527, rfl⟩
abbrev main_v367 : Ref sig .tc := ⟨.hbm, 528, rfl⟩
abbrev main_cst_93 : Ref sig .tc := ⟨.hbm, 529, rfl⟩
abbrev main_v368 : Ref sig .tc := ⟨.hbm, 530, rfl⟩
abbrev main_v369 : Ref sig .tc := ⟨.hbm, 531, rfl⟩
abbrev main_v370 : Ref sig .tc := ⟨.hbm, 532, rfl⟩
abbrev main_v371 : Ref sig .tc := ⟨.hbm, 533, rfl⟩
abbrev main_v372 : Ref sig .tc := ⟨.hbm, 534, rfl⟩
abbrev main_v373 : Ref sig .tc := ⟨.hbm, 535, rfl⟩
abbrev main_cst_94 : Ref sig .tc := ⟨.hbm, 536, rfl⟩
abbrev main_v374 : Ref sig .tc := ⟨.hbm, 537, rfl⟩
abbrev main_v375 : Ref sig .tc := ⟨.hbm, 538, rfl⟩
abbrev main_v376 : Ref sig .tc := ⟨.hbm, 539, rfl⟩
abbrev main_cst_95 : Ref sig .tc := ⟨.hbm, 540, rfl⟩
abbrev main_v377 : Ref sig .tc := ⟨.hbm, 541, rfl⟩
abbrev main_call7_v0 : Ref sig .tc := ⟨.hbm, 542, rfl⟩
abbrev main_call7_c : Ref sig .tc := ⟨.hbm, 543, rfl⟩
abbrev main_call7_v1 : Ref sig .tc := ⟨.hbm, 544, rfl⟩
abbrev main_call7_v2 : Ref sig .tc := ⟨.hbm, 545, rfl⟩
abbrev main_call7_v3 : Ref sig .tc := ⟨.hbm, 546, rfl⟩
abbrev main_call7_v4 : Ref sig .tc := ⟨.hbm, 547, rfl⟩
abbrev main_call7_cst : Ref sig .tc := ⟨.hbm, 548, rfl⟩
abbrev main_call7_v5 : Ref sig .tc := ⟨.hbm, 549, rfl⟩
abbrev main_v378 : Ref sig .tc := ⟨.hbm, 550, rfl⟩
abbrev main_v379 : Ref sig .tc := ⟨.hbm, 551, rfl⟩
abbrev main_v380 : Ref sig .tc := ⟨.hbm, 552, rfl⟩
abbrev main_v381 : Ref sig .tc := ⟨.hbm, 553, rfl⟩
abbrev main_values_96 : Ref sig .tc := ⟨.hbm, 554, rfl⟩
abbrev main_indices_97 : Ref sig .tc := ⟨.hbm, 555, rfl⟩
abbrev main_cst_98 : Ref sig .tc := ⟨.hbm, 556, rfl⟩
abbrev main_v382 : Ref sig .tc := ⟨.hbm, 557, rfl⟩
abbrev main_v383 : Ref sig .tc := ⟨.hbm, 558, rfl⟩
abbrev main_v384 : Ref sig .tc := ⟨.hbm, 559, rfl⟩
abbrev main_v385 : Ref sig .tc := ⟨.hbm, 560, rfl⟩
abbrev main_v386 : Ref sig .tc := ⟨.hbm, 561, rfl⟩
abbrev main_c_99 : Ref sig .tc := ⟨.hbm, 562, rfl⟩
abbrev main_v387 : Ref sig .tc := ⟨.hbm, 563, rfl⟩
abbrev main_v388 : Ref sig .tc := ⟨.hbm, 564, rfl⟩
abbrev main_c_100 : Ref sig .tc := ⟨.hbm, 565, rfl⟩
abbrev main_v389 : Ref sig .tc := ⟨.hbm, 566, rfl⟩
abbrev main_v390 : Ref sig .tc := ⟨.hbm, 567, rfl⟩
abbrev main_v391 : Ref sig .tc := ⟨.hbm, 568, rfl⟩
abbrev main_c_101 : Ref sig .tc := ⟨.hbm, 569, rfl⟩
abbrev main_v392 : Ref sig .tc := ⟨.hbm, 570, rfl⟩
abbrev main_v393 : Ref sig .tc := ⟨.hbm, 571, rfl⟩
abbrev main_c_102 : Ref sig .tc := ⟨.hbm, 572, rfl⟩
abbrev main_v394 : Ref sig .tc := ⟨.hbm, 573, rfl⟩
abbrev main_v395 : Ref sig .tc := ⟨.hbm, 574, rfl⟩
abbrev main_v396 : Ref sig .tc := ⟨.hbm, 575, rfl⟩
abbrev main_c_103 : Ref sig .tc := ⟨.hbm, 576, rfl⟩
abbrev main_v397 : Ref sig .tc := ⟨.hbm, 577, rfl⟩
abbrev main_v398 : Ref sig .tc := ⟨.hbm, 578, rfl⟩
abbrev main_c_104 : Ref sig .tc := ⟨.hbm, 579, rfl⟩
abbrev main_v399 : Ref sig .tc := ⟨.hbm, 580, rfl⟩
abbrev main_v400 : Ref sig .tc := ⟨.hbm, 581, rfl⟩
abbrev main_v401 : Ref sig .tc := ⟨.hbm, 582, rfl⟩
abbrev main_v402 : Ref sig .tc := ⟨.hbm, 583, rfl⟩
abbrev main_v403 : Ref sig .tc := ⟨.hbm, 584, rfl⟩
abbrev main_v404 : Ref sig .tc := ⟨.hbm, 585, rfl⟩
abbrev main_v405 : Ref sig .tc := ⟨.hbm, 586, rfl⟩
abbrev main_v406 : Ref sig .tc := ⟨.hbm, 587, rfl⟩
abbrev main_v407 : Ref sig .tc := ⟨.hbm, 588, rfl⟩
abbrev main_v408 : Ref sig .tc := ⟨.hbm, 589, rfl⟩
abbrev main_cst_105 : Ref sig .tc := ⟨.hbm, 590, rfl⟩
abbrev main_v409 : Ref sig .tc := ⟨.hbm, 591, rfl⟩
abbrev main_cst_106 : Ref sig .tc := ⟨.hbm, 592, rfl⟩
abbrev main_v410 : Ref sig .tc := ⟨.hbm, 593, rfl⟩
abbrev main_v411 : Ref sig .tc := ⟨.hbm, 594, rfl⟩
abbrev main_v412 : Ref sig .tc := ⟨.hbm, 595, rfl⟩
abbrev main_v413 : Ref sig .tc := ⟨.hbm, 596, rfl⟩
abbrev main_v414 : Ref sig .tc := ⟨.hbm, 597, rfl⟩
abbrev main_v415 : Ref sig .tc := ⟨.hbm, 598, rfl⟩
abbrev main_cst_107 : Ref sig .tc := ⟨.hbm, 599, rfl⟩
abbrev main_v416 : Ref sig .tc := ⟨.hbm, 600, rfl⟩
abbrev main_v417 : Ref sig .tc := ⟨.hbm, 601, rfl⟩
abbrev main_v418 : Ref sig .tc := ⟨.hbm, 602, rfl⟩
abbrev main_v419 : Ref sig .tc := ⟨.hbm, 603, rfl⟩
abbrev main_v420 : Ref sig .tc := ⟨.hbm, 604, rfl⟩
abbrev main_v421 : Ref sig .tc := ⟨.hbm, 605, rfl⟩
abbrev main_cst_108 : Ref sig .tc := ⟨.hbm, 606, rfl⟩
abbrev main_v422 : Ref sig .tc := ⟨.hbm, 607, rfl⟩
abbrev main_v423 : Ref sig .tc := ⟨.hbm, 608, rfl⟩
abbrev main_v424 : Ref sig .tc := ⟨.hbm, 609, rfl⟩
abbrev main_cst_109 : Ref sig .tc := ⟨.hbm, 610, rfl⟩
abbrev main_v425 : Ref sig .tc := ⟨.hbm, 611, rfl⟩
abbrev main_call8_v0 : Ref sig .tc := ⟨.hbm, 612, rfl⟩
abbrev main_call8_c : Ref sig .tc := ⟨.hbm, 613, rfl⟩
abbrev main_call8_v1 : Ref sig .tc := ⟨.hbm, 614, rfl⟩
abbrev main_call8_v2 : Ref sig .tc := ⟨.hbm, 615, rfl⟩
abbrev main_call8_v3 : Ref sig .tc := ⟨.hbm, 616, rfl⟩
abbrev main_call8_v4 : Ref sig .tc := ⟨.hbm, 617, rfl⟩
abbrev main_call8_cst : Ref sig .tc := ⟨.hbm, 618, rfl⟩
abbrev main_call8_v5 : Ref sig .tc := ⟨.hbm, 619, rfl⟩
abbrev main_v426 : Ref sig .tc := ⟨.hbm, 620, rfl⟩
abbrev main_v427 : Ref sig .tc := ⟨.hbm, 621, rfl⟩
abbrev main_v428 : Ref sig .tc := ⟨.hbm, 622, rfl⟩
abbrev main_v429 : Ref sig .tc := ⟨.hbm, 623, rfl⟩
abbrev main_values_110 : Ref sig .tc := ⟨.hbm, 624, rfl⟩
abbrev main_indices_111 : Ref sig .tc := ⟨.hbm, 625, rfl⟩
abbrev main_cst_112 : Ref sig .tc := ⟨.hbm, 626, rfl⟩
abbrev main_v430 : Ref sig .tc := ⟨.hbm, 627, rfl⟩
abbrev main_v431 : Ref sig .tc := ⟨.hbm, 628, rfl⟩
abbrev main_v432 : Ref sig .tc := ⟨.hbm, 629, rfl⟩
abbrev main_v433 : Ref sig .tc := ⟨.hbm, 630, rfl⟩
abbrev main_v434 : Ref sig .tc := ⟨.hbm, 631, rfl⟩
abbrev main_c_113 : Ref sig .tc := ⟨.hbm, 632, rfl⟩
abbrev main_v435 : Ref sig .tc := ⟨.hbm, 633, rfl⟩
abbrev main_v436 : Ref sig .tc := ⟨.hbm, 634, rfl⟩
abbrev main_c_114 : Ref sig .tc := ⟨.hbm, 635, rfl⟩
abbrev main_v437 : Ref sig .tc := ⟨.hbm, 636, rfl⟩
abbrev main_v438 : Ref sig .tc := ⟨.hbm, 637, rfl⟩
abbrev main_v439 : Ref sig .tc := ⟨.hbm, 638, rfl⟩
abbrev main_c_115 : Ref sig .tc := ⟨.hbm, 639, rfl⟩
abbrev main_v440 : Ref sig .tc := ⟨.hbm, 640, rfl⟩
abbrev main_v441 : Ref sig .tc := ⟨.hbm, 641, rfl⟩
abbrev main_c_116 : Ref sig .tc := ⟨.hbm, 642, rfl⟩
abbrev main_v442 : Ref sig .tc := ⟨.hbm, 643, rfl⟩
abbrev main_v443 : Ref sig .tc := ⟨.hbm, 644, rfl⟩
abbrev main_v444 : Ref sig .tc := ⟨.hbm, 645, rfl⟩
abbrev main_c_117 : Ref sig .tc := ⟨.hbm, 646, rfl⟩
abbrev main_v445 : Ref sig .tc := ⟨.hbm, 647, rfl⟩
abbrev main_v446 : Ref sig .tc := ⟨.hbm, 648, rfl⟩
abbrev main_c_118 : Ref sig .tc := ⟨.hbm, 649, rfl⟩
abbrev main_v447 : Ref sig .tc := ⟨.hbm, 650, rfl⟩
abbrev main_v448 : Ref sig .tc := ⟨.hbm, 651, rfl⟩
abbrev main_v449 : Ref sig .tc := ⟨.hbm, 652, rfl⟩
abbrev main_v450 : Ref sig .tc := ⟨.hbm, 653, rfl⟩
abbrev main_v451 : Ref sig .tc := ⟨.hbm, 654, rfl⟩
abbrev main_v452 : Ref sig .tc := ⟨.hbm, 655, rfl⟩
abbrev main_v453 : Ref sig .tc := ⟨.hbm, 656, rfl⟩
abbrev main_v454 : Ref sig .tc := ⟨.hbm, 657, rfl⟩
abbrev main_v455 : Ref sig .tc := ⟨.hbm, 658, rfl⟩
abbrev main_v456 : Ref sig .tc := ⟨.hbm, 659, rfl⟩
abbrev main_cst_119 : Ref sig .tc := ⟨.hbm, 660, rfl⟩
abbrev main_v457 : Ref sig .tc := ⟨.hbm, 661, rfl⟩
abbrev main_cst_120 : Ref sig .tc := ⟨.hbm, 662, rfl⟩
abbrev main_v458 : Ref sig .tc := ⟨.hbm, 663, rfl⟩
abbrev main_v459 : Ref sig .tc := ⟨.hbm, 664, rfl⟩
abbrev main_v460 : Ref sig .tc := ⟨.hbm, 665, rfl⟩
abbrev main_v461 : Ref sig .tc := ⟨.hbm, 666, rfl⟩
abbrev main_v462 : Ref sig .tc := ⟨.hbm, 667, rfl⟩
abbrev main_v463 : Ref sig .tc := ⟨.hbm, 668, rfl⟩
abbrev main_cst_121 : Ref sig .tc := ⟨.hbm, 669, rfl⟩
abbrev main_v464 : Ref sig .tc := ⟨.hbm, 670, rfl⟩
abbrev main_v465 : Ref sig .tc := ⟨.hbm, 671, rfl⟩
abbrev main_v466 : Ref sig .tc := ⟨.hbm, 672, rfl⟩
abbrev main_v467 : Ref sig .tc := ⟨.hbm, 673, rfl⟩
abbrev main_v468 : Ref sig .tc := ⟨.hbm, 674, rfl⟩
abbrev main_v469 : Ref sig .tc := ⟨.hbm, 675, rfl⟩
abbrev main_cst_122 : Ref sig .tc := ⟨.hbm, 676, rfl⟩
abbrev main_v470 : Ref sig .tc := ⟨.hbm, 677, rfl⟩
abbrev main_v471 : Ref sig .tc := ⟨.hbm, 678, rfl⟩
abbrev main_v472 : Ref sig .tc := ⟨.hbm, 679, rfl⟩
abbrev main_cst_123 : Ref sig .tc := ⟨.hbm, 680, rfl⟩
abbrev main_v473 : Ref sig .tc := ⟨.hbm, 681, rfl⟩
abbrev main_call9_v0 : Ref sig .tc := ⟨.hbm, 682, rfl⟩
abbrev main_call9_c : Ref sig .tc := ⟨.hbm, 683, rfl⟩
abbrev main_call9_v1 : Ref sig .tc := ⟨.hbm, 684, rfl⟩
abbrev main_call9_v2 : Ref sig .tc := ⟨.hbm, 685, rfl⟩
abbrev main_call9_v3 : Ref sig .tc := ⟨.hbm, 686, rfl⟩
abbrev main_call9_v4 : Ref sig .tc := ⟨.hbm, 687, rfl⟩
abbrev main_call9_cst : Ref sig .tc := ⟨.hbm, 688, rfl⟩
abbrev main_call9_v5 : Ref sig .tc := ⟨.hbm, 689, rfl⟩
abbrev main_v474 : Ref sig .tc := ⟨.hbm, 690, rfl⟩
abbrev main_v475 : Ref sig .tc := ⟨.hbm, 691, rfl⟩
abbrev main_v476 : Ref sig .tc := ⟨.hbm, 692, rfl⟩
abbrev main_v477 : Ref sig .tc := ⟨.hbm, 693, rfl⟩
abbrev main_cst_124 : Ref sig .tc := ⟨.hbm, 694, rfl⟩
abbrev main_v478 : Ref sig .tc := ⟨.hbm, 695, rfl⟩
abbrev main_cst_125 : Ref sig .tc := ⟨.hbm, 696, rfl⟩
abbrev main_v479 : Ref sig .tc := ⟨.hbm, 697, rfl⟩
abbrev main_v480 : Ref sig .tc := ⟨.hbm, 698, rfl⟩
abbrev main_v481 : Ref sig .tc := ⟨.hbm, 699, rfl⟩
abbrev main_v482 : Ref sig .tc := ⟨.hbm, 700, rfl⟩
abbrev main_v483 : Ref sig .tc := ⟨.hbm, 701, rfl⟩
abbrev main_v484 : Ref sig .tc := ⟨.hbm, 702, rfl⟩
abbrev main_cst_126 : Ref sig .tc := ⟨.hbm, 703, rfl⟩
abbrev main_v485 : Ref sig .tc := ⟨.hbm, 704, rfl⟩
abbrev main_v486 : Ref sig .tc := ⟨.hbm, 705, rfl⟩
abbrev main_v487 : Ref sig .tc := ⟨.hbm, 706, rfl⟩
abbrev main_v488 : Ref sig .tc := ⟨.hbm, 707, rfl⟩
abbrev main_v489 : Ref sig .tc := ⟨.hbm, 708, rfl⟩
abbrev main_v490 : Ref sig .tc := ⟨.hbm, 709, rfl⟩
abbrev main_cst_127 : Ref sig .tc := ⟨.hbm, 710, rfl⟩
abbrev main_v491 : Ref sig .tc := ⟨.hbm, 711, rfl⟩
abbrev main_v492 : Ref sig .tc := ⟨.hbm, 712, rfl⟩
abbrev main_v493 : Ref sig .tc := ⟨.hbm, 713, rfl⟩
abbrev main_cst_128 : Ref sig .tc := ⟨.hbm, 714, rfl⟩
abbrev main_v494 : Ref sig .tc := ⟨.hbm, 715, rfl⟩
abbrev main_call10_v0 : Ref sig .tc := ⟨.hbm, 716, rfl⟩
abbrev main_call10_c : Ref sig .tc := ⟨.hbm, 717, rfl⟩
abbrev main_call10_v1 : Ref sig .tc := ⟨.hbm, 718, rfl⟩
abbrev main_call10_v2 : Ref sig .tc := ⟨.hbm, 719, rfl⟩
abbrev main_call10_v3 : Ref sig .tc := ⟨.hbm, 720, rfl⟩
abbrev main_call10_v4 : Ref sig .tc := ⟨.hbm, 721, rfl⟩
abbrev main_call10_cst : Ref sig .tc := ⟨.hbm, 722, rfl⟩
abbrev main_call10_v5 : Ref sig .tc := ⟨.hbm, 723, rfl⟩
abbrev main_v495 : Ref sig .tc := ⟨.hbm, 724, rfl⟩
abbrev main_v496 : Ref sig .tc := ⟨.hbm, 725, rfl⟩
abbrev main_v497 : Ref sig .tc := ⟨.hbm, 726, rfl⟩
abbrev main_v498 : Ref sig .tc := ⟨.hbm, 727, rfl⟩
abbrev main_cst_129 : Ref sig .tc := ⟨.hbm, 728, rfl⟩
abbrev main_v499 : Ref sig .tc := ⟨.hbm, 729, rfl⟩
abbrev main_cst_130 : Ref sig .tc := ⟨.hbm, 730, rfl⟩
abbrev main_v500 : Ref sig .tc := ⟨.hbm, 731, rfl⟩
abbrev main_v501 : Ref sig .tc := ⟨.hbm, 732, rfl⟩
abbrev main_v502 : Ref sig .tc := ⟨.hbm, 733, rfl⟩
abbrev main_v503 : Ref sig .tc := ⟨.hbm, 734, rfl⟩
abbrev main_v504 : Ref sig .tc := ⟨.hbm, 735, rfl⟩
abbrev main_v505 : Ref sig .tc := ⟨.hbm, 736, rfl⟩
abbrev main_cst_131 : Ref sig .tc := ⟨.hbm, 737, rfl⟩
abbrev main_v506 : Ref sig .tc := ⟨.hbm, 738, rfl⟩
abbrev main_v507 : Ref sig .tc := ⟨.hbm, 739, rfl⟩
abbrev main_v508 : Ref sig .tc := ⟨.hbm, 740, rfl⟩
abbrev main_v509 : Ref sig .tc := ⟨.hbm, 741, rfl⟩
abbrev main_v510 : Ref sig .tc := ⟨.hbm, 742, rfl⟩
abbrev main_v511 : Ref sig .tc := ⟨.hbm, 743, rfl⟩
abbrev main_cst_132 : Ref sig .tc := ⟨.hbm, 744, rfl⟩
abbrev main_v512 : Ref sig .tc := ⟨.hbm, 745, rfl⟩
abbrev main_v513 : Ref sig .tc := ⟨.hbm, 746, rfl⟩
abbrev main_v514 : Ref sig .tc := ⟨.hbm, 747, rfl⟩
abbrev main_cst_133 : Ref sig .tc := ⟨.hbm, 748, rfl⟩
abbrev main_v515 : Ref sig .tc := ⟨.hbm, 749, rfl⟩
abbrev main_call11_v0 : Ref sig .tc := ⟨.hbm, 750, rfl⟩
abbrev main_call11_c : Ref sig .tc := ⟨.hbm, 751, rfl⟩
abbrev main_call11_v1 : Ref sig .tc := ⟨.hbm, 752, rfl⟩
abbrev main_call11_v2 : Ref sig .tc := ⟨.hbm, 753, rfl⟩
abbrev main_call11_v3 : Ref sig .tc := ⟨.hbm, 754, rfl⟩
abbrev main_call11_v4 : Ref sig .tc := ⟨.hbm, 755, rfl⟩
abbrev main_call11_cst : Ref sig .tc := ⟨.hbm, 756, rfl⟩
abbrev main_call11_v5 : Ref sig .tc := ⟨.hbm, 757, rfl⟩
abbrev main_v516 : Ref sig .tc := ⟨.hbm, 758, rfl⟩
abbrev main_v517 : Ref sig .tc := ⟨.hbm, 759, rfl⟩
abbrev main_v518 : Ref sig .tc := ⟨.hbm, 760, rfl⟩
abbrev main_v519 : Ref sig .tc := ⟨.hbm, 761, rfl⟩
abbrev main_cst_134 : Ref sig .tc := ⟨.hbm, 762, rfl⟩
abbrev main_v520 : Ref sig .tc := ⟨.hbm, 763, rfl⟩
abbrev main_cst_135 : Ref sig .tc := ⟨.hbm, 764, rfl⟩
abbrev main_v521 : Ref sig .tc := ⟨.hbm, 765, rfl⟩
abbrev main_v522 : Ref sig .tc := ⟨.hbm, 766, rfl⟩
abbrev main_v523 : Ref sig .tc := ⟨.hbm, 767, rfl⟩
abbrev main_v524 : Ref sig .tc := ⟨.hbm, 768, rfl⟩
abbrev main_v525 : Ref sig .tc := ⟨.hbm, 769, rfl⟩
abbrev main_cst_136 : Ref sig .tc := ⟨.hbm, 770, rfl⟩
abbrev main_v526 : Ref sig .tc := ⟨.hbm, 771, rfl⟩
abbrev main_v527 : Ref sig .tc := ⟨.hbm, 772, rfl⟩
abbrev main_v528 : Ref sig .tc := ⟨.hbm, 773, rfl⟩
abbrev main_v529 : Ref sig .tc := ⟨.hbm, 774, rfl⟩
abbrev main_v530 : Ref sig .tc := ⟨.hbm, 775, rfl⟩
abbrev main_v531 : Ref sig .tc := ⟨.hbm, 776, rfl⟩
abbrev main_v532 : Ref sig .tc := ⟨.hbm, 777, rfl⟩
abbrev main_v533 : Ref sig .tc := ⟨.hbm, 778, rfl⟩
abbrev main_v534 : Ref sig .tc := ⟨.hbm, 779, rfl⟩
abbrev main_v535 : Ref sig .tc := ⟨.hbm, 780, rfl⟩
abbrev main_v536 : Ref sig .tc := ⟨.hbm, 781, rfl⟩
abbrev main_v537 : Ref sig .tc := ⟨.hbm, 782, rfl⟩
abbrev main_v538 : Ref sig .tc := ⟨.hbm, 783, rfl⟩
abbrev main_v539 : Ref sig .tc := ⟨.hbm, 784, rfl⟩
abbrev main_v540 : Ref sig .tc := ⟨.hbm, 785, rfl⟩
abbrev main_v541 : Ref sig .tc := ⟨.hbm, 786, rfl⟩
abbrev main_v542 : Ref sig .tc := ⟨.hbm, 787, rfl⟩
abbrev main_v543 : Ref sig .tc := ⟨.hbm, 788, rfl⟩
abbrev main_v544 : Ref sig .tc := ⟨.hbm, 789, rfl⟩
abbrev main_cst_137 : Ref sig .tc := ⟨.hbm, 790, rfl⟩
abbrev main_v545 : Ref sig .tc := ⟨.hbm, 791, rfl⟩
abbrev main_v546 : Ref sig .tc := ⟨.hbm, 792, rfl⟩
abbrev main_v547 : Ref sig .tc := ⟨.hbm, 793, rfl⟩
abbrev main_v548 : Ref sig .tc := ⟨.hbm, 794, rfl⟩
abbrev main_v549 : Ref sig .tc := ⟨.hbm, 795, rfl⟩
abbrev main_v550 : Ref sig .tc := ⟨.hbm, 796, rfl⟩
abbrev main_cst_138 : Ref sig .tc := ⟨.hbm, 797, rfl⟩
abbrev main_v551 : Ref sig .tc := ⟨.hbm, 798, rfl⟩
abbrev main_v552 : Ref sig .tc := ⟨.hbm, 799, rfl⟩
abbrev main_v553 : Ref sig .tc := ⟨.hbm, 800, rfl⟩
abbrev main_cst_139 : Ref sig .tc := ⟨.hbm, 801, rfl⟩
abbrev main_v554 : Ref sig .tc := ⟨.hbm, 802, rfl⟩
abbrev main_v555 : Ref sig .tc := ⟨.hbm, 803, rfl⟩
abbrev main_v556 : Ref sig .tc := ⟨.hbm, 804, rfl⟩
abbrev main_cst_140 : Ref sig .tc := ⟨.hbm, 805, rfl⟩
abbrev main_v557 : Ref sig .tc := ⟨.hbm, 806, rfl⟩
abbrev main_v558 : Ref sig .tc := ⟨.hbm, 807, rfl⟩
abbrev main_cst_141 : Ref sig .tc := ⟨.hbm, 808, rfl⟩
abbrev main_call12_v0 : Ref sig .tc := ⟨.hbm, 809, rfl⟩
abbrev main_call12_v1 : Ref sig .tc := ⟨.hbm, 810, rfl⟩
abbrev main_v559 : Ref sig .tc := ⟨.hbm, 811, rfl⟩
abbrev main_v560 : Ref sig .tc := ⟨.hbm, 812, rfl⟩
abbrev main_v561 : Ref sig .tc := ⟨.hbm, 813, rfl⟩
abbrev main_v562 : Ref sig .tc := ⟨.hbm, 814, rfl⟩
abbrev main_v563 : Ref sig .tc := ⟨.hbm, 815, rfl⟩
abbrev main_v564 : Ref sig .tc := ⟨.hbm, 816, rfl⟩
abbrev main_cst_142 : Ref sig .tc := ⟨.hbm, 817, rfl⟩
abbrev main_v565 : Ref sig .tc := ⟨.hbm, 818, rfl⟩
abbrev main_v566 : Ref sig .tc := ⟨.hbm, 819, rfl⟩
abbrev main_cst_143 : Ref sig .tc := ⟨.hbm, 820, rfl⟩
abbrev main_v567 : Ref sig .tc := ⟨.hbm, 821, rfl⟩
abbrev main_v568 : Ref sig .tc := ⟨.hbm, 822, rfl⟩
abbrev main_v569 : Ref sig .tc := ⟨.hbm, 823, rfl⟩
abbrev main_v570 : Ref sig .tc := ⟨.hbm, 824, rfl⟩
abbrev main_v571 : Ref sig .tc := ⟨.hbm, 825, rfl⟩
abbrev main_v572 : Ref sig .tc := ⟨.hbm, 826, rfl⟩
abbrev main_v573 : Ref sig .tc := ⟨.hbm, 827, rfl⟩
abbrev main_v574 : Ref sig .tc := ⟨.hbm, 828, rfl⟩
abbrev main_v575 : Ref sig .tc := ⟨.hbm, 829, rfl⟩
abbrev main_v576 : Ref sig .tc := ⟨.hbm, 830, rfl⟩
abbrev main_v577 : Ref sig .tc := ⟨.hbm, 831, rfl⟩
abbrev main_v578 : Ref sig .tc := ⟨.hbm, 832, rfl⟩
abbrev main_v579 : Ref sig .tc := ⟨.hbm, 833, rfl⟩
abbrev main_cst_144 : Ref sig .tc := ⟨.hbm, 834, rfl⟩
abbrev main_v580 : Ref sig .tc := ⟨.hbm, 835, rfl⟩
abbrev main_cst_145 : Ref sig .tc := ⟨.hbm, 836, rfl⟩
abbrev main_v581 : Ref sig .tc := ⟨.hbm, 837, rfl⟩
abbrev main_v582 : Ref sig .tc := ⟨.hbm, 838, rfl⟩
abbrev main_v583 : Ref sig .tc := ⟨.hbm, 839, rfl⟩

abbrev nD : Nat := 1
abbrev τ : Topo := Topo.v7x

variable {F : FTy → Type} [FloatOps F]
-- ==== Tree.lean ====
abbrev S2x2048x192 : Shape := ⟨3, ![2, 2048, 192]⟩
abbrev S2x2048x1 : Shape := ⟨3, ![2, 2048, 1]⟩
abbrev S2x192x4096 : Shape := ⟨3, ![2, 192, 4096]⟩
abbrev S2x4096x192 : Shape := ⟨3, ![2, 4096, 192]⟩
abbrev S1x2048x192 : Shape := ⟨3, ![1, 2048, 192]⟩
abbrev S1x2048x1 : Shape := ⟨3, ![1, 2048, 1]⟩
abbrev S1x192x4096 : Shape := ⟨3, ![1, 192, 4096]⟩
abbrev S1x4096x192 : Shape := ⟨3, ![1, 4096, 192]⟩
abbrev S4096x128 : Shape := ⟨2, ![4096, 128]⟩
abbrev S2048x192 : Shape := ⟨2, ![2048, 192]⟩
abbrev S2048x128 : Shape := ⟨2, ![2048, 128]⟩
abbrev S2048x64 : Shape := ⟨2, ![2048, 64]⟩
abbrev S2048x1 : Shape := ⟨2, ![2048, 1]⟩
abbrev S192x2048 : Shape := ⟨2, ![192, 2048]⟩
abbrev S1x192x2048 : Shape := ⟨3, ![1, 192, 2048]⟩
abbrev S1024x128 : Shape := ⟨2, ![1024, 128]⟩
abbrev S1x1024x128 : Shape := ⟨3, ![1, 1024, 128]⟩
abbrev S1024x64 : Shape := ⟨2, ![1024, 64]⟩
abbrev S1x1024x64 : Shape := ⟨3, ![1, 1024, 64]⟩
abbrev S128x1024 : Shape := ⟨2, ![128, 1024]⟩
abbrev S1x128x1024 : Shape := ⟨3, ![1, 128, 1024]⟩
abbrev S64x1024 : Shape := ⟨2, ![64, 1024]⟩
abbrev S1x64x1024 : Shape := ⟨3, ![1, 64, 1024]⟩
abbrev S512x128 : Shape := ⟨2, ![512, 128]⟩
abbrev S1x512x128 : Shape := ⟨3, ![1, 512, 128]⟩
abbrev S512x64 : Shape := ⟨2, ![512, 64]⟩
abbrev S1x512x64 : Shape := ⟨3, ![1, 512, 64]⟩
abbrev S128x512 : Shape := ⟨2, ![128, 512]⟩
abbrev S1x128x512 : Shape := ⟨3, ![1, 128, 512]⟩
abbrev S64x512 : Shape := ⟨2, ![64, 512]⟩
abbrev S1x64x512 : Shape := ⟨3, ![1, 64, 512]⟩
abbrev S256x128 : Shape := ⟨2, ![256, 128]⟩
abbrev S1x256x128 : Shape := ⟨3, ![1, 256, 128]⟩
abbrev S256x64 : Shape := ⟨2, ![256, 64]⟩
abbrev S1x256x64 : Shape := ⟨3, ![1, 256, 64]⟩
abbrev S128x256 : Shape := ⟨2, ![128, 256]⟩
abbrev S1x128x256 : Shape := ⟨3, ![1, 128, 256]⟩
abbrev S64x256 : Shape := ⟨2, ![64, 256]⟩
abbrev S1x64x256 : Shape := ⟨3, ![1, 64, 256]⟩
abbrev S128x128 : Shape := ⟨2, ![128, 128]⟩
abbrev S1x128x128 : Shape := ⟨3, ![1, 128, 128]⟩
abbrev S128x64 : Shape := ⟨2, ![128, 64]⟩
abbrev S1x128x64 : Shape := ⟨3, ![1, 128, 64]⟩
abbrev S64x128 : Shape := ⟨2, ![64, 128]⟩
abbrev S1x64x128 : Shape := ⟨3, ![1, 64, 128]⟩
abbrev S64x64 : Shape := ⟨2, ![64, 64]⟩
abbrev S1x64x64 : Shape := ⟨3, ![1, 64, 64]⟩
abbrev S32x128 : Shape := ⟨2, ![32, 128]⟩
abbrev S1x32x128 : Shape := ⟨3, ![1, 32, 128]⟩
abbrev S32x64 : Shape := ⟨2, ![32, 64]⟩
abbrev S1x32x64 : Shape := ⟨3, ![1, 32, 64]⟩
abbrev S128x32 : Shape := ⟨2, ![128, 32]⟩
abbrev S1x128x32 : Shape := ⟨3, ![1, 128, 32]⟩
abbrev S64x32 : Shape := ⟨2, ![64, 32]⟩
abbrev S1x64x32 : Shape := ⟨3, ![1, 64, 32]⟩
abbrev S16x128 : Shape := ⟨2, ![16, 128]⟩
abbrev S1x16x128 : Shape := ⟨3, ![1, 16, 128]⟩
abbrev S16x64 : Shape := ⟨2, ![16, 64]⟩
abbrev S1x16x64 : Shape := ⟨3, ![1, 16, 64]⟩
abbrev S128x16 : Shape := ⟨2, ![128, 16]⟩
abbrev S1x128x16 : Shape := ⟨3, ![1, 128, 16]⟩
abbrev S64x16 : Shape := ⟨2, ![64, 16]⟩
abbrev S1x64x16 : Shape := ⟨3, ![1, 64, 16]⟩
abbrev S8x128 : Shape := ⟨2, ![8, 128]⟩
abbrev S1x8x128 : Shape := ⟨3, ![1, 8, 128]⟩
abbrev S8x64 : Shape := ⟨2, ![8, 64]⟩
abbrev S1x8x64 : Shape := ⟨3, ![1, 8, 64]⟩
abbrev S128x8 : Shape := ⟨2, ![128, 8]⟩
abbrev S1x128x8 : Shape := ⟨3, ![1, 128, 8]⟩
abbrev S64x8 : Shape := ⟨2, ![64, 8]⟩
abbrev S1x64x8 : Shape := ⟨3, ![1, 64, 8]⟩
abbrev S4x128 : Shape := ⟨2, ![4, 128]⟩
abbrev S1x4x128 : Shape := ⟨3, ![1, 4, 128]⟩
abbrev S4x64 : Shape := ⟨2, ![4, 64]⟩
abbrev S1x4x64 : Shape := ⟨3, ![1, 4, 64]⟩
abbrev S128x4 : Shape := ⟨2, ![128, 4]⟩
abbrev S1x128x4 : Shape := ⟨3, ![1, 128, 4]⟩
abbrev S64x4 : Shape := ⟨2, ![64, 4]⟩
abbrev S1x64x4 : Shape := ⟨3, ![1, 64, 4]⟩
abbrev S2x128 : Shape := ⟨2, ![2, 128]⟩
abbrev S1x2x128 : Shape := ⟨3, ![1, 2, 128]⟩
abbrev S2x64 : Shape := ⟨2, ![2, 64]⟩
abbrev S1x2x64 : Shape := ⟨3, ![1, 2, 64]⟩
abbrev S128x2 : Shape := ⟨2, ![128, 2]⟩
abbrev S1x128x2 : Shape := ⟨3, ![1, 128, 2]⟩
abbrev S64x2 : Shape := ⟨2, ![64, 2]⟩
abbrev S1x64x2 : Shape := ⟨3, ![1, 64, 2]⟩
abbrev S1x128 : Shape := ⟨2, ![1, 128]⟩
abbrev S1x1x128 : Shape := ⟨3, ![1, 1, 128]⟩
abbrev S1x64 : Shape := ⟨2, ![1, 64]⟩
abbrev S1x1x64 : Shape := ⟨3, ![1, 1, 64]⟩
abbrev S128x1 : Shape := ⟨2, ![128, 1]⟩
abbrev S1x128x1 : Shape := ⟨3, ![1, 128, 1]⟩
abbrev S64x1 : Shape := ⟨2, ![64, 1]⟩
abbrev S1x64x1 : Shape := ⟨3, ![1, 64, 1]⟩
abbrev S1x192 : Shape := ⟨2, ![1, 192]⟩
abbrev S1x1x192 : Shape := ⟨3, ![1, 1, 192]⟩
abbrev S192x1 : Shape := ⟨2, ![192, 1]⟩
abbrev S1x192x1 : Shape := ⟨3, ![1, 192, 1]⟩

abbrev nBuf : Space → Nat
  | .hbm => 5
  | .vmem => 15
  | .smem => 0
  | _ => 0

abbrev bufTy : (tb : Table) → Fin (tcTables nBuf tb) → BufTy
  | .hbm, ⟨0, _⟩ => ⟨S2x2048x192, .f32⟩
  | .hbm, ⟨1, _⟩ => ⟨S2x2048x192, .f32⟩
  | .hbm, ⟨2, _⟩ => ⟨S2x2048x1, .f32⟩
  | .hbm, ⟨3, _⟩ => ⟨S2x192x4096, .f32⟩
  | .hbm, ⟨4, _⟩ => ⟨S2x4096x192, .f32⟩
  | .local _ .vmem, ⟨0, _⟩ => ⟨S1x2048x192, .f32⟩
  | .local _ .vmem, ⟨1, _⟩ => ⟨S1x2048x192, .f32⟩
  | .local _ .vmem, ⟨2, _⟩ => ⟨S1x2048x192, .f32⟩
  | .local _ .vmem, ⟨3, _⟩ => ⟨S1x2048x192, .f32⟩
  | .local _ .vmem, ⟨4, _⟩ => ⟨S1x2048x1, .f32⟩
  | .local _ .vmem, ⟨5, _⟩ => ⟨S1x2048x1, .f32⟩
  | .local _ .vmem, ⟨6, _⟩ => ⟨S1x192x4096, .f32⟩
  | .local _ .vmem, ⟨7, _⟩ => ⟨S1x192x4096, .f32⟩
  | .local _ .vmem, ⟨8, _⟩ => ⟨S1x4096x192, .f32⟩
  | .local _ .vmem, ⟨9, _⟩ => ⟨S1x4096x192, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | _, _ => ⟨S2x2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x192x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== TreeRefIdeal.lean ====
abbrev S2x2048x192 : Shape := ⟨3, ![2, 2048, 192]⟩
abbrev S2x2048x1 : Shape := ⟨3, ![2, 2048, 1]⟩
abbrev S2x1024x192 : Shape := ⟨3, ![2, 1024, 192]⟩
abbrev S2x1024x1 : Shape := ⟨3, ![2, 1024, 1]⟩
abbrev S_ : Shape := ⟨0, ![]⟩
abbrev S2x512x192 : Shape := ⟨3, ![2, 512, 192]⟩
abbrev S2x512x1 : Shape := ⟨3, ![2, 512, 1]⟩
abbrev S2x256x192 : Shape := ⟨3, ![2, 256, 192]⟩
abbrev S2x256x1 : Shape := ⟨3, ![2, 256, 1]⟩
abbrev S2x128x192 : Shape := ⟨3, ![2, 128, 192]⟩
abbrev S2x128x1 : Shape := ⟨3, ![2, 128, 1]⟩
abbrev S2x64x192 : Shape := ⟨3, ![2, 64, 192]⟩
abbrev S2x64x1 : Shape := ⟨3, ![2, 64, 1]⟩
abbrev S2x32x192 : Shape := ⟨3, ![2, 32, 192]⟩
abbrev S2x32x1 : Shape := ⟨3, ![2, 32, 1]⟩
abbrev S2x16x192 : Shape := ⟨3, ![2, 16, 192]⟩
abbrev S2x16x1 : Shape := ⟨3, ![2, 16, 1]⟩
abbrev S2x8x192 : Shape := ⟨3, ![2, 8, 192]⟩
abbrev S2x8x1 : Shape := ⟨3, ![2, 8, 1]⟩
abbrev S2x4x192 : Shape := ⟨3, ![2, 4, 192]⟩
abbrev S2x4x1 : Shape := ⟨3, ![2, 4, 1]⟩
abbrev S2x2x192 : Shape := ⟨3, ![2, 2, 192]⟩
abbrev S2x2x1 : Shape := ⟨3, ![2, 2, 1]⟩
abbrev S2x1x192 : Shape := ⟨3, ![2, 1, 192]⟩
abbrev S2x1x1 : Shape := ⟨3, ![2, 1, 1]⟩
abbrev S2x4096x192 : Shape := ⟨3, ![2, 4096, 192]⟩
abbrev S2x192x4096 : Shape := ⟨3, ![2, 192, 4096]⟩

abbrev nBuf : Space → Nat
  | .hbm => 272
  | .vmem => 0
  | .smem => 0
  | _ => 0

abbrev hbmTy0_0 (i : Nat) : BufTy := match i % 128 with
  | 0 => ⟨S2x2048x192, .f32⟩
  | 1 => ⟨S2x2048x192, .f32⟩
  | 2 => ⟨S2x2048x1, .f32⟩
  | 3 => ⟨S2x1024x192, .f32⟩
  | 4 => ⟨S2x1024x192, .f32⟩
  | 5 => ⟨S2x1024x192, .f32⟩
  | 6 => ⟨S2x1024x192, .f32⟩
  | 7 => ⟨S2x1024x1, .f32⟩
  | 8 => ⟨S2x1024x1, .f32⟩
  | 9 => ⟨S2x1024x1, .f32⟩
  | 10 => ⟨S_, .f32⟩
  | 11 => ⟨S2x1024x1, .f32⟩
  | 12 => ⟨S2x1024x1, .f32⟩
  | 13 => ⟨S2x1024x192, .f32⟩
  | 14 => ⟨S2x1024x192, .f32⟩
  | 15 => ⟨S2x1024x192, .f32⟩
  | 16 => ⟨S2x1024x192, .f32⟩
  | 17 => ⟨S2x1024x192, .f32⟩
  | 18 => ⟨S2x1024x192, .f32⟩
  | 19 => ⟨S2x1024x192, .f32⟩
  | 20 => ⟨S2x1024x192, .f32⟩
  | 21 => ⟨S2x1024x192, .f32⟩
  | 22 => ⟨S2x1024x192, .f32⟩
  | 23 => ⟨S2x1024x192, .f32⟩
  | 24 => ⟨S2x1024x192, .f32⟩
  | 25 => ⟨S2x1024x192, .f32⟩
  | 26 => ⟨S2x1024x192, .f32⟩
  | 27 => ⟨S2x512x192, .f32⟩
  | 28 => ⟨S2x512x192, .f32⟩
  | 29 => ⟨S2x512x192, .f32⟩
  | 30 => ⟨S2x512x192, .f32⟩
  | 31 => ⟨S2x512x1, .f32⟩
  | 32 => ⟨S2x512x1, .f32⟩
  | 33 => ⟨S2x512x1, .f32⟩
  | 34 => ⟨S_, .f32⟩
  | 35 => ⟨S2x512x1, .f32⟩
  | 36 => ⟨S2x512x1, .f32⟩
  | 37 => ⟨S2x512x192, .f32⟩
  | 38 => ⟨S2x512x192, .f32⟩
  | 39 => ⟨S2x512x192, .f32⟩
  | 40 => ⟨S2x512x192, .f32⟩
  | 41 => ⟨S2x512x192, .f32⟩
  | 42 => ⟨S2x512x192, .f32⟩
  | 43 => ⟨S2x512x192, .f32⟩
  | 44 => ⟨S2x512x192, .f32⟩
  | 45 => ⟨S2x512x192, .f32⟩
  | 46 => ⟨S2x512x192, .f32⟩
  | 47 => ⟨S2x512x192, .f32⟩
  | 48 => ⟨S2x512x192, .f32⟩
  | 49 => ⟨S2x512x192, .f32⟩
  | 50 => ⟨S2x512x192, .f32⟩
  | 51 => ⟨S2x256x192, .f32⟩
  | 52 => ⟨S2x256x192, .f32⟩
  | 53 => ⟨S2x256x192, .f32⟩
  | 54 => ⟨S2x256x192, .f32⟩
  | 55 => ⟨S2x256x1, .f32⟩
  | 56 => ⟨S2x256x1, .f32⟩
  | 57 => ⟨S2x256x1, .f32⟩
  | 58 => ⟨S_, .f32⟩
  | 59 => ⟨S2x256x1, .f32⟩
  | 60 => ⟨S2x256x1, .f32⟩
  | 61 => ⟨S2x256x192, .f32⟩
  | 62 => ⟨S2x256x192, .f32⟩
  | 63 => ⟨S2x256x192, .f32⟩
  | 64 => ⟨S2x256x192, .f32⟩
  | 65 => ⟨S2x256x192, .f32⟩
  | 66 => ⟨S2x256x192, .f32⟩
  | 67 => ⟨S2x256x192, .f32⟩
  | 68 => ⟨S2x256x192, .f32⟩
  | 69 => ⟨S2x256x192, .f32⟩
  | 70 => ⟨S2x256x192, .f32⟩
  | 71 => ⟨S2x256x192, .f32⟩
  | 72 => ⟨S2x256x192, .f32⟩
  | 73 => ⟨S2x256x192, .f32⟩
  | 74 => ⟨S2x256x192, .f32⟩
  | 75 => ⟨S2x128x192, .f32⟩
  | 76 => ⟨S2x128x192, .f32⟩
  | 77 => ⟨S2x128x192, .f32⟩
  | 78 => ⟨S2x128x192, .f32⟩
  | 79 => ⟨S2x128x1, .f32⟩
  | 80 => ⟨S2x128x1, .f32⟩
  | 81 => ⟨S2x128x1, .f32⟩
  | 82 => ⟨S_, .f32⟩
  | 83 => ⟨S2x128x1, .f32⟩
  | 84 => ⟨S2x128x1, .f32⟩
  | 85 => ⟨S2x128x192, .f32⟩
  | 86 => ⟨S2x128x192, .f32⟩
  | 87 => ⟨S2x128x192, .f32⟩
  | 88 => ⟨S2x128x192, .f32⟩
  | 89 => ⟨S2x128x192, .f32⟩
  | 90 => ⟨S2x128x192, .f32⟩
  | 91 => ⟨S2x128x192, .f32⟩
  | 92 => ⟨S2x128x192, .f32⟩
  | 93 => ⟨S2x128x192, .f32⟩
  | 94 => ⟨S2x128x192, .f32⟩
  | 95 => ⟨S2x128x192, .f32⟩
  | 96 => ⟨S2x128x192, .f32⟩
  | 97 => ⟨S2x128x192, .f32⟩
  | 98 => ⟨S2x128x192, .f32⟩
  | 99 => ⟨S2x64x192, .f32⟩
  | 100 => ⟨S2x64x192, .f32⟩
  | 101 => ⟨S2x64x192, .f32⟩
  | 102 => ⟨S2x64x192, .f32⟩
  | 103 => ⟨S2x64x1, .f32⟩
  | 104 => ⟨S2x64x1, .f32⟩
  | 105 => ⟨S2x64x1, .f32⟩
  | 106 => ⟨S_, .f32⟩
  | 107 => ⟨S2x64x1, .f32⟩
  | 108 => ⟨S2x64x1, .f32⟩
  | 109 => ⟨S2x64x192, .f32⟩
  | 110 => ⟨S2x64x192, .f32⟩
  | 111 => ⟨S2x64x192, .f32⟩
  | 112 => ⟨S2x64x192, .f32⟩
  | 113 => ⟨S2x64x192, .f32⟩
  | 114 => ⟨S2x64x192, .f32⟩
  | 115 => ⟨S2x64x192, .f32⟩
  | 116 => ⟨S2x64x192, .f32⟩
  | 117 => ⟨S2x64x192, .f32⟩
  | 118 => ⟨S2x64x192, .f32⟩
  | 119 => ⟨S2x64x192, .f32⟩
  | 120 => ⟨S2x64x192, .f32⟩
  | 121 => ⟨S2x64x192, .f32⟩
  | 122 => ⟨S2x64x192, .f32⟩
  | 123 => ⟨S2x32x192, .f32⟩
  | 124 => ⟨S2x32x192, .f32⟩
  | 125 => ⟨S2x32x192, .f32⟩
  | 126 => ⟨S2x32x192, .f32⟩
  | 127 => ⟨S2x32x1, .f32⟩
  | _ => ⟨S2x2048x192, .f32⟩

abbrev hbmTy0_1 (i : Nat) : BufTy := match i % 128 with
  | 0 => ⟨S2x32x1, .f32⟩
  | 1 => ⟨S2x32x1, .f32⟩
  | 2 => ⟨S_, .f32⟩
  | 3 => ⟨S2x32x1, .f32⟩
  | 4 => ⟨S2x32x1, .f32⟩
  | 5 => ⟨S2x32x192, .f32⟩
  | 6 => ⟨S2x32x192, .f32⟩
  | 7 => ⟨S2x32x192, .f32⟩
  | 8 => ⟨S2x32x192, .f32⟩
  | 9 => ⟨S2x32x192, .f32⟩
  | 10 => ⟨S2x32x192, .f32⟩
  | 11 => ⟨S2x32x192, .f32⟩
  | 12 => ⟨S2x32x192, .f32⟩
  | 13 => ⟨S2x32x192, .f32⟩
  | 14 => ⟨S2x32x192, .f32⟩
  | 15 => ⟨S2x32x192, .f32⟩
  | 16 => ⟨S2x32x192, .f32⟩
  | 17 => ⟨S2x32x192, .f32⟩
  | 18 => ⟨S2x32x192, .f32⟩
  | 19 => ⟨S2x16x192, .f32⟩
  | 20 => ⟨S2x16x192, .f32⟩
  | 21 => ⟨S2x16x192, .f32⟩
  | 22 => ⟨S2x16x192, .f32⟩
  | 23 => ⟨S2x16x1, .f32⟩
  | 24 => ⟨S2x16x1, .f32⟩
  | 25 => ⟨S2x16x1, .f32⟩
  | 26 => ⟨S_, .f32⟩
  | 27 => ⟨S2x16x1, .f32⟩
  | 28 => ⟨S2x16x1, .f32⟩
  | 29 => ⟨S2x16x192, .f32⟩
  | 30 => ⟨S2x16x192, .f32⟩
  | 31 => ⟨S2x16x192, .f32⟩
  | 32 => ⟨S2x16x192, .f32⟩
  | 33 => ⟨S2x16x192, .f32⟩
  | 34 => ⟨S2x16x192, .f32⟩
  | 35 => ⟨S2x16x192, .f32⟩
  | 36 => ⟨S2x16x192, .f32⟩
  | 37 => ⟨S2x16x192, .f32⟩
  | 38 => ⟨S2x16x192, .f32⟩
  | 39 => ⟨S2x16x192, .f32⟩
  | 40 => ⟨S2x16x192, .f32⟩
  | 41 => ⟨S2x16x192, .f32⟩
  | 42 => ⟨S2x16x192, .f32⟩
  | 43 => ⟨S2x8x192, .f32⟩
  | 44 => ⟨S2x8x192, .f32⟩
  | 45 => ⟨S2x8x192, .f32⟩
  | 46 => ⟨S2x8x192, .f32⟩
  | 47 => ⟨S2x8x1, .f32⟩
  | 48 => ⟨S2x8x1, .f32⟩
  | 49 => ⟨S2x8x1, .f32⟩
  | 50 => ⟨S_, .f32⟩
  | 51 => ⟨S2x8x1, .f32⟩
  | 52 => ⟨S2x8x1, .f32⟩
  | 53 => ⟨S2x8x192, .f32⟩
  | 54 => ⟨S2x8x192, .f32⟩
  | 55 => ⟨S2x8x192, .f32⟩
  | 56 => ⟨S2x8x192, .f32⟩
  | 57 => ⟨S2x8x192, .f32⟩
  | 58 => ⟨S2x8x192, .f32⟩
  | 59 => ⟨S2x8x192, .f32⟩
  | 60 => ⟨S2x8x192, .f32⟩
  | 61 => ⟨S2x8x192, .f32⟩
  | 62 => ⟨S2x8x192, .f32⟩
  | 63 => ⟨S2x8x192, .f32⟩
  | 64 => ⟨S2x8x192, .f32⟩
  | 65 => ⟨S2x8x192, .f32⟩
  | 66 => ⟨S2x8x192, .f32⟩
  | 67 => ⟨S2x4x192, .f32⟩
  | 68 => ⟨S2x4x192, .f32⟩
  | 69 => ⟨S2x4x192, .f32⟩
  | 70 => ⟨S2x4x192, .f32⟩
  | 71 => ⟨S2x4x1, .f32⟩
  | 72 => ⟨S2x4x1, .f32⟩
  | 73 => ⟨S2x4x1, .f32⟩
  | 74 => ⟨S_, .f32⟩
  | 75 => ⟨S2x4x1, .f32⟩
  | 76 => ⟨S2x4x1, .f32⟩
  | 77 => ⟨S2x4x192, .f32⟩
  | 78 => ⟨S2x4x192, .f32⟩
  | 79 => ⟨S2x4x192, .f32⟩
  | 80 => ⟨S2x4x192, .f32⟩
  | 81 => ⟨S2x4x192, .f32⟩
  | 82 => ⟨S2x4x192, .f32⟩
  | 83 => ⟨S2x4x192, .f32⟩
  | 84 => ⟨S2x4x192, .f32⟩
  | 85 => ⟨S2x4x192, .f32⟩
  | 86 => ⟨S2x4x192, .f32⟩
  | 87 => ⟨S2x4x192, .f32⟩
  | 88 => ⟨S2x4x192, .f32⟩
  | 89 => ⟨S2x4x192, .f32⟩
  | 90 => ⟨S2x4x192, .f32⟩
  | 91 => ⟨S2x2x192, .f32⟩
  | 92 => ⟨S2x2x192, .f32⟩
  | 93 => ⟨S2x2x192, .f32⟩
  | 94 => ⟨S2x2x192, .f32⟩
  | 95 => ⟨S2x2x1, .f32⟩
  | 96 => ⟨S2x2x1, .f32⟩
  | 97 => ⟨S2x2x1, .f32⟩
  | 98 => ⟨S_, .f32⟩
  | 99 => ⟨S2x2x1, .f32⟩
  | 100 => ⟨S2x2x1, .f32⟩
  | 101 => ⟨S2x2x192, .f32⟩
  | 102 => ⟨S2x2x192, .f32⟩
  | 103 => ⟨S2x2x192, .f32⟩
  | 104 => ⟨S2x2x192, .f32⟩
  | 105 => ⟨S2x2x192, .f32⟩
  | 106 => ⟨S2x2x192, .f32⟩
  | 107 => ⟨S2x2x192, .f32⟩
  | 108 => ⟨S2x2x192, .f32⟩
  | 109 => ⟨S2x2x192, .f32⟩
  | 110 => ⟨S2x2x192, .f32⟩
  | 111 => ⟨S2x2x192, .f32⟩
  | 112 => ⟨S2x2x192, .f32⟩
  | 113 => ⟨S2x2x192, .f32⟩
  | 114 => ⟨S2x2x192, .f32⟩
  | 115 => ⟨S2x1x192, .f32⟩
  | 116 => ⟨S2x1x192, .f32⟩
  | 117 => ⟨S2x1x192, .f32⟩
  | 118 => ⟨S2x1x192, .f32⟩
  | 119 => ⟨S2x1x1, .f32⟩
  | 120 => ⟨S2x1x1, .f32⟩
  | 121 => ⟨S2x1x1, .f32⟩
  | 122 => ⟨S_, .f32⟩
  | 123 => ⟨S2x1x1, .f32⟩
  | 124 => ⟨S2x1x1, .f32⟩
  | 125 => ⟨S2x1x192, .f32⟩
  | 126 => ⟨S2x1x192, .f32⟩
  | 127 => ⟨S2x1x192, .f32⟩
  | _ => ⟨S2x2048x192, .f32⟩

abbrev hbmTy0_2 (i : Nat) : BufTy := match i % 128 with
  | 0 => ⟨S2x1x192, .f32⟩
  | 1 => ⟨S2x1x192, .f32⟩
  | 2 => ⟨S2x1x192, .f32⟩
  | 3 => ⟨S2x1x192, .f32⟩
  | 4 => ⟨S2x1x192, .f32⟩
  | 5 => ⟨S2x1x192, .f32⟩
  | 6 => ⟨S2x1x192, .f32⟩
  | 7 => ⟨S2x1x192, .f32⟩
  | 8 => ⟨S2x1x192, .f32⟩
  | 9 => ⟨S2x1x192, .f32⟩
  | 10 => ⟨S2x1x192, .f32⟩
  | 11 => ⟨S_, .f32⟩
  | 12 => ⟨S2x1x192, .f32⟩
  | 13 => ⟨S2x4096x192, .f32⟩
  | 14 => ⟨S2x4096x192, .f32⟩
  | 15 => ⟨S2x192x4096, .f32⟩
  | _ => ⟨S2x2048x192, .f32⟩

abbrev hbmTy (i : Nat) : BufTy := match i / 128 with
  | 0 => hbmTy0_0 i
  | 1 => hbmTy0_1 i
  | 2 => hbmTy0_2 i
  | _ => ⟨S2x2048x192, .f32⟩

abbrev bufTy : (tb : Table) → Fin (tcTables nBuf tb) → BufTy
  | .hbm, ⟨i, _⟩ => hbmTy i
  | _, _ => ⟨S2x2048x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_cst_1 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_cst_2 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_cst_3 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_cst_4 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_cst_5 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_cst_6 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_cst_7 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_cst_8 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_cst_9 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_cst_10 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩

abbrev nD : Nat := 1
abbrev τ : Topo := Topo.v7x

variable {F : FTy → Type} [FloatOps F]
-- ==== Proof.PrepValue.lean ====
/- The projection call: every result array of `PrepIdeal` is the corresponding result of `PrepRefIdeal`.
   The reference's results are read at an index first (`ref_q` … `ref_sc`), then each block the kernel writes back is
   read at an element and its operands are traced to the arguments. -/
module

public import proofs.«01_k».proof.Proof.Gen.PrepIdeal.Value
public import proofs.«01_k».proof.Proof.Gen.PrepRefIdeal.Run
public import proofs.«01_k».proof.Proof.Gen.PrepRefIdeal.Read
public import Idealize.ShloMosaic.Lib.Pipeline.ValueKit
public import Idealize.ShloMosaic.Lib.Pointwise

@[expose] public section

set_option maxRecDepth 16384

noncomputable section

namespace Cert.PrepTie
open Cert.PrepIdeal Cert.PrepIdeal.Gen Idealize.ShloMosaic Idealize.ShloMosaic.TcCoe Idealize.SL.Sem
open Cert.PrepRefIdeal.Read

/-- Row `R` of the flattened arrays lies in batch `R / 2048` … -/
abbrev bOf (R : Fin 4096) : Fin 2 := ⟨R.val / 2048, by omega⟩
/-- … at position `R % 2048`. -/
abbrev sOf (R : Fin 4096) : Fin 2048 := ⟨R.val % 2048, by omega⟩

/-- An array of extended reals. -/
abbrev Arr (s : Shape) := s.Idx → EReal

/-! ## Constants -/

theorem c192 : Ideal.ofBits .f32 1128267776#32 = ((192 : ℝ) : EReal) := by
  simp [Ideal.ofBits, Ideal.ieee, -EReal.coe_mul]; norm_num

theorem cBot : Ideal.ofBits .f32 4286578688#32 = (⊥ : EReal) := by
  simp [Ideal.ofBits, Ideal.ieee]

theorem kInv : Named.named (F := Ideal) κ "inv_sqrt_m" (φ := .f32) 1033096506#32 = (((Real.sqrt 192)⁻¹ : ℝ) : EReal) :=
  IdealRules.named_const.ideal_named_scalar _ _ _ _ rfl

/-- Dividing by the root of 192 is multiplying by the named reciprocal. -/
theorem div_root (x : EReal) :
    Ideal.div x (Ideal.sqrt (Ideal.ofBits .f32 1128267776#32)) = x * Named.named (F := Ideal) κ "inv_sqrt_m" (φ := .f32) 1033096506#32 := by
  rw [kInv, c192, Ideal.sqrt_coe, if_neg (by norm_num : ¬ (192 : ℝ) < 0),
    Ideal.div_coe (show Real.sqrt 192 ≠ 0 from (Real.sqrt_pos.mpr (by norm_num)).ne'), one_div]

/-- A sum over the 4103 concatenated features, piece by piece. -/
theorem cut3 (F : Fin 4103 → EReal) :
    ∑ k, F k = ∑ k : Fin 2048, F ⟨k.val, by omega⟩ + ∑ k : Fin 2048, F ⟨2048 + k.val, by omega⟩ + ∑ k : Fin 7, F ⟨4096 + k.val, by omega⟩ := by
  rw [show (∑ k, F k) = ∑ k : Fin (4096 + 7), F k from rfl, Fin.sum_univ_add,
    show (∑ k : Fin 4096, F (Fin.castAdd 7 k)) = ∑ k : Fin (2048 + 2048), F (Fin.castAdd 7 k) from rfl, Fin.sum_univ_add]
  rfl

/-! ## The reference at an index -/

/-- A dense layer's row: the products of a row of the first argument with a column of the weights, plus the bias. -/
theorem ref_q (x0 : Arr S2x2048x2048) (x3 : Arr S2048x192) (x4 : Arr S192) (R : Fin 4096) (j : Fin 192) :
    val_main_v53 (F := Ideal) x0 x3 x4 (ix2 R j) = ∑ k : Fin 2048, x0 (ix3 (bOf R) (sOf R) k) * x3 (ix2 k j) + x4 (ix1 j) := by
  pointwise [val_main_v53, val_main_v12, val_main_v11, val_main_v10, val_main_v9, val_main_v8]

theorem ref_k (x0 : Arr S2x2048x2048) (x3 : Arr S2048x192) (x4 : Arr S192) (R : Fin 4096) (j : Fin 192) :
    val_main_v54 (F := Ideal) x0 x3 x4 (ix2 R j) = ∑ k : Fin 2048, x0 (ix3 (bOf R) (sOf R) k) * x3 (ix2 k j) + x4 (ix1 j) := by
  pointwise [val_main_v54, val_main_v3, val_main_v2, val_main_v1, val_main_v0]

theorem ref_v (x0 : Arr S2x2048x2048) (x3 : Arr S2048x192) (x4 : Arr S192) (R : Fin 4096) (j : Fin 192) :
    val_main_v55 (F := Ideal) x0 x3 x4 (ix2 R j) = ∑ k : Fin 2048, x0 (ix3 (bOf R) (sOf R) k) * x3 (ix2 k j) + x4 (ix1 j) := by
  pointwise [val_main_v55, val_main_v7, val_main_v6, val_main_v5, val_main_v4]

/-- The scale network's hidden pre-activation in row `R`, feature `j`: one sum per concatenated piece. -/
def hid (x0 x1 : Arr S2x2048x2048) (x2 : Arr S2x2048x7) (x9 : Arr S4103x256) (x10 : Arr S256) (R : Fin 4096) (j : Fin 256) : EReal :=
  ∑ k : Fin 2048, x0 (ix3 (bOf R) (sOf R) k) * x9 (ix2 ⟨k.val, by omega⟩ j)
    + ∑ k : Fin 2048, (0 - Ideal.log (max (x1 (ix3 (bOf R) (sOf R) k)) (Ideal.ofBits .f32 897988541#32))) * x9 (ix2 ⟨2048 + k.val, by omega⟩ j)
    + ∑ k : Fin 7, x2 (ix3 (bOf R) (sOf R) k) * x9 (ix2 ⟨4096 + k.val, by omega⟩ j)
    + x10 (ix1 j)

theorem ref_s (x0 x1 : Arr S2x2048x2048) (x2 : Arr S2x2048x7) (x9 : Arr S4103x256) (x10 : Arr S256) (x11 : Arr S256x1) (x12 : Arr S1)
    (R : Fin 4096) (j : Fin 1) :
    val_main_v56 (F := Ideal) x0 x1 x2 x9 x10 x11 x12 (ix2 R j) =
      Ideal.logistic (∑ k : Fin 256, hid x0 x1 x2 x9 x10 R k * Ideal.logistic (hid x0 x1 x2 x9 x10 R k) * x11 (ix2 k 0) + x12 (ix1 0)) := by
  pointwise [val_main_v56, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15,
    val_main_v14, val_main_v13, val_main_call1_v5, val_main_call1_v4, val_main_call1_v3, val_main_call1_v2, val_main_call1_v1, val_main_call1_v0,
    val_main_call0_v1, val_main_call0_v0, val_main_cst, val_main_cst_0, val_main_cst_1, val_main_call1_cst, val_main_call1_cst_0]
  have hh : ∀ k : Fin 256, (∑ x : Fin 4103, (if h : x.val < 2048 then x0 (ix3 (bOf R) (sOf R) ⟨x.val, h⟩) else
        if h : x.val - 2048 < 2048 then -Ideal.log (max (id (constant (F := Ideal) PrepRefIdeal.S_ FTy.f32 897988541#32) ix0) (x1 (ix3 (bOf R) (sOf R) ⟨x.val - 2048, h⟩)))
        else x2 (ix3 (bOf R) (sOf R) ⟨x.val - 2048 - 2048, by omega⟩)) * x9 (ix2 x k)) + x10 (ix1 k) = hid x0 x1 x2 x9 x10 R k := by
    intro k
    rw [cut3]
    unfold hid
    refine congrArg₂ (· + ·) (congrArg₂ (· + ·) (congrArg₂ (· + ·) ?_ ?_) ?_) rfl
    · refine Finset.sum_congr rfl fun q _ => ?_
      dsimp only
      rw [dif_pos (show q.val < 2048 from q.isLt)]
    · refine Finset.sum_congr rfl fun q _ => ?_
      dsimp only
      rw [dif_neg (show ¬ 2048 + q.val < 2048 by omega), dif_pos (show 2048 + q.val - 2048 < 2048 by omega)]
      rw [zero_sub, max_comm]
      simp only [Nat.add_sub_cancel_left]
      rfl
    · refine Finset.sum_congr rfl fun q _ => ?_
      dsimp only
      rw [dif_neg (show ¬ 4096 + q.val < 2048 by omega), dif_neg (show ¬ 4096 + q.val - 2048 < 2048 by omega)]
      simp only [show 4096 + q.val - 2048 - 2048 = q.val by omega]
  simp only [hh]
  rfl

/-- The scratch attention's score of row `R` against scratch slot `e`. -/
def scr (x0 : Arr S2x2048x2048) (x3 : Arr S2048x192) (x4 : Arr S192) (x13 : Arr S192x192) (x14 : Arr S192) (x15 : Arr S1x8x192)
    (R : Fin 4096) (e : Fin 8) : EReal :=
  (∑ j : Fin 192, (∑ i : Fin 192, (∑ k : Fin 2048, x0 (ix3 (bOf R) (sOf R) k) * x3 (ix2 k i) + x4 (ix1 i)) * x13 (ix2 i j) + x14 (ix1 j))
      * x15 (ix3 0 e j)) * Named.named (F := Ideal) κ "inv_sqrt_m" (φ := .f32) 1033096506#32

theorem ref_sc (x0 : Arr S2x2048x2048) (x3 : Arr S2048x192) (x4 : Arr S192) (x13 : Arr S192x192) (x14 : Arr S192) (x15 : Arr S1x8x192)
    (R : Fin 4096) (j : Fin 192) :
    val_main_v57 (F := Ideal) x0 x3 x4 x13 x14 x15 (ix2 R j) =
      ∑ e : Fin 8, Ideal.div
          (Ideal.exp (scr x0 x3 x4 x13 x14 x15 R e - Finset.fold max (Ideal.ofBits .f32 4286578688#32) (scr x0 x3 x4 x13 x14 x15 R) Finset.univ))
          (∑ e' : Fin 8, Ideal.exp (scr x0 x3 x4 x13 x14 x15 R e' - Finset.fold max (Ideal.ofBits .f32 4286578688#32) (scr x0 x3 x4 x13 x14 x15 R) Finset.univ))
        * x15 (ix3 0 e j) := by
  pointwise [val_main_v57, val_main_v52, val_main_v51, val_main_v50, val_main_v49, val_main_v48, val_main_v47, val_main_v46, val_main_v45, val_main_v44,
   val_main_v43, val_main_v42, val_main_v41, val_main_v40, val_main_v39, val_main_v38, val_main_v37, val_main_v36, val_main_v35, val_main_v34, val_main_v33,
   val_main_v12, val_main_v11, val_main_v10, val_main_v9, val_main_v8, val_main_cst_2, val_main_cst_3, val_main_cst_4, val_main_cst_5]
  simp only [div_root, cBot, bot_le, max_eq_right]
  rfl

/-! ## The kernel's blocks -/

variable (m : (ℓ : Loc nD τ sig) → Buf (Elt Ideal) ℓ)

/-- The row of the flattened arrays at row `r` of block `t`. -/
abbrev row (t : Fin cfg0.N) (r : Fin 256) : Fin 4096 := ⟨t.val * 256 + r.val, by have : t.val < 16 := t.isLt; omega⟩

theorem idx : ∀ t : Fin cfg0.N, win0_0.index t = ![t.val, 0] ∧ win0_1.index t = ![t.val, 0] ∧ win0_2.index t = ![t.val, 0] ∧
    win0_3.index t = ![0, 0] ∧ win0_4.index t = ![0, 0] ∧ win0_5.index t = ![0, 0] ∧ win0_6.index t = ![0, 0] ∧ win0_7.index t = ![0, 0] ∧
    win0_8.index t = ![0, 0] ∧ win0_9.index t = ![0, 0] ∧ win0_10.index t = ![0, 0] ∧ win0_11.index t = ![0, 0] ∧ win0_12.index t = ![0, 0] ∧
    win0_13.index t = ![0, 0] ∧ win0_14.index t = ![0, 0] ∧ win0_15.index t = ![0, 0] ∧ win0_16.index t = ![0, 0] ∧
    win0_17.index t = ![t.val, 0] ∧ win0_18.index t = ![t.val, 0] ∧ win0_19.index t = ![t.val, 0] ∧ win0_20.index t = ![t.val, 0] ∧
    win0_21.index t = ![t.val, 0] :=
  (by decide +kernel : ∀ t : Fin grid0.N, _)

theorem blk0 (c : Dev nD) (t : Fin cfg0.N) (r : Fin 256) (k : Fin 2048) :
    iblk m c 0 t (ix2 r k) = m ((c : Thread nD τ).loc main_arg0) (ix3 (bOf (row t r)) (sOf (row t r)) k) := by
  blk_ext! [iblk, V, idx t]

theorem blk1 (c : Dev nD) (t : Fin cfg0.N) (r : Fin 256) (k : Fin 2048) :
    iblk m c 1 t (ix2 r k) = m ((c : Thread nD τ).loc main_arg1) (ix3 (bOf (row t r)) (sOf (row t r)) k) := by
  blk_ext! [iblk, V, idx t]

theorem blk2 (c : Dev nD) (t : Fin cfg0.N) (r : Fin 256) (k : Fin 7) :
    iblk m c 2 t (ix2 r k) = m ((c : Thread nD τ).loc main_arg2) (ix3 (bOf (row t r)) (sOf (row t r)) k) := by
  blk_ext! [iblk, V, idx t]

theorem blk3 (c : Dev nD) (t : Fin cfg0.N) (r : Fin 2048) (k : Fin 192) :
    iblk m c 3 t (ix2 r k) = m ((c : Thread nD τ).loc main_arg3) (ix2 r k) := by
  blk_ext! [iblk, V, idx t]

theorem blk4 (c : Dev nD) (t : Fin cfg0.N) (r : Fin 1) (k : Fin 192) :
    iblk m c 4 t (ix2 r k) = m ((c : Thread nD τ).loc main_arg4) (ix1 k) := by
  blk_ext! [iblk, V, idx t]

theorem blk5 (c : Dev nD) (t : Fin cfg0.N) (r : Fin 2048) (k : Fin 192) :
    iblk m c 5 t (ix2 r k) = m ((c : Thread nD τ).loc main_arg5) (ix2 r k) := by
  blk_ext! [iblk, V, idx t]

theorem blk6 (c : Dev nD) (t : Fin cfg0.N) (r : Fin 1) (k : Fin 192) :
    iblk m c 6 t (ix2 r k) = m ((c : Thread nD τ).loc main_arg6) (ix1 k) := by
  blk_ext! [iblk, V, idx t]

theorem blk7 (c : Dev nD) (t : Fin cfg0.N) (r : Fin 2048) (k : Fin 192) :
    iblk m c 7 t (ix2 r k) = m ((c : Thread nD τ).loc main_arg7) (ix2 r k) := by
  blk_ext! [iblk, V, idx t]

theorem blk8 (c : Dev nD) (t : Fin cfg0.N) (r : Fin 1) (k : Fin 192) :
    iblk m c 8 t (ix2 r k) = m ((c : Thread nD τ).loc main_arg8) (ix1 k) := by
  blk_ext! [iblk, V, idx t]

theorem blk9 (c : Dev nD) (t : Fin cfg0.N) (r : Fin 4103) (k : Fin 256) :
    iblk m c 9 t (ix2 r k) = m ((c : Thread nD τ).loc main_arg9) (ix2 r k) := by
  blk_ext! [iblk, V, idx t]

theorem blk10 (c : Dev nD) (t : Fin cfg0.N) (r : Fin 1) (k : Fin 256) :
    iblk m c 10 t (ix2 r k) = m ((c : Thread nD τ).loc main_arg10) (ix1 k) := by
  blk_ext! [iblk, V, idx t]

theorem blk11 (c : Dev nD) (t : Fin cfg0.N) (r : Fin 256) (k : Fin 1) :
    iblk m c 11 t (ix2 r k) = m ((c : Thread nD τ).loc main_arg11) (ix2 r k) := by
  blk_ext! [iblk, V, idx t]

theorem blk12 (c : Dev nD) (t : Fin cfg0.N) (r : Fin 1) (k : Fin 1) :
    iblk m c 12 t (ix2 r k) = m ((c : Thread nD τ).loc main_arg12) (ix1 k) := by
  blk_ext! [iblk, V, idx t]

theorem blk13 (c : Dev nD) (t : Fin cfg0.N) (r : Fin 192) (k : Fin 192) :
    iblk m c 13 t (ix2 r k) = m ((c : Thread nD τ).loc main_arg13) (ix2 r k) := by
  blk_ext! [iblk, V, idx t]

theorem blk14 (c : Dev nD) (t : Fin cfg0.N) (r : Fin 1) (k : Fin 192) :
    iblk m c 14 t (ix2 r k) = m ((c : Thread nD τ).loc main_arg14) (ix1 k) := by
  blk_ext! [iblk, V, idx t]

theorem blk15 (c : Dev nD) (t : Fin cfg0.N) (r : Fin 8) (k : Fin 192) :
    iblk m c 15 t (ix2 r k) = m ((c : Thread nD τ).loc main_arg15) (ix3 0 r k) := by
  blk_ext! [iblk, V, idx t]

theorem blk16 (c : Dev nD) (t : Fin cfg0.N) (r : Fin 192) (k : Fin 8) :
    iblk m c 16 t (ix2 r k) = m ((c : Thread nD τ).loc main_arg15) (ix3 0 k r) := by
  blk_ext! [iblk, V, idx t]

/-! ## The result arrays -/

theorem emb17 (t : Fin cfg0.N) (r : Fin 256) (k : Fin 192) : ((cfg0.win 17).blk t).view.emb (ix2 r k) = ix2 (row t r) k := by
  blk_ext! [idx t]

theorem emb18 (t : Fin cfg0.N) (r : Fin 256) (k : Fin 192) : ((cfg0.win 18).blk t).view.emb (ix2 r k) = ix2 (row t r) k := by
  blk_ext! [idx t]

theorem emb19 (t : Fin cfg0.N) (r : Fin 256) (k : Fin 192) : ((cfg0.win 19).blk t).view.emb (ix2 r k) = ix2 (row t r) k := by
  blk_ext! [idx t]

theorem emb20 (t : Fin cfg0.N) (r : Fin 256) (k : Fin 1) : ((cfg0.win 20).blk t).view.emb (ix2 r k) = ix2 (row t r) k := by
  blk_ext! [idx t]

theorem emb21 (t : Fin cfg0.N) (r : Fin 256) (k : Fin 192) : ((cfg0.win 21).blk t).view.emb (ix2 r k) = ix2 (row t r) k := by
  blk_ext! [idx t]

theorem final17 (c : Dev nD) : (dats m 0 c).arrAt 17 cfg0.N =
    val_main_v53 (F := Ideal) (m ((c : Thread nD τ).loc main_arg0)) (m ((c : Thread nD τ).loc main_arg3)) (m ((c : Thread nD τ).loc main_arg4)) := by
  refine (dats m 0 c).arrAt_eq_of_covers 17 _ (by decide +kernel) fun t hf y => ?_
  blk_simp
  rw [after0_17]
  frame_out
  idx_vars y
  refine Eq.trans ?_ (congrArg _ (emb17 t y0 y1).symm)
  rw [ref_q]
  pointwise [k0_pay3, k0_pay2]
  simp only [blk0, blk3, blk4]

theorem final18 (c : Dev nD) : (dats m 0 c).arrAt 18 cfg0.N =
    val_main_v54 (F := Ideal) (m ((c : Thread nD τ).loc main_arg0)) (m ((c : Thread nD τ).loc main_arg5)) (m ((c : Thread nD τ).loc main_arg6)) := by
  refine (dats m 0 c).arrAt_eq_of_covers 18 _ (by decide +kernel) fun t hf y => ?_
  blk_simp
  rw [after0_18]
  frame_out
  idx_vars y
  refine Eq.trans ?_ (congrArg _ (emb18 t y0 y1).symm)
  rw [ref_k]
  pointwise [k0_pay4, k0_pay2]
  simp only [blk0, blk5, blk6]

theorem final19 (c : Dev nD) : (dats m 0 c).arrAt 19 cfg0.N =
    val_main_v55 (F := Ideal) (m ((c : Thread nD τ).loc main_arg0)) (m ((c : Thread nD τ).loc main_arg7)) (m ((c : Thread nD τ).loc main_arg8)) := by
  refine (dats m 0 c).arrAt_eq_of_covers 19 _ (by decide +kernel) fun t hf y => ?_
  blk_simp
  rw [after0_19]
  frame_out
  idx_vars y
  refine Eq.trans ?_ (congrArg _ (emb19 t y0 y1).symm)
  rw [ref_v]
  pointwise [k0_pay5, k0_pay2]
  simp only [blk0, blk7, blk8]

theorem final20 (c : Dev nD) : (dats m 0 c).arrAt 20 cfg0.N =
    val_main_v56 (F := Ideal) (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11)) (m ((c : Thread nD τ).loc main_arg12)) := by
  refine (dats m 0 c).arrAt_eq_of_covers 20 _ (by decide +kernel) fun t hf y => ?_
  blk_simp
  rw [after0_20]
  frame_out
  idx_vars y
  obtain rfl : y1 = 0 := Subsingleton.elim _ _
  refine Eq.trans ?_ (congrArg _ (emb20 t y0 0).symm)
  rw [ref_s]
  pointwise [k0_pay8, k0_pay2, k0_pay6, k0_pay7]
  simp only [blk0, blk1, blk2, blk9, blk10, blk11, blk12]
  rfl
theorem final21 (c : Dev nD) : (dats m 0 c).arrAt 21 cfg0.N =
    val_main_v57 (F := Ideal) (m ((c : Thread nD τ).loc main_arg0)) (m ((c : Thread nD τ).loc main_arg3)) (m ((c : Thread nD τ).loc main_arg4)) (m ((c : Thread nD τ).loc main_arg13)) (m ((c : Thread nD τ).loc main_arg14)) (m ((c : Thread nD τ).loc main_arg15)) := by
  refine (dats m 0 c).arrAt_eq_of_covers 21 _ (by decide +kernel) fun t hf y => ?_
  blk_simp
  rw [after0_21]
  frame_out
  idx_vars y
  refine Eq.trans ?_ (congrArg _ (emb21 t y0 y1).symm)
  rw [ref_sc]
  pointwise [k0_pay1, k0_pay9, k0_pay3, k0_pay2]
  simp only [blk0, blk3, blk4, blk13, blk14, blk15, blk16]
  rfl
end Cert.PrepTie

end
-- ==== Proof.PrepClaims.lean ====
/- The claims about the projection call. -/
module

public import proofs.«01_k».proof.Defs
public import proofs.«01_k».proof.Proof.Gen.Prep.Frame
public import proofs.«01_k».proof.Proof.PrepValue
public import Idealize.ShloMosaic.Lib.Quiescent

@[expose] public section

noncomputable section

namespace Cert.PrepTie

open Idealize.ShloMosaic Idealize.ShloMosaic.TcCoe Idealize.SL.Sem

theorem frame_p : Cert.quiescent_Prep := fun m ρ _ => Cert.Prep.Gen.frame m ρ
theorem frame_pi : Cert.quiescent_PrepIdeal := fun m ρ _ => Cert.PrepIdeal.Gen.frame m ρ
theorem frame_ri : Cert.quiescent_PrepRefIdeal := fun m ρ _ =>
  (θ_run Cert.PrepRefIdeal.defs _ _).mono (fun r h => ⟨fun c => (h c).2.2.2.2.2,
      Idealize.ShloMosaic.sem_eq_zero_of_no_sems (by decide) r.2⟩)
    (Cert.PrepRefIdeal.Value.run (F := Ideal) m ρ)

/-- The literal the kernel multiplies the scratch scores by is named the reciprocal root of 192. -/
theorem preserves : Cert.preserves_Prep_PrepIdeal :=
  IdealRules.named_const.statement Cert.PrepIdeal.κ "inv_sqrt_m" .f32 0x3D93CD3A#32 (((Real.sqrt 192)⁻¹ : ℝ) : EReal) rfl

/-- All five results of the projection call are the reference's. -/
theorem algebraic : Cert.algebraic_PrepIdeal_PrepRefIdeal := by
  intro m ρ m' ρ' _ hagree
  refine ⟨_, _, _, _, _, Cert.PrepIdeal.Value.run_blocks m ρ, ?_⟩
  refine (θ_run Cert.PrepRefIdeal.defs _ _).mono (fun _ h c => ?_) (Cert.PrepRefIdeal.Value.run (F := Ideal) m' ρ')
  obtain ⟨h0, h1, h2, h3, h4, hargs⟩ := h c
  obtain ⟨a0, a1, a2, a3, a4, a5, a6, a7, a8, a9, a10, a11, a12, a13, a14, a15⟩ := hagree c
  refine ⟨h0.trans ?_, h1.trans ?_, h2.trans ?_, h3.trans ?_, h4.trans ?_, hargs⟩
  · rw [final17, Cert.PrepRefIdeal.Read.val_main_v53_eq, a0, a3, a4]
  · rw [final18, Cert.PrepRefIdeal.Read.val_main_v54_eq, a0, a5, a6]
  · rw [final19, Cert.PrepRefIdeal.Read.val_main_v55_eq, a0, a7, a8]
  · rw [final20, Cert.PrepRefIdeal.Read.val_main_v56_eq, a0, a1, a2, a9, a10, a11, a12]
  · rw [final21, Cert.PrepRefIdeal.Read.val_main_v57_eq, a0, a3, a4, a13, a14, a15]

end Cert.PrepTie

end
-- ==== Proof.FourBest.lean ====
/- The mathematics of a level, over plain families of extended reals: the four rounds of maxima find the fourth best
   score; where no tie makes more than four best, keeping the scores at least that good keeps the four a top-k picks. -/
module

public import Idealize.ShloMosaic.PureOps
public import Idealize.ShloMosaic.Lib.Pipeline.ValueKit

@[expose] public section

noncomputable section

namespace Cert.FourBest
open Idealize.ShloMosaic

variable {N : ℕ}

/-- The maximum of a family, −∞ of an empty one. -/
def mx (f : Fin N → EReal) : EReal := Finset.univ.fold max ⊥ f

/-- The best value below `m`. -/
def nx (f : Fin N → EReal) (m : EReal) : EReal := mx fun n => if m ≤ f n then ⊥ else f n

/-- The fourth best value. -/
def m4 (f : Fin N → EReal) : EReal := nx f (nx f (nx f (mx f)))

theorem mx_eq_sup (f : Fin N → EReal) : mx f = Finset.univ.sup f := rfl

theorem le_mx (f : Fin N → EReal) (n : Fin N) : f n ≤ mx f := by
  rw [mx_eq_sup]; exact Finset.le_sup (Finset.mem_univ n)

theorem mx_le {f : Fin N → EReal} {a : EReal} (h : ∀ n, f n ≤ a) : mx f ≤ a := by
  rw [mx_eq_sup]; exact Finset.sup_le fun n _ => h n

theorem mx_mem {f : Fin N → EReal} (h : ⊥ < mx f) : ∃ n, f n = mx f := by
  rw [mx_eq_sup] at h ⊢
  have hne : (Finset.univ : Finset (Fin N)).Nonempty := by
    by_contra hc
    rw [Finset.not_nonempty_iff_eq_empty] at hc
    rw [hc] at h
    exact lt_irrefl _ h
  obtain ⟨n, -, hn⟩ := Finset.exists_mem_eq_sup _ hne f
  exact ⟨n, hn.symm⟩

theorem nx_mem {f : Fin N → EReal} {m : EReal} (h : ⊥ < nx f m) : ∃ n, f n = nx f m ∧ nx f m < m := by
  obtain ⟨n, hn⟩ := mx_mem h
  rw [show mx (fun n => if m ≤ f n then ⊥ else f n) = nx f m from rfl] at hn
  by_cases hm : m ≤ f n
  · rw [if_pos hm] at hn
    exact absurd hn h.ne
  · rw [if_neg hm] at hn
    exact ⟨n, hn, hn ▸ not_le.mp hm⟩

section pick
variable {f : Fin N → EReal} {p : Fin 4 → Fin N} (hp : Function.Injective p) (hb : ∀ n, n ∉ Set.range p → ∀ i, f n ≤ f (p i))
include hp hb

theorem picked_of_kept (hc : (Finset.univ.filter fun n => m4 f ≤ f n ∧ ⊥ < f n).card ≤ 4) {n : Fin N} (h4 : m4 f ≤ f n) (h0 : ⊥ < f n) :
    n ∈ Set.range p := by
  by_contra hn
  have hsub : insert n (Finset.univ.image p) ⊆ Finset.univ.filter fun n => m4 f ≤ f n ∧ ⊥ < f n := by
    intro k hk
    rw [Finset.mem_filter]
    refine ⟨Finset.mem_univ k, ?_⟩
    rcases Finset.mem_insert.mp hk with rfl | hk
    · exact ⟨h4, h0⟩
    · obtain ⟨i, -, rfl⟩ := Finset.mem_image.mp hk
      exact ⟨h4.trans (hb n hn i), h0.trans_le (hb n hn i)⟩
  have hnot : n ∉ Finset.univ.image p := fun hk => by
    obtain ⟨i, -, hi⟩ := Finset.mem_image.mp hk
    exact hn ⟨i, hi⟩
  have := (Finset.card_le_card hsub).trans hc
  rw [Finset.card_insert_of_notMem hnot, Finset.card_image_of_injective _ hp, Finset.card_univ, Fintype.card_fin] at this
  omega

theorem kept_of_picked {n : Fin N} (hn : n ∈ Set.range p) : m4 f ≤ f n := by
  by_contra h
  have h4 : f n < m4 f := not_le.mp h
  obtain ⟨a4, e4, l4⟩ := nx_mem (bot_le.trans_lt h4 : ⊥ < m4 f)
  obtain ⟨a3, e3, l3⟩ := nx_mem (bot_le.trans_lt l4)
  obtain ⟨a2, e2, l2⟩ := nx_mem (bot_le.trans_lt l3)
  obtain ⟨a1, e1⟩ := mx_mem (bot_le.trans_lt l2)
  have e4' : f a4 = m4 f := e4
  have l4' : m4 f < nx f (nx f (mx f)) := l4
  rw [← e4'] at h4 l4'
  rw [← e3] at l4' l3
  rw [← e2] at l3 l2
  rw [← e1] at l2
  obtain ⟨i0, rfl⟩ := hn
  have hin : ∀ a, f (p i0) < f a → f a ∈ (Finset.univ.image fun i => f (p i)) := fun a ha => by
    by_cases har : a ∈ Set.range p
    · obtain ⟨i, rfl⟩ := har
      exact Finset.mem_image.mpr ⟨i, Finset.mem_univ _, rfl⟩
    · exact absurd (hb a har i0) (not_le.mpr ha)
  have hsub : ({f (p i0), f a4, f a3, f a2, f a1} : Finset EReal) ⊆ Finset.univ.image fun i => f (p i) := by
    intro v hv
    simp only [Finset.mem_insert, Finset.mem_singleton] at hv
    rcases hv with rfl | rfl | rfl | rfl | rfl
    · exact Finset.mem_image.mpr ⟨i0, Finset.mem_univ _, rfl⟩
    · exact hin _ h4
    · exact hin _ (h4.trans l4')
    · exact hin _ (h4.trans (l4'.trans l3))
    · exact hin _ (h4.trans (l4'.trans (l3.trans l2)))
  have hcard := (Finset.card_le_card hsub).trans Finset.card_image_le
  rw [Finset.card_univ, Fintype.card_fin] at hcard
  have h5 : ({f (p i0), f a4, f a3, f a2, f a1} : Finset EReal).card = 5 := by
    have A := h4.trans l4'
    have B := A.trans l3
    have C := B.trans l2
    have D := l4'.trans l3
    have E := D.trans l2
    have G := l3.trans l2
    rw [Finset.card_insert_of_notMem, Finset.card_insert_of_notMem, Finset.card_insert_of_notMem, Finset.card_insert_of_notMem,
      Finset.card_singleton]
    all_goals simp only [Finset.mem_insert, Finset.mem_singleton, not_or]
    · exact l2.ne
    · exact ⟨l3.ne, G.ne⟩
    · exact ⟨l4'.ne, D.ne, E.ne⟩
    · exact ⟨h4.ne, A.ne, B.ne, C.ne⟩
  omega

variable {S : Fin N → EReal} (hS1 : ∀ i, S (p i) = f (p i)) (hS0 : ∀ n, n ∉ Set.range p → S n = ⊥)
include hS1 hS0

theorem mx_picked : mx S = mx f := by
  apply le_antisymm
  · refine mx_le fun n => ?_
    by_cases hn : n ∈ Set.range p
    · obtain ⟨i, rfl⟩ := hn
      rw [hS1]; exact le_mx f _
    · rw [hS0 n hn]; exact bot_le
  · refine mx_le fun n => ?_
    by_cases hn : n ∈ Set.range p
    · obtain ⟨i, rfl⟩ := hn
      rw [← hS1]; exact le_mx S _
    · exact (hb n hn 0).trans ((hS1 0).symm.le.trans (le_mx S _))

/-- The numerators the rounds of maxima keep are those of the four picked. -/
theorem kept_eq (hc : (Finset.univ.filter fun n => m4 f ≤ f n ∧ ⊥ < f n).card ≤ 4) (hm : ⊥ < mx f) (n : Fin N) :
    (if m4 f ≤ f n then Ideal.exp (f n - mx f) else 0) = Ideal.exp (S n - mx S) := by
  rw [mx_picked hp hb hS1 hS0]
  have hbot : Ideal.exp (⊥ - mx f) = 0 := by rw [EReal.bot_sub]; rfl
  by_cases hn : n ∈ Set.range p
  · have hk := kept_of_picked hp hb hn
    rw [if_pos hk]
    obtain ⟨i, rfl⟩ := hn
    rw [hS1]
  · rw [hS0 n hn, hbot]
    by_cases hk : m4 f ≤ f n
    · rw [if_pos hk]
      by_cases h0 : ⊥ < f n
      · exact absurd (picked_of_kept hp hb hc hk h0) hn
      · rw [not_bot_lt_iff.mp h0, hbot]
    · rw [if_neg hk]

end pick

/-! ## A positive factor -/

theorem sum_mul_coe {ι : Type*} (s : Finset ι) (a : ι → EReal) {c : EReal} (h0 : 0 ≤ c) (ht : c ≠ ⊤) : ∑ i ∈ s, a i * c = (∑ i ∈ s, a i) * c := by
  classical
  induction s using Finset.induction_on with
  | empty => simp
  | insert i s hi ih => rw [Finset.sum_insert hi, Finset.sum_insert hi, ih, EReal.right_distrib_of_nonneg_of_ne_top h0 ht]

theorem coe_sum {ι : Type*} (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

theorem mul_strictMono {c : ℝ} (hc : 0 < c) : StrictMono fun x : EReal => x * (c : EReal) := by
  intro x y hxy
  have hc' : (0 : EReal) < c := by exact_mod_cast hc
  refine lt_of_le_of_ne (mul_le_mul_of_nonneg_right hxy.le hc'.le) fun he => hxy.ne ?_
  have key : ∀ z : EReal, z * (c : EReal) * ((c⁻¹ : ℝ) : EReal) = z := fun z => by
    rw [mul_assoc, ← EReal.coe_mul, mul_inv_cancel₀ hc.ne', EReal.coe_one, mul_one]
  have he' : x * (c : EReal) = y * c := he
  rw [← key x, ← key y, he']

variable {c : ℝ} (hc : 0 < c)
include hc

theorem bot_mul_pos : (⊥ : EReal) * (c : EReal) = ⊥ := EReal.bot_mul_coe_of_pos hc

theorem mx_mul (f : Fin N → EReal) : mx (fun n => f n * (c : EReal)) = mx f * c := by
  apply le_antisymm
  · exact mx_le fun n => (mul_strictMono hc).monotone (le_mx f n)
  · by_cases h : ⊥ < mx f
    · obtain ⟨n, hn⟩ := mx_mem h
      rw [← hn]; exact le_mx (fun n => f n * (c : EReal)) n
    · rw [not_bot_lt_iff.mp h, bot_mul_pos hc]; exact bot_le

theorem nx_mul (f : Fin N → EReal) (m : EReal) : nx (fun n => f n * (c : EReal)) (m * c) = nx f m * c := by
  unfold nx
  rw [← mx_mul hc]
  refine congrArg mx (funext fun n => ?_)
  by_cases h : m ≤ f n
  · rw [if_pos h, if_pos ((mul_strictMono hc).le_iff_le.mpr h), bot_mul_pos hc]
  · rw [if_neg h, if_neg (mt (mul_strictMono hc).le_iff_le.mp h)]

theorem m4_mul (f : Fin N → EReal) : m4 (fun n => f n * (c : EReal)) = m4 f * c := by
  unfold m4
  rw [mx_mul hc, nx_mul hc, nx_mul hc, nx_mul hc]

theorem kept_mul (f : Fin N → EReal) :
    (Finset.univ.filter fun n => m4 (fun n => f n * (c : EReal)) ≤ f n * c ∧ ⊥ < f n * c) = Finset.univ.filter fun n => m4 f ≤ f n ∧ ⊥ < f n := by
  ext n
  rw [Finset.mem_filter, Finset.mem_filter, m4_mul hc]
  have h1 : m4 f * c ≤ f n * c ↔ m4 f ≤ f n := (mul_strictMono hc).le_iff_le
  have h2 : ⊥ < f n * c ↔ ⊥ < f n := by
    have := (mul_strictMono hc).lt_iff_lt (a := ⊥) (b := f n)
    simpa only [bot_mul_pos hc] using this
  rw [h1, h2]

omit hc

/-! ## The softmax's denominator -/

/-- The numerators under a maximum that is a number are reals, and their sum is a positive real. -/
theorem den_real {S : Fin N → EReal} (h0 : ⊥ < mx S) (h1 : mx S < ⊤) : ∃ d : ℝ, 0 < d ∧ ∑ n, Ideal.exp (S n - mx S) = d := by
  have hr : ∀ n, ∃ r : ℝ, 0 ≤ r ∧ Ideal.exp (S n - mx S) = r := fun n => by
    have hle := le_mx S n
    generalize mx S = M at *
    induction M with
    | bot => exact absurd h0 (lt_irrefl _)
    | top => exact absurd h1 (lt_irrefl _)
    | coe M =>
      generalize S n = x at *
      induction x with
      | bot => exact ⟨0, le_rfl, by rw [EReal.bot_sub]; rfl⟩
      | top => exact absurd (h1.trans_le hle) (lt_irrefl _)
      | coe x => exact ⟨Real.exp (x - M), (Real.exp_pos _).le, by rw [← EReal.coe_sub]; rfl⟩
  choose r hr0 hr using hr
  refine ⟨∑ n, r n, ?_, ?_⟩
  · obtain ⟨n, hn⟩ := mx_mem h0
    have h1n : r n = 1 := by
      have := hr n
      rw [hn, EReal.sub_self h1.ne h0.ne'] at this
      have h2 : Ideal.exp 0 = ((1 : ℝ) : EReal) := by
        rw [← EReal.coe_zero, Ideal.exp_coe, Real.exp_zero]
      rw [h2] at this
      exact_mod_cast this.symm
    exact lt_of_lt_of_le (by rw [h1n]; exact one_pos) (Finset.single_le_sum (fun k _ => hr0 k) (Finset.mem_univ n))
  · rw [Finset.sum_congr rfl fun n _ => hr n]
    exact (coe_sum _ _).symm

/-- Dividing each numerator by the denominator, or their product with the values. -/
theorem soft_eq {S : Fin N → EReal} (h0 : ⊥ < mx S) (h1 : mx S < ⊤) (k : EReal) (v : Fin N → EReal) :
    Ideal.div k (∑ n, Ideal.exp (S n - mx S)) * ∑ n, Ideal.exp (S n - mx S) * v n
      = k * ∑ n, Ideal.div (Ideal.exp (S n - mx S)) (∑ n, Ideal.exp (S n - mx S)) * v n := by
  obtain ⟨d, hd, he⟩ := den_real h0 h1
  rw [he, Ideal.div_coe hd.ne']
  simp only [Ideal.div_coe hd.ne']
  rw [mul_assoc]
  refine congrArg (k * ·) ?_
  have hp : (0 : EReal) ≤ ((1 / d : ℝ) : EReal) := by exact_mod_cast (one_div_pos.mpr hd).le
  rw [mul_comm, ← sum_mul_coe _ _ hp (EReal.coe_ne_top _)]
  refine Finset.sum_congr rfl fun n _ => ?_
  rw [mul_right_comm]

end Cert.FourBest
-- ==== Proof.RefLevel.lean ====
/- One level of the reference, at any number `N` of keys: the scores of every query against the keys of the level, the
   causal shift, the four best kept (a top-k and a scatter into an array of −∞), the softmax, and the product with the
   values of the level. Written once over `N` as the operations the program prints, and read at an index. -/
module

public import Idealize.ShloMosaic.Lib.Pointwise
public import Idealize.ShloMosaic.Lib.Pointwise.IndexVar
public import Idealize.ShloMosaic.Lib.Pipeline.ValueKit
public import Idealize.ShloMosaic.Lib.StableHlo
public import Idealize.ShloMosaic.Lib.ShapeFacts
public import Idealize.ShloMosaic.Lib.WordCmp
public import proofs.«01_k».proof.Proof.FourBest

@[expose] public section

set_option maxRecDepth 16384

noncomputable section

namespace Cert.Level
open Idealize.ShloMosaic Cert.FourBest

/-- An array of extended reals. -/
abbrev Arr (s : Shape) := s.Idx → EReal
abbrev A0 : Shape := ⟨0, ![]⟩
abbrev A1 (a : ℕ) : Shape := ⟨1, ![a]⟩
abbrev A2 (a b : ℕ) : Shape := ⟨2, ![a, b]⟩
abbrev A3 (a b c : ℕ) : Shape := ⟨3, ![a, b, c]⟩
abbrev A4 (a b c d : ℕ) : Shape := ⟨4, ![a, b, c, d]⟩

/-! ## Side conditions of the operations, at any `N` -/

theorem b0 (t : Shape) : A0.BroadcastsInDim t (![] : Fin 0 → Fin t.rank) := ⟨fun a => a.elim0, fun a => a.elim0⟩

theorem b12 (N : ℕ) : (A2 2048 N).BroadcastsInDim (A3 1 2048 N) (![1, 2] : Fin 2 → Fin 3) :=
  ⟨(by decide : Function.Injective (![1, 2] : Fin 2 → Fin 3)), fun a => by fin_cases a <;> exact Or.inr rfl⟩

theorem b012 {a N : ℕ} (ha : a = 1 ∨ a = 2) : (A3 a 2048 N).BroadcastsInDim (A3 2 2048 N) (![0, 1, 2] : Fin 3 → Fin 3) :=
  ⟨(by decide : Function.Injective (![0, 1, 2] : Fin 3 → Fin 3)), fun i => by fin_cases i; exact ha; exact Or.inr rfl; exact Or.inr rfl⟩

theorem bc (N : ℕ) : (A3 2 2048 1).BroadcastsInDim (A3 2 2048 N) (![0, 1, 2] : Fin 3 → Fin 3) :=
  ⟨(by decide : Function.Injective (![0, 1, 2] : Fin 3 → Fin 3)), fun i => by fin_cases i; exact Or.inr rfl; exact Or.inr rfl; exact Or.inl rfl⟩

theorem b01 : (A2 2 2048).BroadcastsInDim (A3 2 2048 1) (![0, 1] : Fin 2 → Fin 3) :=
  ⟨by decide, fun i => by fin_cases i <;> exact Or.inr rfl⟩

theorem red (N : ℕ) : (A3 2 2048 N).ReducesTo [2] (A2 2 2048) := ⟨rfl, fun b => by fin_cases b <;> rfl⟩

theorem slK {N off : ℕ} (h : off + N ≤ 4096) : (A3 2 192 4096).Slices ![0, 0, off] (A3 2 192 N) :=
  ⟨rfl, fun a => by fin_cases a; exact le_rfl; exact le_rfl; exact h⟩

theorem slV {N off : ℕ} (h : off + N ≤ 4096) : (A3 2 4096 192).Slices ![0, off, 0] (A3 2 N 192) :=
  ⟨rfl, fun a => by fin_cases a; exact le_rfl; exact h; exact le_rfl⟩

theorem tr (N : ℕ) : (A3 2 192 N).Transposes [0, 2, 1] (A3 2 N 192) :=
  ⟨(by decide : List.Perm ([0, 2, 1] : List (Fin 3)) (List.finRange 3)), rfl, fun b => by fin_cases b <;> rfl⟩

theorem sl4 {N : ℕ} (h : 4 ≤ N) : (A3 2 2048 N).Slices (fun _ => 0) (A3 2 2048 4) :=
  ⟨rfl, fun a => by fin_cases a; exact le_rfl; exact le_rfl; exact (Nat.zero_add 4).trans_le h⟩

theorem wfB (N : ℕ) : DotDims.WF (A3 2 2048 N) (A3 2 N 192) (A3 2 2048 192) [2] [1] [1] [2] [0] [0] := DotDims.wf_batched (by decide)

theorem wfQ (N : ℕ) : DotDims.WF (A3 2 2048 192) (A3 2 N 192) (A3 2 2048 N) [2] [2] [1] [1] [0] [0] :=
  ⟨rfl, List.cons_ne_nil _ _, rfl, fun n hn => by simp only [List.map, List.mem_singleton] at hn; subst hn; decide,
    List.pairwise_singleton _ _, List.pairwise_singleton _ _,
    (by decide : List.Perm ([0] ++ [1] ++ [2] : List (Fin 3)) (List.finRange 3)),
    (by decide : List.Perm ([0] ++ [1] ++ [2] : List (Fin 3)) (List.finRange 3)),
    rfl, Nat.succ_pos 2, fun b => by fin_cases b <;> rfl⟩

theorem wfS (N : ℕ) : ScatterDims.WF (A3 2 2048 N) (A4 2 2048 4 3) (A3 2 2048 4) [] [0, 1, 2] [0, 1, 2] 3 :=
  ⟨List.Pairwise.nil, (by decide : List.Pairwise (· < ·) ([0, 1, 2] : List (Fin 3))), (by decide : ([0, 1, 2] : List (Fin 3)).Nodup), (by decide : 3 ≤ 4), rfl,
    ⟨rfl, fun k => by
      have : ∀ k : Fin 3, (A3 2 2048 4).size ((A3 2 2048 4).kept [])[k] = (A4 2 2048 4 3).size ((List.finRange 4).filter (·.val ≠ 3))[k] := by decide
      exact this k⟩, rfl, fun k => k.elim0⟩

theorem cat3 : Shape.Concatenates [A4 2 2048 4 1, A4 2 2048 4 1, A4 2 2048 4 1] (A4 2 2048 4 3) 3 := by decide

abbrev dB (N : ℕ) : DotDims (A3 2 2048 N) (A3 2 N 192) (A3 2 2048 192) := ⟨[2], [1], [1], [2], [0], [0], wfB N⟩
abbrev dQ (N : ℕ) : DotDims (A3 2 2048 192) (A3 2 N 192) (A3 2 2048 N) := ⟨[2], [2], [1], [1], [0], [0], wfQ N⟩
abbrev dS (N : ℕ) : ScatterDims (A3 2 2048 N) (A4 2 2048 4 3) (A3 2 2048 4) := ⟨[], [0, 1, 2], [0, 1, 2], 3, wfS N⟩

theorem dB_apply {N : ℕ} (P : Arr (A3 2 2048 N)) (V : Arr (A3 2 N 192)) (z) (b : Fin 2) (t : Fin 2048) (j : Fin 192) :
    Ideal.matmul (dB N) P V z (ix3 b t j) = z (ix3 b t j) + ∑ k : Fin N, P (ix3 b t k) * V (ix3 b k j) :=
  Ideal.matmul_apply₁_of _ (a := 2) (K := N) rfl rfl _ _ _ _ _ _
    (fun k => by funext i; fin_cases i <;> rfl) (fun k => by funext i; fin_cases i <;> rfl)

theorem dQ_apply {N : ℕ} (Q : Arr (A3 2 2048 192)) (K : Arr (A3 2 N 192)) (z) (b : Fin 2) (t : Fin 2048) (n : Fin N) :
    Ideal.matmul (dQ N) Q K z (ix3 b t n) = z (ix3 b t n) + ∑ k : Fin 192, Q (ix3 b t k) * K (ix3 b n k) :=
  Ideal.matmul_apply₁_of _ (a := 2) (K := 192) rfl rfl _ _ _ _ _ _
    (fun k => by funext i; fin_cases i <;> rfl) (fun k => by funext i; fin_cases i <;> rfl)

/-! ## The operations of a level -/

/-- The scalar −∞ of the host. -/
def hBot : Arr A0 := constant (F := Ideal) A0 .f32 0xff800000#32
/-- The scalar zero of the host. -/
def hZero : Arr A0 := constant (F := Ideal) A0 .f32 0x00000000#32

/-- Keys `off … off + N` of the stack. -/
def keys {N off : ℕ} (h : off + N ≤ 4096) (K : Arr (A3 2 192 4096)) : Arr (A3 2 N 192) :=
  transpose (A3 2 N 192) [0, 2, 1] (extractStridedSlice (A3 2 192 N) ![0, 0, off] K (slK h)) (tr N)

/-- The causal shift: 0 at keys `n ≤ t`, −∞ beyond. -/
def causal (N : ℕ) : Arr (A3 2 2048 N) :=
  broadcastInDim (A3 2 2048 N) ![0, 1, 2] (b012 (Or.inl rfl)) (broadcastInDim (A3 1 2048 N) ![1, 2] (b12 N)
    (select (cmpi .sge (addi (iotaInDim (A2 2048 N) 32 0) (broadcastInDim (A2 2048 N) ![] (b0 _) (constantI A0 32 0#32)))
      (iotaInDim (A2 2048 N) 32 1)) (broadcastInDim (A2 2048 N) ![] (b0 _) hZero) (broadcastInDim (A2 2048 N) ![] (b0 _) hBot)))

/-- The scores: products over the root of 192, shifted. -/
def scores {N off : ℕ} (h : off + N ≤ 4096) (Q : Arr (A3 2 2048 192)) (K : Arr (A3 2 192 4096)) : Arr (A3 2 2048 N) :=
  addf (F := Ideal) (φ := .f32) (Host.divf (F := Ideal) (φ := .f32)
    (Host.dotGeneral (F := Ideal) (φ₁ := .f32) (φ₂ := .f32) (dQ N) none Q (keys h K))
    (broadcastInDim (A3 2 2048 N) ![] (b0 _) (Host.sqrt (F := Ideal) (φ := .f32) (constant (F := Ideal) A0 .f32 0x43400000#32)))) (causal N)

/-- An index with a negative word moved up by `n`. -/
def wrap (s : Shape) (n : BitVec 32) (i : IVec s 32) : IVec s 32 :=
  select (cmpi .slt i (broadcastInDim s ![] (b0 _) (constantI A0 32 0#32))) (addi i (broadcastInDim s ![] (b0 _) (constantI A0 32 n))) i

/-- The index triples (batch, row, key) of the scatter. -/
def words (N : ℕ) (idx : IVec (A3 2 2048 4) 32) : IVec (A4 2 2048 4 3) 32 :=
  concatenate (A4 2 2048 4 3) 3
    [⟨A4 2 2048 4 1, broadcastInDim (A4 2 2048 4 1) ![0, 1, 2] (by decide) (broadcastInDim (A3 2 2048 4) ![0, 1, 2] (by decide)
        (wrap (A3 2 1 1) 2#32 (broadcastInDim (A3 2 1 1) ![0] (by decide) (iotaInDim (A1 2) 32 0))))⟩,
     ⟨A4 2 2048 4 1, broadcastInDim (A4 2 2048 4 1) ![0, 1, 2] (by decide) (broadcastInDim (A3 2 2048 4) ![0, 1, 2] (by decide)
        (wrap (A3 1 2048 1) 2048#32 (broadcastInDim (A3 1 2048 1) ![1] (by decide) (iotaInDim (A1 2048) 32 0))))⟩,
     ⟨A4 2 2048 4 1, broadcastInDim (A4 2 2048 4 1) ![0, 1, 2] (by decide) (wrap (A3 2 2048 4) (BitVec.ofNat 32 N) idx)⟩] cat3

/-- The four best of each row with their places. -/
def best {N : ℕ} (h : 4 ≤ N) (y : Arr (A3 2 2048 N)) : Arr (A3 2 2048 4) × IVec (A3 2 2048 4) 32 :=
  Host.topK (A3 2 2048 4) 2 (FloatOps.cmpfTotal (F := Ideal) (φ := .f32) .gt) y (sl4 h)

/-- The four best of each row in their places, −∞ elsewhere. -/
def sparse {N : ℕ} (h : 4 ≤ N) (y : Arr (A3 2 2048 N)) : Arr (A3 2 2048 N) :=
  Host.scatter (dS N) (fun _ b => b) (broadcastInDim (A3 2 2048 N) ![] (b0 _) hBot) (words N (best h y).2) (best h y).1

/-- The softmax's numerators. -/
def nums {N : ℕ} (S : Arr (A3 2 2048 N)) : Arr (A3 2 2048 N) :=
  Host.exp (F := Ideal) (φ := .f32) (subf (F := Ideal) (φ := .f32) S (broadcastInDim (A3 2 2048 N) ![0, 1, 2] (bc N)
    (broadcastInDim (A3 2 2048 1) ![0, 1] b01 (maximumf (F := Ideal) (φ := .f32) (broadcastInDim (A2 2 2048) ![] (b0 _) hBot)
      (Host.reduce (FloatOps.maximumf (F := Ideal) (φ := .f32)) S hBot (red N) (by decide))))))

/-- The softmax of each row, times the values `off … off + N`. -/
def soft {N off : ℕ} (h : off + N ≤ 4096) (S : Arr (A3 2 2048 N)) (V : Arr (A3 2 4096 192)) : Arr (A3 2 2048 192) :=
  Host.dotGeneral (F := Ideal) (φ₁ := .f32) (φ₂ := .f32) (dB N) none
    (Host.divf (F := Ideal) (φ := .f32) (nums S) (broadcastInDim (A3 2 2048 N) ![0, 1, 2] (bc N) (broadcastInDim (A3 2 2048 1) ![0, 1] b01
      (Host.reduceAdd (F := Ideal) (φ := .f32) (nums S) hZero (red N) (by decide)))))
    (extractStridedSlice (A3 2 N 192) ![0, off, 0] V (slV h))

/-- A level with more than four keys. -/
def top {N off : ℕ} (h : off + N ≤ 4096) (h4 : 4 ≤ N) (Q : Arr (A3 2 2048 192)) (K : Arr (A3 2 192 4096)) (V : Arr (A3 2 4096 192)) : Arr (A3 2 2048 192) :=
  soft h (sparse h4 (scores h Q K)) V

/-- A level with few keys: nothing is dropped. -/
def all {N off : ℕ} (h : off + N ≤ 4096) (Q : Arr (A3 2 2048 192)) (K : Arr (A3 2 192 4096)) (V : Arr (A3 2 4096 192)) : Arr (A3 2 2048 192) :=
  soft h (scores h Q K) V

/-! ## Read at an index -/

theorem neg_inf : Ideal.ofBits .f32 4286578688#32 = ⊥ := by simp [Ideal.ofBits, Ideal.ieee]

theorem sel_ofBool {α : Type} (p : Prop) [Decidable p] (a b : α) : Scalar.select (BitVec.ofBool (decide p)) a b = if p then a else b := by
  by_cases h : p <;> simp [Scalar.select, h]

theorem ite_unit {N : ℕ} {P : Prop} [Decidable P] (hP : P → N = 1) (z : P → Fin N) (n : Fin N) : (if h : P then z h else n) = n := by
  split
  · next h =>
    obtain rfl := hP h
    exact Subsingleton.elim _ _
  · rfl

theorem causal_read {N : ℕ} (hN : N ≤ 2048) (b : Fin 2) (t : Fin 2048) (n : Fin N) :
    causal N (ix3 b t n) = if (n : ℕ) ≤ t then 0 else ⊥ := by
  pointwise [causal, hZero, hBot]
  simp only [neg_inf, IntOp.addi, BitVec.add_zero]
  refine Eq.trans (congrArg (fun k : Fin N => Scalar.select (IntOp.cmpi .sge (BitVec.ofNat 32 t) (BitVec.ofNat 32 k)) (0 : EReal) ⊥)
    ((ite_unit id _ _).trans (ite_unit id _ n))) ?_
  rw [WordCmp.cmpi_sge_ofNat (by omega) (by omega), sel_ofBool]

theorem scores_read {N off : ℕ} (h : off + N ≤ 4096) (Q : Arr (A3 2 2048 192)) (K : Arr (A3 2 192 4096)) (b : Fin 2) (t : Fin 2048) (n : Fin N) :
    scores h Q K (ix3 b t n) = Ideal.div (∑ k : Fin 192, Q (ix3 b t k) * K (ix3 b k ⟨off + n, by omega⟩)) (Ideal.sqrt (Ideal.ofBits .f32 1128267776#32))
      + causal N (ix3 b t n) := by
  pointwise [scores, keys, dQ_apply]

theorem words_read0 (N : ℕ) (idx : IVec (A3 2 2048 4) 32) (b : Fin 2) (t : Fin 2048) (i : Fin 4) :
    words N idx (ix4 b t i 0) = BitVec.ofNat 32 b := by
  pointwise [words, wrap]
  rw [WordCmp.cmpi_slt_ofNat (by omega) (by omega), sel_ofBool, if_neg (by omega)]

theorem words_read1 (N : ℕ) (idx : IVec (A3 2 2048 4) 32) (b : Fin 2) (t : Fin 2048) (i : Fin 4) :
    words N idx (ix4 b t i 1) = BitVec.ofNat 32 t := by
  pointwise [words, wrap]
  rw [WordCmp.cmpi_slt_ofNat (by omega) (by omega), sel_ofBool, if_neg (by omega)]

theorem words_read2 (N : ℕ) (idx : IVec (A3 2 2048 4) 32) (b : Fin 2) (t : Fin 2048) (i : Fin 4) {v : ℕ} (hv : v ≤ 2048)
    (hi : idx (ix3 b t i) = BitVec.ofNat 32 v) : words N idx (ix4 b t i 2) = BitVec.ofNat 32 v := by
  pointwise [words, wrap]
  rw [hi, WordCmp.cmpi_slt_ofNat (by omega) (by omega), sel_ofBool, if_neg (by omega)]

theorem nums_read {N : ℕ} (S : Arr (A3 2 2048 N)) (b : Fin 2) (t : Fin 2048) (n : Fin N) :
    nums S (ix3 b t n) = Ideal.exp (S (ix3 b t n) - mx fun n => S (ix3 b t n)) := by
  pointwise [nums, hBot]
  simp only [neg_inf]
  rw [max_eq_right bot_le]
  rfl

theorem soft_read {N off : ℕ} (h : off + N ≤ 4096) (S : Arr (A3 2 2048 N)) (V : Arr (A3 2 4096 192)) (b : Fin 2) (t : Fin 2048) (j : Fin 192) :
    soft h S V (ix3 b t j) = ∑ n : Fin N, Ideal.div (Ideal.exp (S (ix3 b t n) - mx fun n => S (ix3 b t n)))
      (∑ n : Fin N, Ideal.exp (S (ix3 b t n) - mx fun n => S (ix3 b t n))) * V (ix3 b ⟨off + n, by omega⟩ j) := by
  pointwise [soft, dB_apply, hZero, nums_read]

end Cert.Level
-- ==== Proof.KerLevel.lean ====
/- One level of the kernel's body, at any number `N` of keys, on a block of 256 queries: the masked scores, the four
   rounds of maxima that find the fourth best score, the numerators at least as good, their sum and their product with
   the values. Written once over `N` as the operations the program prints, and read at an index. -/
module

public import proofs.«01_k».proof.Proof.RefLevel

@[expose] public section

set_option maxRecDepth 16384

noncomputable section

namespace Cert.Level
open Idealize.ShloMosaic Cert.FourBest

/-! ## Side conditions of the operations, at any `N` -/

theorem k1 (a N : ℕ) : (A2 a 1).Broadcasts (A2 a N) :=
  ⟨Nat.le_refl 2, fun x => by fin_cases x; exact .inr fun _ => rfl; exact .inl rfl⟩

theorem kred (N : ℕ) : (A2 256 N).Reduces [1] (A1 256) := ⟨rfl, Nat.one_pos, fun b => by fin_cases b; rfl⟩

theorem kcol : (A1 256).ShapeCasts (A2 256 1) := by decide

theorem wfP (M K N : ℕ) : DotDims.WF (A2 M K) (A2 K N) (A2 M N) [1] [0] [0] [1] [] [] :=
  ⟨rfl, List.cons_ne_nil _ _, rfl, fun _ hn => absurd hn List.not_mem_nil,
    List.pairwise_singleton _ _, List.pairwise_singleton _ _,
    (by decide : List.Perm ([] ++ [0] ++ [1] : List (Fin 2)) (List.finRange 2)),
    (by decide : List.Perm ([] ++ [1] ++ [0] : List (Fin 2)) (List.finRange 2)),
    rfl, Nat.succ_pos 1, fun b => by fin_cases b <;> rfl⟩

abbrev dP (M K N : ℕ) : DotDims (A2 M K) (A2 K N) (A2 M N) := ⟨[1], [0], [0], [1], [], [], wfP M K N⟩

theorem dP_apply {M K N : ℕ} (P : Arr (A2 M K)) (V : Arr (A2 K N)) (z) (r : Fin M) (j : Fin N) :
    Ideal.matmul (dP M K N) P V z (ix2 r j) = z (ix2 r j) + ∑ k : Fin K, P (ix2 r k) * V (ix2 k j) :=
  Ideal.matmul_apply₁_of _ (a := 1) (K := K) rfl rfl _ _ _ _ _ _
    (fun k => by funext i; fin_cases i <;> rfl) (fun k => by funext i; fin_cases i <;> rfl)

/-! ## The operations of a level -/

/-- The scores of the block, `w` at keys beyond the query. -/
def kSc {N : ℕ} (w : EReal) (lane : IVec (A2 256 N) 32) (tids : IVec (A2 256 1) 32) (q : Arr (A2 256 192)) (K : Arr (A2 192 N)) : Arr (A2 256 N) :=
  select (cmpi .sgt lane (broadcastTo (A2 256 N) tids (k1 256 N))) (broadcast (A2 256 N) w)
    (matmul (F := Ideal) (φ₁ := .f32) (φ₂ := .f32) (dP 256 192 N) none q K (constant (F := Ideal) (A2 256 N) .f32 0x00000000#32))

/-- Each row's maximum, as a column. -/
def kMax {N : ℕ} (x : Arr (A2 256 N)) : Arr (A2 256 1) :=
  shapeCast (A2 256 1) (multiReduction (F := Ideal) (φ := .f32) .maximumf [1] (A1 256) x 0xFF800000#32 (kred N) (.inl rfl) rfl) kcol

/-- Each row's sum, as a column. -/
def kSum {N : ℕ} (x : Arr (A2 256 N)) : Arr (A2 256 1) :=
  shapeCast (A2 256 1) (multiReduction (F := Ideal) (φ := .f32) .add [1] (A1 256) x 0x00000000#32 (kred N) (.inl rfl) rfl) kcol

/-- Each row's best score below `m`. -/
def kNext {N : ℕ} (w : EReal) (x : Arr (A2 256 N)) (m : Arr (A2 256 1)) : Arr (A2 256 1) :=
  kMax (select (cmpf (F := Ideal) (φ := .f32) .oge x (broadcastTo (A2 256 N) m (k1 256 N))) (broadcast (A2 256 N) w) x)

/-- The numerators of the softmax. -/
def kExp {N : ℕ} (x : Arr (A2 256 N)) : Arr (A2 256 N) :=
  exp (F := Ideal) (φ := .f32) (subf (F := Ideal) (φ := .f32) x (broadcastTo (A2 256 N) (kMax x) (k1 256 N)))

/-- The numerators of the scores at least as good as the fourth best. -/
def kKept {N : ℕ} (w : EReal) (x : Arr (A2 256 N)) : Arr (A2 256 N) :=
  select (cmpf (F := Ideal) (φ := .f32) .oge x (broadcastTo (A2 256 N) (kNext w x (kNext w x (kNext w x (kMax x)))) (k1 256 N)))
    (kExp x) (broadcast (A2 256 N) (Scalar.ofBits (F := Ideal) .f32 0x00000000#32))

/-- What a level adds: its weight over the denominator, times the numerators' product with the values. -/
def kAdd {N : ℕ} (kap inv : Arr (A2 256 1)) (P : Arr (A2 256 N)) (V : Arr (A2 N 192)) (acc : Arr (A2 256 192)) : Arr (A2 256 192) :=
  addf (F := Ideal) (φ := .f32) acc (mulf (F := Ideal) (φ := .f32)
    (broadcastTo (A2 256 192) (divf (F := Ideal) (φ := .f32) (mulf (F := Ideal) (φ := .f32) kap inv) (kSum P)) (k1 256 192))
    (matmul (F := Ideal) (φ₁ := .f32) (φ₂ := .f32) (dP 256 N 192) none P V (constant (F := Ideal) (A2 256 192) .f32 0x00000000#32)))

/-! ## Read at an index -/

theorem kSc_read {N : ℕ} (w : EReal) (lane : IVec (A2 256 N) 32) (tids : IVec (A2 256 1) 32) (q : Arr (A2 256 192)) (K : Arr (A2 192 N))
    (r : Fin 256) (n : Fin N) {t : ℕ} (hN : N ≤ 2048) (ht : t < 2048) (hl : lane (ix2 r n) = BitVec.ofNat 32 n) (hi : tids (ix2 r 0) = BitVec.ofNat 32 t) :
    kSc w lane tids q K (ix2 r n) = if t < n then w else ∑ k : Fin 192, q (ix2 r k) * K (ix2 k n) := by
  pointwise [kSc, dP_apply]
  rw [hl, hi, WordCmp.cmpi_sgt_ofNat (by omega) (by omega), sel_ofBool]

theorem kMax_read {N : ℕ} (x : Arr (A2 256 N)) (r : Fin 256) (u : Fin 1) : kMax x (ix2 r u) = mx fun n => x (ix2 r n) := by
  pointwise [kMax]
  rw [neg_inf]
  rfl

theorem kSum_read {N : ℕ} (x : Arr (A2 256 N)) (r : Fin 256) (u : Fin 1) : kSum x (ix2 r u) = ∑ n : Fin N, x (ix2 r n) := by
  pointwise [kSum]

theorem kNext_read {N : ℕ} (x : Arr (A2 256 N)) (m : Arr (A2 256 1)) (r : Fin 256) (u : Fin 1) :
    kNext ⊥ x m (ix2 r u) = nx (fun n => x (ix2 r n)) (m (ix2 r 0)) := by
  unfold kNext
  rw [kMax_read]
  refine congrArg mx (funext fun n => ?_)
  pointwise []

theorem kExp_read {N : ℕ} (x : Arr (A2 256 N)) (r : Fin 256) (n : Fin N) :
    kExp x (ix2 r n) = Ideal.exp (x (ix2 r n) - mx fun n => x (ix2 r n)) := by
  pointwise [kExp, kMax_read]

theorem kKept_read {N : ℕ} (x : Arr (A2 256 N)) (r : Fin 256) (n : Fin N) : kKept ⊥ x (ix2 r n)
    = if m4 (fun n => x (ix2 r n)) ≤ x (ix2 r n) then Ideal.exp (x (ix2 r n) - mx fun n => x (ix2 r n)) else 0 := by
  pointwise [kKept, kExp_read, kNext_read, kMax_read]
  rfl

theorem kAdd_read {N : ℕ} (kap inv : Arr (A2 256 1)) (P : Arr (A2 256 N)) (V : Arr (A2 N 192)) (acc : Arr (A2 256 192)) (r : Fin 256) (j : Fin 192) :
    kAdd kap inv P V acc (ix2 r j) = acc (ix2 r j)
      + Ideal.div (kap (ix2 r 0) * inv (ix2 r 0)) (∑ n : Fin N, P (ix2 r n)) * ∑ n : Fin N, P (ix2 r n) * V (ix2 n j) := by
  pointwise [kAdd, kSum_read, dP_apply]

end Cert.Level
-- ==== Proof.KerSteps.lean ====
/- The steps of the retrieval call's body: a level adds its softmax-weighted values to the running sum, with its keys and
   values loaded from the block at the level's place. -/
module

public import proofs.«01_k».proof.Proof.RefLevel
public import proofs.«01_k».proof.Proof.KerLevel
public import proofs.«01_k».proof.Proof.Gen.AttnIdeal.Value

@[expose] public section

set_option maxRecDepth 16384

noncomputable section

namespace Cert.AttnTie
open Cert.AttnIdeal Cert.AttnIdeal.Gen Idealize.ShloMosaic Cert.Level

/-- The body's value for a masked score. -/
abbrev wBot : EReal := Named.named (F := Ideal) κ "mask" (φ := .f32) 0xF149F2CA#32

/-- A level that keeps the four best keys. -/
def stepTop {N : ℕ} (lane : IVec (A2 256 N) 32) (tids : IVec (A2 256 1) 32) (q : Arr (A2 256 192)) (inv kap : Arr (A2 256 1))
  (K : Arr (A2 192 N)) (V : Arr (A2 N 192)) (acc : Arr (A2 256 192)) : Arr (A2 256 192) :=
  kAdd kap inv (kKept wBot (kSc wBot lane tids q K)) V acc

/-- A level that keeps every key. -/
def stepAll {N : ℕ} (lane : IVec (A2 256 N) 32) (tids : IVec (A2 256 1) 32) (q : Arr (A2 256 192)) (inv kap : Arr (A2 256 1))
  (K : Arr (A2 192 N)) (V : Arr (A2 N 192)) (acc : Arr (A2 256 192)) : Arr (A2 256 192) :=
  kAdd kap inv (kExp (kSc wBot lane tids q K)) V acc

theorem sliceL {N : ℕ} (h : N ≤ 2048) : (A2 256 2048).Slices ![0, 0] (A2 256 N) :=
  ⟨rfl, fun a => by fin_cases a; exact le_rfl; exact (Nat.zero_add N).trans_le h⟩

theorem inbK {N off : ℕ} (h : off + N ≤ 4096) (a : Fin 3) : (![0, 0, off] : Fin 3 → ℕ) a + (A3 1 192 N).size a ≤ (A3 1 192 4096).size a := by
  fin_cases a; exact le_rfl; exact le_rfl; exact h

theorem inbV {N off : ℕ} (h : off + N ≤ 4096) (a : Fin 3) : (![0, off, 0] : Fin 3 → ℕ) a + (A3 1 N 192).size a ≤ (A3 1 4096 192).size a := by
  fin_cases a; exact le_rfl; exact h; exact le_rfl

theorem castK (N : ℕ) : (A3 1 192 N).ShapeCasts (A2 192 N) := by simp [Shape.ShapeCasts, Shape.numel, Fin.prod_univ_succ]
theorem castV (N : ℕ) : (A3 1 N 192).ShapeCasts (A2 N 192) := by simp [Shape.ShapeCasts, Shape.numel, Fin.prod_univ_succ]

/-- The block's keys `off … off + N`. -/
def kKeys {N off : ℕ} (h : off + N ≤ 4096) (x3 : Arr (A3 1 192 4096)) : Arr (A2 192 N) :=
  shapeCast (A2 192 N) (View.ld (e' := .f32) (Val := Elt Ideal) x3 (Rect.unit (s := A3 1 192 4096) ![0, 0, off] (A3 1 192 N).size (inbK h))) (castK N)

/-- The block's values `off … off + N`. -/
def kVals {N off : ℕ} (h : off + N ≤ 4096) (x4 : Arr (A3 1 4096 192)) : Arr (A2 N 192) :=
  shapeCast (A2 N 192) (View.ld (e' := .f32) (Val := Elt Ideal) x4 (Rect.unit (s := A3 1 4096 192) ![0, off, 0] (A3 1 N 192).size (inbV h))) (castV N)

theorem kKeys_read {N off : ℕ} (h : off + N ≤ 4096) (x3 : Arr (A3 1 192 4096)) (k : Fin 192) (n : Fin N) : kKeys h x3 (ix2 k n) = x3 (ix3 0 k ⟨off + n, by omega⟩) := by
  have e : Shape.reshapeEquiv (castK N) (ix2 k n) = ix3 (0 : Fin 1) k n :=
    Shape.reshapeEquiv_eq_of_vals _ _ _ _ _ (rowMajor_val3 _ (192 * N) N rfl rfl) (rowMajor_val2 _ N rfl) (by simp)
  unfold kKeys shapeCast View.ld
  rw [e]
  refine congrArg x3 ?_
  funext a
  fin_cases a <;> exact Fin.ext (by simp [Rect.emb_apply])

theorem kVals_read {N off : ℕ} (h : off + N ≤ 4096) (x4 : Arr (A3 1 4096 192)) (n : Fin N) (k : Fin 192) : kVals h x4 (ix2 n k) = x4 (ix3 0 ⟨off + n, by omega⟩ k) := by
  have e : Shape.reshapeEquiv (castV N) (ix2 n k) = ix3 (0 : Fin 1) n k :=
    Shape.reshapeEquiv_eq_of_vals _ _ _ _ _ (rowMajor_val3 _ (N * 192) 192 rfl rfl) (rowMajor_val2 _ 192 rfl) (by simp)
  unfold kVals shapeCast View.ld
  rw [e]
  refine congrArg x4 ?_
  funext a
  fin_cases a <;> exact Fin.ext (by simp [Rect.emb_apply])

/-- The first `N` lanes. -/
def lanes {N : ℕ} (h : N ≤ 2048) (lane : IVec (A2 256 2048) 32) : IVec (A2 256 N) 32 := extractStridedSlice (A2 256 N) ![0, 0] lane (sliceL h)

theorem lanes_read {N : ℕ} (h : N ≤ 2048) (lane : IVec (A2 256 2048) 32) (r : Fin 256) (n : Fin N) : lanes h lane (ix2 r n) = lane (ix2 r ⟨n, by omega⟩) := by
  pointwise [lanes]

end Cert.AttnTie

end
-- ==== Proof.Sparse.lean ====
/- The four best of each row in their places: the top-k picks four distinct keys none of the others beats, and the
   scatter puts their scores into an array of −∞. -/
module

public import proofs.«01_k».proof.Proof.RefLevel
public import Idealize.ShloMosaic.Lib.SortFacts
public import Idealize.ShloMosaic.Lib.Routing.OpsSet
public import Idealize.ShloMosaic.Lib.Routing.OpsPair

@[expose] public section

set_option maxRecDepth 16384

noncomputable section

namespace Cert.Level
open Idealize.ShloMosaic

/-- Update `(a, b, c)` lands where its three words, read signed, say. -/
theorem lands3 {N : ℕ} (idx : IVec (A4 2 2048 4 3) 32) (a : Fin 2) (b : Fin 2048) (c : Fin 4) (x : Fin 2) (y : Fin 2048) (z : Fin N) :
    (dS N).resultIdx? (ix3 a b c) idx = some (ix3 x y z)
      ↔ (idx (ix4 a b c 0)).toInt = x.val ∧ (idx (ix4 a b c 1)).toInt = y.val ∧ (idx (ix4 a b c 2)).toInt = z.val := by
  have hm : ∀ q : Fin 3, q ∈ (dS N).scatterDimsToOperandDims := fun q => by
    show q ∈ ([0, 1, 2] : List (Fin 3)); fin_cases q <;> simp
  have hwin : ∀ q : Fin 3, (dS N).window (ix3 a b c) q = 0 := fun q => by
    unfold ScatterDims.window
    rw [dif_neg fun h => (of_decide_eq_true (List.mem_filter.1 h).2) (by show q ∈ ([0, 1, 2] : List (Fin 3)); fin_cases q <;> simp)]
  have hsi : ∀ q : Fin 3, (dS N).siIdx (ix3 a b c) ⟨(dS N).scatterDimsToOperandDims.idxOf q, List.idxOf_lt_length_iff.2 (hm q)⟩ = ix4 a b c q := fun q => by
    fin_cases q <;> funext k <;> fin_cases k <;> rfl
  have hstart : ∀ q : Fin 3, (dS N).start (ix3 a b c) idx q = (idx (ix4 a b c q)).toInt := fun q => by
    unfold ScatterDims.start
    rw [dif_pos (hm q), hsi]
  rw [Routing.resultIdx?_eq_some]
  constructor
  · intro h
    have h0 := h 0; have h1 := h 1; have h2 := h 2
    rw [hstart, hwin] at h0 h1 h2
    exact ⟨by simpa using h0, by simpa using h1, by simpa using h2⟩
  · rintro ⟨h0, h1, h2⟩ q
    rw [hstart, hwin]
    fin_cases q
    · simpa using h0
    · simpa using h1
    · simpa using h2

theorem toInt_small {v : ℕ} (h : v < 2 ^ 31) : (BitVec.ofNat 32 v).toInt = v := by
  rw [BitVec.toInt_eq_toNat_of_lt] <;> rw [BitVec.toNat_ofNat, Nat.mod_eq_of_lt (by omega)]
  omega

theorem slice4 {α : Type} {N : ℕ} (h : 4 ≤ N) (x : (A3 2 2048 N).Idx → α) (b : Fin 2) (t : Fin 2048) (i : Fin 4) :
    extractStridedSlice (A3 2 2048 4) (fun _ => 0) x (sl4 h) (ix3 b t i) = x (ix3 b t ⟨i, i.isLt.trans_le h⟩) :=
  congrArg x (by funext a; fin_cases a <;> exact Fin.ext (Nat.zero_add _))

/-- The top-k of each row. -/
theorem best_read {N : ℕ} (h : 4 ≤ N) (y : Arr (A3 2 2048 N)) (b : Fin 2) (t : Fin 2048) :
    ∃ p : Fin 4 → Fin N, Function.Injective p ∧ (∀ n, n ∉ Set.range p → ∀ i, y (ix3 b t n) ≤ y (ix3 b t (p i)))
      ∧ (∀ i, (best h y).1 (ix3 b t i) = y (ix3 b t (p i))) ∧ ∀ i, (best h y).2 (ix3 b t i) = BitVec.ofNat 32 (p i) := by
  let R : Fin N → Fin N → Bool := fun k k' => FloatOps.cmpfTotal (F := Ideal) (φ := .f32) .gt (y (ix3 b t k)) (y (ix3 b t k')) == 1#1
  have hR : ∀ k k', R k k' = decide (y (ix3 b t k') < y (ix3 b t k)) := fun k k' => by
    show (BitVec.ofBool (decide (y (ix3 b t k') < y (ix3 b t k))) == 1#1) = _
    by_cases hlt : y (ix3 b t k') < y (ix3 b t k) <;> simp [hlt]
  have hord : ∀ i j, i < j → y (ix3 b t (sortedFrom R j)) ≤ y (ix3 b t (sortedFrom R i)) := fun i j hij => by
    have := sortedFrom_noInversion R R
      (fun k k' hk => by
        rw [hR] at hk ⊢
        exact decide_eq_false (not_lt.mpr (of_decide_eq_true hk).le))
      (fun _ _ hk => hk)
      (fun k k' k'' h1 h2 => by
        rw [hR] at h1 h2 ⊢
        exact decide_eq_false (not_lt.mpr ((not_lt.mp (of_decide_eq_false h1)).trans (not_lt.mp (of_decide_eq_false h2)))))
      i j hij
    rw [hR] at this
    exact not_lt.mp (of_decide_eq_false this)
  have hal : ∀ i : Fin 4, ∀ k : Fin N, (ix3 b t ⟨i, i.isLt.trans_le h⟩ : (A3 2 2048 N).Idx).along 2 k = ix3 b t k := fun i k => by
    funext q; fin_cases q <;> rfl
  have hfun : ∀ i : Fin 4, (fun k k' : Fin N => FloatOps.cmpfTotal (F := Ideal) (φ := .f32) .gt
      (y ((ix3 b t ⟨i, i.isLt.trans_le h⟩ : (A3 2 2048 N).Idx).along 2 k)) (y ((ix3 b t ⟨i, i.isLt.trans_le h⟩ : (A3 2 2048 N).Idx).along 2 k')) == 1#1) = R :=
    fun i => funext fun k => funext fun k' =>
      congrArg₂ (fun u v => FloatOps.cmpfTotal (F := Ideal) (φ := .f32) .gt (y u) (y v) == 1#1) (hal i k) (hal i k')
  refine ⟨fun i => sortedFrom R ⟨i, i.isLt.trans_le h⟩, ?_, ?_, ?_, ?_⟩
  · intro i j hij
    have := sortedFrom_injective R hij
    exact Fin.ext (by simpa using this)
  · intro n hn i
    obtain ⟨k, rfl⟩ := sortedFrom_surjective R n
    apply hord
    rw [Fin.lt_def]
    show i.val < k.val
    by_contra hc
    exact hn ⟨⟨k, by omega⟩, rfl⟩
  · intro i
    show extractStridedSlice (A3 2 2048 4) (fun _ => 0) (Host.sort2 (A3 2 2048 N) 2 (fun l r => FloatOps.cmpfTotal (F := Ideal) (φ := .f32) .gt l.1 r.1) y (iotaInDim (A3 2 2048 N) 32 2)).1 (sl4 h) (ix3 b t i) = _
    rw [slice4 h]
    exact (congrArg (fun S => y ((ix3 b t ⟨i, i.isLt.trans_le h⟩ : (A3 2 2048 N).Idx).along 2 (sortedFrom S ⟨i, i.isLt.trans_le h⟩))) (hfun i)).trans (congrArg y (hal i _))
  · intro i
    show extractStridedSlice (A3 2 2048 4) (fun _ => 0) (Host.sort2 (A3 2 2048 N) 2 (fun l r => FloatOps.cmpfTotal (F := Ideal) (φ := .f32) .gt l.1 r.1) y (iotaInDim (A3 2 2048 N) 32 2)).2 (sl4 h) (ix3 b t i) = _
    rw [slice4 h]
    exact congrArg (fun S => BitVec.ofNat 32 (sortedFrom S ⟨i, i.isLt.trans_le h⟩).val) (hfun i)

/-- Each row of the scattered array: the scores at four keys none of the others beats, −∞ elsewhere. -/
theorem sparse_read {N : ℕ} (h : 4 ≤ N) (hN : N ≤ 2048) (y : Arr (A3 2 2048 N)) (b : Fin 2) (t : Fin 2048) :
    ∃ p : Fin 4 → Fin N, Function.Injective p ∧ (∀ n, n ∉ Set.range p → ∀ i, y (ix3 b t n) ≤ y (ix3 b t (p i)))
      ∧ (∀ i, sparse h y (ix3 b t (p i)) = y (ix3 b t (p i))) ∧ ∀ n, n ∉ Set.range p → sparse h y (ix3 b t n) = ⊥ := by
  choose p hp hb h1 h2 using fun b t => best_read h y b t
  have hl : ∀ (a : Fin 2) (c : Fin 2048) (i : Fin 4) (n : Fin N),
      (dS N).resultIdx? (ix3 a c i) (words N (best h y).2) = some (ix3 b t n) ↔ a = b ∧ c = t ∧ p a c i = n := fun a c i n => by
    rw [lands3, words_read0, words_read1, words_read2 _ _ _ _ _ ((p a c i).isLt.le.trans hN) (h2 a c i), toInt_small (by omega), toInt_small (by omega),
      toInt_small (by omega)]
    simp only [Nat.cast_inj, Fin.ext_iff]
  refine ⟨p b t, hp b t, hb b t, fun i => ?_, fun n hn => ?_⟩
  · refine Routing.scatter_set_hit _ _ _ _ _ _ (fun k hk => ?_) (ix3 b t i) ((hl _ _ _ _).mpr ⟨rfl, rfl, rfl⟩)
    idx_vars k
    obtain ⟨rfl, rfl, e⟩ := (hl _ _ _ _).mp hk
    rw [h1, e]
  · refine (Routing.scatter_set_miss _ _ _ _ _ fun k hk => ?_).trans neg_inf
    idx_vars k
    obtain ⟨rfl, rfl, e⟩ := (hl _ _ _ _).mp hk
    exact hn ⟨_, e⟩

end Cert.Level
-- ==== Proof.MaskLevel.lean ====
/- One level of the row mask, at any number `N` of keys: the unscaled scores, their maximum, the three maxima below it,
   and the count of the scores at least as good as the fourth. Written once over `N` as the operations the mask prints,
   and read at an index. -/
module

public import proofs.«01_k».proof.Proof.RefLevel
public import proofs.«01_k».proof.On_four_best

@[expose] public section

set_option maxRecDepth 16384

noncomputable section

namespace Cert.Level
open Idealize.ShloMosaic Cert.FourBest

theorem wfM (N : ℕ) : DotDims.WF (A3 2 2048 192) (A3 2 192 N) (A3 2 2048 N) [2] [1] [1] [2] [0] [0] := DotDims.wf_batched (by decide)

abbrev dM (N : ℕ) : DotDims (A3 2 2048 192) (A3 2 192 N) (A3 2 2048 N) := ⟨[2], [1], [1], [2], [0], [0], wfM N⟩

theorem dM_apply {N : ℕ} (P : Arr (A3 2 2048 192)) (V : Arr (A3 2 192 N)) (z) (b : Fin 2) (t : Fin 2048) (n : Fin N) :
    Ideal.matmul (dM N) P V z (ix3 b t n) = z (ix3 b t n) + ∑ k : Fin 192, P (ix3 b t k) * V (ix3 b k n) :=
  Ideal.matmul_apply₁_of _ (a := 2) (K := 192) rfl rfl _ _ _ _ _ _
    (fun k => by funext i; fin_cases i <;> rfl) (fun k => by funext i; fin_cases i <;> rfl)

theorem bm (N : ℕ) : (A2 2 2048).BroadcastsInDim (A3 2 2048 N) (![0, 1] : Fin 2 → Fin 3) :=
  ⟨(by decide : Function.Injective (![0, 1] : Fin 2 → Fin 3)), fun i => by fin_cases i <;> exact Or.inr rfl⟩

/-- The scalar +∞ of the host. -/
def hTop : Arr A0 := constant (F := Ideal) A0 .f32 0x7F800000#32

/-- The unscaled scores, −∞ at keys beyond the query. -/
def mScores {N off : ℕ} (h : off + N ≤ 4096) (Q : Arr (A3 2 2048 192)) (K : Arr (A3 2 192 4096)) : Arr (A3 2 2048 N) :=
  select (cmpi .sgt (iotaInDim (A3 2 2048 N) 32 2) (iotaInDim (A3 2 2048 N) 32 1)) (broadcastInDim (A3 2 2048 N) ![] (b0 _) hBot)
    (Host.dotGeneral (F := Ideal) (φ₁ := .f32) (φ₂ := .f32) (dM N) none Q (extractStridedSlice (A3 2 192 N) ![0, 0, off] K (slK h)))

/-- Each row's maximum. -/
def mMax {N : ℕ} (x : Arr (A3 2 2048 N)) : Arr (A2 2 2048) :=
  Host.reduce (FloatOps.maximumf (F := Ideal) (φ := .f32)) x hBot (red N) (by decide)

/-- Each row's best score below `m`. -/
def mNext {N : ℕ} (x : Arr (A3 2 2048 N)) (m : Arr (A2 2 2048)) : Arr (A2 2 2048) :=
  mMax (select (cmpf (F := Ideal) (φ := .f32) .oge x (broadcastInDim (A3 2 2048 N) ![0, 1] (bm N) m)) (broadcastInDim (A3 2 2048 N) ![] (b0 _) hBot) x)

/-- The maximum is a number. -/
def mReal (m : Arr (A2 2 2048)) : IVec (A2 2 2048) 1 :=
  andi (cmpf (F := Ideal) (φ := .f32) .ogt m (broadcastInDim (A2 2 2048) ![] (b0 _) hBot))
    (cmpf (F := Ideal) (φ := .f32) .olt m (broadcastInDim (A2 2 2048) ![] (b0 _) hTop))

/-- How many scores above −∞ are at least `m`. -/
def mCount {N : ℕ} (x : Arr (A3 2 2048 N)) (m : Arr (A2 2 2048)) : Arr (A2 2 2048) :=
  Host.reduceAdd (F := Ideal) (φ := .f32) (select (andi (cmpf (F := Ideal) (φ := .f32) .oge x (broadcastInDim (A3 2 2048 N) ![0, 1] (bm N) m))
      (cmpf (F := Ideal) (φ := .f32) .ogt x (broadcastInDim (A3 2 2048 N) ![] (b0 _) hBot)))
    (broadcastInDim (A3 2 2048 N) ![] (b0 _) (constant (F := Ideal) A0 .f32 0x3F800000#32)) (broadcastInDim (A3 2 2048 N) ![] (b0 _) hZero))
    hZero (red N) (by decide)

/-- A level with more than four keys: the maximum is a number, and no tie makes more than four best. -/
def mTop {N : ℕ} (x : Arr (A3 2 2048 N)) : IVec (A2 2 2048) 1 :=
  andi (mReal (mMax x)) (cmpf (F := Ideal) (φ := .f32) .ole (mCount x (mNext x (mNext x (mNext x (mMax x)))))
    (broadcastInDim (A2 2 2048) ![] (b0 _) (constant (F := Ideal) A0 .f32 0x40800000#32)))

theorem mask_eq [Cert.On_four_best.Facts] (a0 : Arr (A3 2 2048 192)) (a1 a2) (a3 : Arr (A3 2 192 4096)) (a4 a5 a6 a7) :
    Cert.On_four_best.fn (F := Ideal) a0 a1 a2 a3 a4 a5 a6 a7 = broadcastInDim (A3 2 2048 2048) ![0, 1] (bm 2048)
      (andi (andi (andi (andi (andi (andi (andi (andi (andi (andi (andi
        (mTop (mScores (N := 2048) (off := 0) (by decide) a0 a3)) (mTop (mScores (N := 1024) (off := 2048) (by decide) a0 a3)))
        (mTop (mScores (N := 512) (off := 3072) (by decide) a0 a3))) (mTop (mScores (N := 256) (off := 3584) (by decide) a0 a3)))
        (mTop (mScores (N := 128) (off := 3840) (by decide) a0 a3))) (mTop (mScores (N := 64) (off := 3968) (by decide) a0 a3)))
        (mTop (mScores (N := 32) (off := 4032) (by decide) a0 a3))) (mTop (mScores (N := 16) (off := 4064) (by decide) a0 a3)))
        (mTop (mScores (N := 8) (off := 4080) (by decide) a0 a3)))
        (mReal (mMax (mScores (N := 4) (off := 4088) (by decide) a0 a3)))) (mReal (mMax (mScores (N := 2) (off := 4092) (by decide) a0 a3))))
        (mReal (mMax (mScores (N := 1) (off := 4094) (by decide) a0 a3)))) := rfl

/-! ## Read at an index -/

theorem pos_inf : Ideal.ofBits .f32 2139095040#32 = ⊤ := by simp [Ideal.ofBits, Ideal.ieee]

theorem four : Ideal.ofBits .f32 1082130432#32 = ((4 : ℕ) : EReal) := by
  have h : Ideal.ofBits .f32 1082130432#32 = ((4 : ℝ) : EReal) := by
    simp [Ideal.ofBits, Ideal.ieee, -EReal.coe_mul]
    norm_num
  rw [h]
  rfl

theorem and_one : ∀ a b : BitVec 1, IntOp.andi a b = 1#1 ↔ a = 1#1 ∧ b = 1#1 := by decide

theorem bool_one (p : Prop) [Decidable p] : BitVec.ofBool (decide p) = 1#1 ↔ p := by
  by_cases h : p <;> simp [h]

theorem mScores_read {N off : ℕ} (h : off + N ≤ 4096) (hN : N ≤ 2048) (Q : Arr (A3 2 2048 192)) (K : Arr (A3 2 192 4096)) (b : Fin 2) (t : Fin 2048) (n : Fin N) :
    mScores h Q K (ix3 b t n) = if (t : ℕ) < n then ⊥ else ∑ k : Fin 192, Q (ix3 b t k) * K (ix3 b k ⟨off + n, by omega⟩) := by
  pointwise [mScores, dM_apply, hBot]
  rw [neg_inf, WordCmp.cmpi_sgt_ofNat (by omega) (by omega), sel_ofBool]

theorem mMax_read {N : ℕ} (x : Arr (A3 2 2048 N)) (b : Fin 2) (t : Fin 2048) : mMax x (ix2 b t) = mx fun n => x (ix3 b t n) := by
  pointwise [mMax, hBot]
  rw [neg_inf]
  rfl

theorem mNext_read {N : ℕ} (x : Arr (A3 2 2048 N)) (m : Arr (A2 2 2048)) (b : Fin 2) (t : Fin 2048) :
    mNext x m (ix2 b t) = nx (fun n => x (ix3 b t n)) (m (ix2 b t)) := by
  unfold mNext
  rw [mMax_read]
  refine congrArg mx (funext fun n => ?_)
  pointwise [hBot, neg_inf]

theorem mReal_read (m : Arr (A2 2 2048)) (b : Fin 2) (t : Fin 2048) (h : mReal m (ix2 b t) = 1#1) : ⊥ < m (ix2 b t) ∧ m (ix2 b t) < ⊤ := by
  revert h
  pointwise [mReal, hBot, hTop, neg_inf]
  rw [pos_inf, and_one, bool_one, bool_one]
  exact id

theorem mCount_read {N : ℕ} (x : Arr (A3 2 2048 N)) (m : Arr (A2 2 2048)) (b : Fin 2) (t : Fin 2048) :
    mCount x m (ix2 b t) = ((Finset.univ.filter fun n => m (ix2 b t) ≤ x (ix3 b t n) ∧ ⊥ < x (ix3 b t n)).card : EReal) := by
  pointwise [mCount, hBot, hZero, neg_inf]
  rw [← Finset.sum_boole]
  refine Finset.sum_congr rfl fun n _ => ?_
  unfold Scalar.select
  refine if_congr ?_ rfl rfl
  exact (and_one _ _).trans (and_congr (bool_one _) (bool_one _))

theorem mTop_read {N : ℕ} (x : Arr (A3 2 2048 N)) (b : Fin 2) (t : Fin 2048) (h : mTop x (ix2 b t) = 1#1) :
    (⊥ < mx (fun n => x (ix3 b t n)) ∧ mx (fun n => x (ix3 b t n)) < ⊤) ∧ (Finset.univ.filter fun n => m4 (fun n => x (ix3 b t n)) ≤ x (ix3 b t n) ∧ ⊥ < x (ix3 b t n)).card ≤ 4 := by
  revert h
  pointwise [mTop, mCount_read, mNext_read, mMax_read]
  rw [four, and_one, bool_one, Nat.cast_le]
  refine fun h => ⟨?_, h.2⟩
  have := mReal_read _ _ _ h.1
  rwa [mMax_read] at this

/-- The side conditions of the mask's operations. -/
theorem mask_facts : Cert.On_four_best.Facts := by
  constructor <;> first | exact slK (by decide) | exact b0 _ | exact bm _ | exact red _ | exact wfM _ | decide

end Cert.Level
-- ==== Proof.LevelTie.lean ====
/- One level of the kernel's body is one level of the reference, where the row mask holds: the scores agree, the
   numerators kept agree, and the denominator moves across the product with the values. -/
module

public import proofs.«01_k».proof.Proof.KerLevel
public import proofs.«01_k».proof.Proof.Sparse
public import proofs.«01_k».proof.Proof.MaskLevel

@[expose] public section

set_option maxRecDepth 16384

noncomputable section

namespace Cert.Level
open Idealize.ShloMosaic Cert.FourBest

/-- The reciprocal of the root of 192. -/
abbrev cInv : ℝ := (Real.sqrt 192)⁻¹

theorem cInv_pos : 0 < cInv := inv_pos.mpr (Real.sqrt_pos.mpr (by norm_num))

theorem div_root (x : EReal) : Ideal.div x (Ideal.sqrt (Ideal.ofBits .f32 1128267776#32)) = x * (cInv : EReal) := by
  have h : Ideal.ofBits .f32 1128267776#32 = ((192 : ℝ) : EReal) := by
    simp [Ideal.ofBits, Ideal.ieee, -EReal.coe_mul]
    norm_num
  rw [h, Ideal.sqrt_coe, if_neg (by norm_num : ¬ (192 : ℝ) < 0),
    Ideal.div_coe (show Real.sqrt 192 ≠ 0 from (Real.sqrt_pos.mpr (by norm_num)).ne'), one_div]

variable {N off : ℕ} (h : off + N ≤ 4096) (hN : N ≤ 2048) (Q : Arr (A3 2 2048 192)) (K : Arr (A3 2 192 4096)) (V : Arr (A3 2 4096 192)) (b : Fin 2) (t : Fin 2048)

include hN in
theorem ref_scores (n : Fin N) : scores h Q K (ix3 b t n) = mScores h Q K (ix3 b t n) * (cInv : EReal) := by
  rw [scores_read, causal_read hN, mScores_read h hN, div_root]
  by_cases hn : (n : ℕ) ≤ t
  · rw [if_pos hn, if_neg (not_lt.mpr hn), add_zero]
  · rw [if_neg hn, if_pos (not_le.mp hn), EReal.add_bot, bot_mul_pos cInv_pos]

/-- What ties row `r` of a block of the kernel to row `(b, t)` of the arrays. -/
structure Row (q : Arr (A2 256 192)) (Kl : Arr (A2 192 N)) (Vl : Arr (A2 N 192)) (lane : IVec (A2 256 N) 32) (tids : IVec (A2 256 1) 32) (r : Fin 256) : Prop where
  q : ∀ k, q (ix2 r k) = Q (ix3 b t k) * (cInv : EReal)
  K : ∀ k n, Kl (ix2 k n) = K (ix3 b k ⟨off + n, by omega⟩)
  V : ∀ n j, Vl (ix2 n j) = V (ix3 b ⟨off + n, by omega⟩ j)
  lane : ∀ n : Fin N, lane (ix2 r n) = BitVec.ofNat 32 n
  tids : tids (ix2 r 0) = BitVec.ofNat 32 t

variable {h Q K V b t}
variable {q : Arr (A2 256 192)} {Kl : Arr (A2 192 N)} {Vl : Arr (A2 N 192)} {lane : IVec (A2 256 N) 32} {tids : IVec (A2 256 1) 32} {r : Fin 256}
  (H : Row h Q K V b t q Kl Vl lane tids r)
include hN H

theorem ker_scores (n : Fin N) : kSc ⊥ lane tids q Kl (ix2 r n) = mScores h Q K (ix3 b t n) * (cInv : EReal) := by
  rw [kSc_read ⊥ lane tids q Kl r n hN t.isLt (H.lane n) H.tids, mScores_read h hN]
  by_cases hn : (t : ℕ) < n
  · rw [if_pos hn, if_pos hn, bot_mul_pos cInv_pos]
  · rw [if_neg hn, if_neg hn, ← sum_mul_coe _ _ (by exact_mod_cast cInv_pos.le) (EReal.coe_ne_top _)]
    exact Finset.sum_congr rfl fun k _ => by rw [H.q, H.K, mul_right_comm]

variable (kap inv : Arr (A2 256 1)) (acc : Arr (A2 256 192)) (j : Fin 192)

theorem scaled_real (hm : ⊥ < mx (fun n => mScores h Q K (ix3 b t n)) ∧ mx (fun n => mScores h Q K (ix3 b t n)) < ⊤) :
    ⊥ < mx (fun n => mScores h Q K (ix3 b t n) * (cInv : EReal)) ∧ mx (fun n => mScores h Q K (ix3 b t n) * (cInv : EReal)) < ⊤ := by
  rw [mx_mul cInv_pos]
  have h1 := mul_strictMono cInv_pos hm.1
  have h2 := mul_strictMono cInv_pos hm.2
  exact ⟨(bot_le.trans_lt h1), h2.trans_le le_top⟩

theorem all_tie (hm : mReal (mMax (mScores h Q K)) (ix2 b t) = 1#1) :
    kAdd kap inv (kExp (kSc ⊥ lane tids q Kl)) Vl acc (ix2 r j) = acc (ix2 r j) + kap (ix2 r 0) * inv (ix2 r 0) * all h Q K V (ix3 b t j) := by
  have hm' := mReal_read _ _ _ hm
  rw [mMax_read] at hm'
  obtain ⟨h0, h1⟩ := scaled_real hN H hm'
  rw [kAdd_read]
  unfold all
  rw [soft_read]
  simp only [kExp_read, ker_scores hN H, ref_scores h hN, H.V]
  rw [soft_eq h0 h1]

theorem top_tie (h4 : 4 ≤ N) (hm : mTop (mScores h Q K) (ix2 b t) = 1#1) :
    kAdd kap inv (kKept ⊥ (kSc ⊥ lane tids q Kl)) Vl acc (ix2 r j) = acc (ix2 r j) + kap (ix2 r 0) * inv (ix2 r 0) * top h h4 Q K V (ix3 b t j) := by
  obtain ⟨hm', hc⟩ := mTop_read _ _ _ hm
  obtain ⟨h0, h1⟩ := scaled_real hN H hm'
  rw [← kept_mul cInv_pos] at hc
  obtain ⟨p, hp, hb, hS1, hS0⟩ := sparse_read h4 hN (scores h Q K) b t
  simp only [ref_scores h hN] at hb hS1
  have hkeep := kept_eq (S := fun n => sparse h4 (scores h Q K) (ix3 b t n)) hp hb hS1 hS0 hc h0
  have hmx : mx (fun n => sparse h4 (scores h Q K) (ix3 b t n)) = _ := mx_picked hp hb hS1 hS0
  rw [← hmx] at h0 h1
  rw [kAdd_read]
  unfold top
  rw [soft_read, ← soft_eq h0 h1]
  simp only [kKept_read, ker_scores hN H, hkeep, H.V]

end Cert.Level
-- ==== Proof.RefAttn.lean ====
/- The retrieval call's reference, read at an index: the twelve levels' results, their weights, the mix with the raw
   values, the output layer and the gate. -/
module

public import proofs.«01_k».proof.Proof.RefLevel
public import proofs.«01_k».proof.Proof.Gen.AttnRefIdeal.Read
public import Idealize.ShloMosaic.Lib.Pipeline.ValueKit

@[expose] public section

set_option maxRecDepth 16384

noncomputable section

namespace Cert.Level
open Cert.AttnRefIdeal Cert.AttnRefIdeal.Read Idealize.ShloMosaic

/-- The weight of level `l` at a row with scale `s`. -/
def kap (s : EReal) (l : Fin 12) : EReal :=
  Ideal.exp (Ideal.ofBits .f32 3204448256#32 * ((((l.val : ℝ) : EReal) - s * Ideal.ofBits .f32 1093664768#32) * (((l.val : ℝ) : EReal) - s * Ideal.ofBits .f32 1093664768#32)))

/-- The bound below the sum of the weights. -/
def eps : EReal := Ideal.ofBits .f32 841731191#32

theorem eps_pos : 0 < eps := by
  have h : eps = ((11258999 / 1125899906842624 : ℝ) : EReal) := by
    simp [eps, Ideal.ofBits, Ideal.ieee, -EReal.coe_mul]
    norm_num
  rw [h]
  exact_mod_cast (by norm_num : (0 : ℝ) < 11258999 / 1125899906842624)

/-- The sum of a row's weights, bounded below. -/
def den (s : EReal) : EReal := max eps (∑ l, kap s l)

theorem den_ne (s : EReal) : den s ≠ 0 := (eps_pos.trans_le (le_max_left _ _)).ne'

/-- Dividing by the sum is multiplying by its reciprocal. -/
theorem div_den (k s : EReal) : Ideal.div k (den s) = k * Ideal.div 1 (den s) := by
  unfold Ideal.div
  rw [if_neg (den_ne s), if_neg (den_ne s), one_mul]

variable (x0 : Vec Ideal S2x2048x192 .f32) (x1 : Vec Ideal S2x2048x1 .f32) (x2 : Vec Ideal S2x2048x192 .f32) (x3 : Vec Ideal S2x192x4096 .f32)
  (x4 : Vec Ideal S2x4096x192 .f32) (x5 : Vec Ideal S192x2048 .f32) (x6 : Vec Ideal S2048 .f32) (x7 : Vec Ideal S_ .f32)

/-- The result of level `l`. -/
def lev (l : Fin 12) : Arr (A3 2 2048 192) := match l with
  | 0 => top (N := 2048) (off := 0) (by decide) (by decide) x0 x3 x4
  | 1 => top (N := 1024) (off := 2048) (by decide) (by decide) x0 x3 x4
  | 2 => top (N := 512) (off := 3072) (by decide) (by decide) x0 x3 x4
  | 3 => top (N := 256) (off := 3584) (by decide) (by decide) x0 x3 x4
  | 4 => top (N := 128) (off := 3840) (by decide) (by decide) x0 x3 x4
  | 5 => top (N := 64) (off := 3968) (by decide) (by decide) x0 x3 x4
  | 6 => top (N := 32) (off := 4032) (by decide) (by decide) x0 x3 x4
  | 7 => top (N := 16) (off := 4064) (by decide) (by decide) x0 x3 x4
  | 8 => top (N := 8) (off := 4080) (by decide) (by decide) x0 x3 x4
  | 9 => all (N := 4) (off := 4088) (by decide) x0 x3 x4
  | 10 => all (N := 2) (off := 4092) (by decide) x0 x3 x4
  | 11 => all (N := 1) (off := 4094) (by decide) x0 x3 x4

theorem one_scores : val_main_v519 (F := Ideal) x0 x3 = scores (N := 1) (off := 4094) (by decide) x0 x3 := rfl

/-- The level with a single key. -/
theorem one_ref (b : Fin 2) (t : Fin 2048) (j : Fin 192) :
    val_main_v529 (F := Ideal) x0 x3 x4 (ix3 b t j) = all (N := 1) (off := 4094) (by decide) x0 x3 x4 (ix3 b t j) := by
  unfold all
  rw [soft_read]
  pointwise [val_main_v529, val_main_v528, val_main_v527, val_main_v526, val_main_v525, val_main_v524, val_main_v523, val_main_v522, val_main_v521, val_main_v520, val_main_v35, val_main_cst_134, val_main_cst_135, val_main_cst_136, one_scores]
  rw [neg_inf]
  simp only [bot_le, max_eq_right]
  rfl

/-- The levels' results side by side. -/
theorem cat_read (b : Fin 2) (t : Fin 2048) (l : Fin 12) (j : Fin 192) :
    val_main_v542 (F := Ideal) x0 x3 x4 (ix4 b t l j) = lev x0 x3 x4 l (ix3 b t j) := by
  obtain rfl | rfl | rfl | rfl | rfl | rfl | rfl | rfl | rfl | rfl | rfl | rfl :
      l = 0 ∨ l = 1 ∨ l = 2 ∨ l = 3 ∨ l = 4 ∨ l = 5 ∨ l = 6 ∨ l = 7 ∨ l = 8 ∨ l = 9 ∨ l = 10 ∨ l = 11 := by
    revert l
    decide
  rotate_left 11
  · pointwise [val_main_v542, val_main_v541, val_main_v540, val_main_v539, val_main_v538, val_main_v537, val_main_v536, val_main_v535, val_main_v534, val_main_v533, val_main_v532, val_main_v531, val_main_v530]
    exact one_ref x0 x3 x4 b t j
  all_goals
    pointwise [val_main_v542, val_main_v541, val_main_v540, val_main_v539, val_main_v538, val_main_v537, val_main_v536, val_main_v535, val_main_v534, val_main_v533, val_main_v532, val_main_v531, val_main_v530]
    rfl

theorem ref_kap (b : Fin 2) (t : Fin 2048) (l : Fin 12) : val_main_v556 (F := Ideal) x1 (ix3 b t l) = kap (x1 (ix3 b t 0)) l := by
  pointwise [val_main_v556, val_main_v555, val_main_v554, val_main_v553, val_main_v552, val_main_v551, val_main_v550, val_main_v549, val_main_v548, val_main_v547, val_main_v546, val_main_v545, val_main_v544, val_main_v543, val_main_v36, val_main_cst_137, val_main_cst_138, val_main_cst_139]
  have h1 : ∀ x : EReal, Ideal.div x 1 = x := fun x => by
    simp [Ideal.div]
  have h2 : (FloatOps.sitofp (F := Ideal) FTy.f32 (BitVec.ofNat 32 l.val) : EReal) = ((l.val : ℝ) : EReal) := by
    have e : (BitVec.ofNat 32 l.val).toInt = (l.val : ℤ) := by
      revert l
      decide
    show (((BitVec.ofNat 32 l.val).toInt : ℝ) : EReal) = _
    rw [e]
    rfl
  rw [h1, h2]
  rfl

theorem ref_den (b : Fin 2) (t : Fin 2048) (l : Fin 12) : val_main_v560 (F := Ideal) x1 (ix3 b t l) = den (x1 (ix3 b t 0)) := by
  pointwise [val_main_v560, val_main_v559, val_main_v558, val_main_v557, val_main_call12_v1, val_main_call12_v0, val_main_cst_140, val_main_cst_141, ref_kap]
  rfl

/-- The reference at an index. -/
theorem ref_main (b : Fin 2) (t : Fin 2048) (o : Fin 2048) : val_main_v583 (F := Ideal) x0 x1 x2 x3 x4 x5 x6 x7 (ix3 b t o)
    = Ideal.logistic (x7 ix0) * (∑ j : Fin 192, ((1 - x1 (ix3 b t 0)) * ∑ l : Fin 12, Ideal.div (kap (x1 (ix3 b t 0)) l) (den (x1 (ix3 b t 0))) * lev x0 x3 x4 l (ix3 b t j)
      + x1 (ix3 b t 0) * x2 (ix3 b t j)) * x5 (ix2 j o) + x6 (ix1 o)) := by
  pointwise [val_main_v583, val_main_v582, val_main_v581, val_main_v580, val_main_v579, val_main_v578, val_main_v577, val_main_v576, val_main_v575, val_main_v574, val_main_v573, val_main_v572, val_main_v571, val_main_v570, val_main_v569, val_main_v568, val_main_v567, val_main_v566, val_main_v565, val_main_v36, val_main_cst_142, val_main_cst_143, val_main_cst_144, val_main_cst_145, val_main_v564, val_main_v563, val_main_v562, val_main_v561, ref_kap, ref_den, cat_read]
  rfl

end Cert.Level

end
-- ==== Proof.KerOut.lean ====
/- The body of the retrieval call, read at an index: its twelve levels as one tower of steps, its weights, its output layer
   and its gate. -/
module

public import proofs.«01_k».proof.Proof.KerSteps
public import proofs.«01_k».proof.Proof.LevelTie
public import proofs.«01_k».proof.Proof.RefAttn
public import Idealize.ShloMosaic.Lib.Pipeline.ValueKit

@[expose] public section

set_option maxRecDepth 16384

noncomputable section

namespace Cert.AttnTie
open Cert.AttnIdeal Cert.AttnIdeal.Gen Idealize.ShloMosaic Cert.Level

/-- The weight of a level at each row of the block: `w` is the level's number as a literal. -/
def kKap (w : BitVec 32) (s : Arr (A2 256 1)) : Arr (A2 256 1) :=
  exp (F := Ideal) (φ := .f32) (mulf (F := Ideal) (φ := .f32) (broadcast (A2 256 1) (Scalar.ofBits (F := Ideal) .f32 0xBF000000#32))
    (mulf (F := Ideal) (φ := .f32)
      (subf (F := Ideal) (φ := .f32) (broadcast (A2 256 1) (Scalar.ofBits (F := Ideal) .f32 w)) (mulf (F := Ideal) (φ := .f32) s (broadcast (A2 256 1) (Scalar.ofBits (F := Ideal) .f32 0x41300000#32))))
      (subf (F := Ideal) (φ := .f32) (broadcast (A2 256 1) (Scalar.ofBits (F := Ideal) .f32 w)) (mulf (F := Ideal) (φ := .f32) s (broadcast (A2 256 1) (Scalar.ofBits (F := Ideal) .f32 0x41300000#32))))))

theorem kKap_read (w : BitVec 32) (l : Fin 12) (hw : Ideal.ofBits .f32 w = ((l.val : ℝ) : EReal)) (s : Arr (A2 256 1)) (r : Fin 256) :
    kKap w s (ix2 r 0) = kap (s (ix2 r 0)) l := by
  pointwise [kKap]
  rw [hw]
  rfl

/-- The reciprocal of the sum of the weights. -/
def kInv (s : Arr (A2 256 1)) : Arr (A2 256 1) :=
  k0_pay19 (F := Ideal) (kKap 0x40A00000#32 s) (kKap 0x40C00000#32 s) (kKap 0x40E00000#32 s) (kKap 0x41000000#32 s) (kKap 0x41100000#32 s) (kKap 0x41200000#32 s) (kKap 0x41300000#32 s)
    (k0_pay18 (F := Ideal) (kKap 0x00000000#32 s) (kKap 0x3F800000#32 s) (kKap 0x40000000#32 s) (kKap 0x40400000#32 s) (kKap 0x40800000#32 s))

variable (tids : IVec (A2 256 1) 32) (lane : IVec (A2 256 2048) 32) (s : Arr (A2 256 1)) (q : Arr (A2 256 192))
  (x3 : Vec Ideal S1x192x4096 .f32) (x4 : Vec Ideal S1x4096x192 .f32)

/-- The first eleven levels. -/
def tower : Arr (A2 256 192) :=
  stepAll (N := 2) (lanes (by decide) lane) tids q (kInv s) (kKap 0x41200000#32 s) (kKeys (off := 4092) (by decide) x3) (kVals (off := 4092) (by decide) x4) <|
  stepAll (N := 4) (lanes (by decide) lane) tids q (kInv s) (kKap 0x41100000#32 s) (kKeys (off := 4088) (by decide) x3) (kVals (off := 4088) (by decide) x4) <|
  stepTop (N := 8) (lanes (by decide) lane) tids q (kInv s) (kKap 0x41000000#32 s) (kKeys (off := 4080) (by decide) x3) (kVals (off := 4080) (by decide) x4) <|
  stepTop (N := 16) (lanes (by decide) lane) tids q (kInv s) (kKap 0x40E00000#32 s) (kKeys (off := 4064) (by decide) x3) (kVals (off := 4064) (by decide) x4) <|
  stepTop (N := 32) (lanes (by decide) lane) tids q (kInv s) (kKap 0x40C00000#32 s) (kKeys (off := 4032) (by decide) x3) (kVals (off := 4032) (by decide) x4) <|
  stepTop (N := 64) (lanes (by decide) lane) tids q (kInv s) (kKap 0x40A00000#32 s) (kKeys (off := 3968) (by decide) x3) (kVals (off := 3968) (by decide) x4) <|
  stepTop (N := 128) (lanes (by decide) lane) tids q (kInv s) (kKap 0x40800000#32 s) (kKeys (off := 3840) (by decide) x3) (kVals (off := 3840) (by decide) x4) <|
  stepTop (N := 256) (lanes (by decide) lane) tids q (kInv s) (kKap 0x40400000#32 s) (kKeys (off := 3584) (by decide) x3) (kVals (off := 3584) (by decide) x4) <|
  stepTop (N := 512) (lanes (by decide) lane) tids q (kInv s) (kKap 0x40000000#32 s) (kKeys (off := 3072) (by decide) x3) (kVals (off := 3072) (by decide) x4) <|
  stepTop (N := 1024) (lanes (by decide) lane) tids q (kInv s) (kKap 0x3F800000#32 s) (kKeys (off := 2048) (by decide) x3) (kVals (off := 2048) (by decide) x4) <|
  stepTop (N := 2048) lane tids q (kInv s) (kKap 0x00000000#32 s) (kKeys (off := 0) (by decide) x3) (kVals (off := 0) (by decide) x4) (k0_pay21 (F := Ideal))

theorem out_eq (i : grid0.Coords) (x0 : Vec Ideal S1x256x192 .f32) (x1 : Vec Ideal S1x256x1 .f32) (x2 : Vec Ideal S1x256x192 .f32) (x5 : Vec Ideal S192x2048 .f32)
    (x6 : Vec Ideal S1x2048 .f32) (x7 : Vec Ideal S1x1 .f32) :
    out0_8 (F := Ideal) i x0 x1 x2 x3 x4 x5 x6 x7 = View.canon [⟨r0_29, k0_pay1 (F := Ideal) (k0_pay70 (F := Ideal) (k0_pay3 (F := Ideal) (View.ld x1 r0_1)) (k0_pay4 i)
      (kKap 0x41300000#32 (k0_pay3 (F := Ideal) (View.ld x1 r0_1))) (kInv (k0_pay3 (F := Ideal) (View.ld x1 r0_1))) (k0_pay20 (F := Ideal) (k0_pay2 (F := Ideal) (View.ld x0 r0_0)))
      (iota .tc (A2 256 2048) 32 [1] iota_S256x2048_d1_w32)
      (tower (k0_pay4 i) (iota .tc (A2 256 2048) 32 [1] iota_S256x2048_d1_w32) (k0_pay3 (F := Ideal) (View.ld x1 r0_1)) (k0_pay20 (F := Ideal) (k0_pay2 (F := Ideal) (View.ld x0 r0_0))) x3 x4)
      (kKeys (N := 1) (off := 4094) (by decide) x3) (View.ld x4 r0_25) (View.ld x7 r0_26) (View.ld x2 r0_0) (View.ld x5 r0_27) (View.ld x6 r0_28))⟩] := rfl

/-! ## Read at an index -/

theorem sum12 (f : Fin 12 → EReal) : ∑ l, f l = f 0 + f 1 + f 2 + f 3 + f 4 + f 5 + f 6 + f 7 + f 8 + f 9 + f 10 + f 11 := by
  rw [Fin.sum_univ_castSucc, Fin.sum_univ_castSucc, Fin.sum_univ_castSucc, Fin.sum_univ_castSucc, Fin.sum_univ_eight]
  rfl

theorem one_lit : Ideal.ofBits .f32 1065353216#32 = 1 := by
  have h : Ideal.ofBits .f32 1065353216#32 = ((1 : ℝ) : EReal) := by
    simp [Ideal.ofBits, Ideal.ieee, -EReal.coe_mul]
    norm_num
  rw [h]
  rfl

/-- The levels' numbers as literals. -/
theorem lit0 : Ideal.ofBits .f32 0x00000000#32 = (((0 : Fin 12).val : ℝ) : EReal) := by simp [Ideal.ofBits, Ideal.ieee]
theorem lit1 : Ideal.ofBits .f32 0x3F800000#32 = (((1 : Fin 12).val : ℝ) : EReal) := by simp [Ideal.ofBits, Ideal.ieee, -EReal.coe_mul]; norm_num
theorem lit2 : Ideal.ofBits .f32 0x40000000#32 = (((2 : Fin 12).val : ℝ) : EReal) := by simp [Ideal.ofBits, Ideal.ieee, -EReal.coe_mul]; norm_num
theorem lit3 : Ideal.ofBits .f32 0x40400000#32 = (((3 : Fin 12).val : ℝ) : EReal) := by simp [Ideal.ofBits, Ideal.ieee, -EReal.coe_mul]; norm_num
theorem lit4 : Ideal.ofBits .f32 0x40800000#32 = (((4 : Fin 12).val : ℝ) : EReal) := by simp [Ideal.ofBits, Ideal.ieee, -EReal.coe_mul]; norm_num
theorem lit5 : Ideal.ofBits .f32 0x40A00000#32 = (((5 : Fin 12).val : ℝ) : EReal) := by simp [Ideal.ofBits, Ideal.ieee, -EReal.coe_mul]; norm_num
theorem lit6 : Ideal.ofBits .f32 0x40C00000#32 = (((6 : Fin 12).val : ℝ) : EReal) := by simp [Ideal.ofBits, Ideal.ieee, -EReal.coe_mul]; norm_num
theorem lit7 : Ideal.ofBits .f32 0x40E00000#32 = (((7 : Fin 12).val : ℝ) : EReal) := by simp [Ideal.ofBits, Ideal.ieee, -EReal.coe_mul]; norm_num
theorem lit8 : Ideal.ofBits .f32 0x41000000#32 = (((8 : Fin 12).val : ℝ) : EReal) := by simp [Ideal.ofBits, Ideal.ieee, -EReal.coe_mul]; norm_num
theorem lit9 : Ideal.ofBits .f32 0x41100000#32 = (((9 : Fin 12).val : ℝ) : EReal) := by simp [Ideal.ofBits, Ideal.ieee, -EReal.coe_mul]; norm_num
theorem lit10 : Ideal.ofBits .f32 0x41200000#32 = (((10 : Fin 12).val : ℝ) : EReal) := by simp [Ideal.ofBits, Ideal.ieee, -EReal.coe_mul]; norm_num
theorem lit11 : Ideal.ofBits .f32 0x41300000#32 = (((11 : Fin 12).val : ℝ) : EReal) := by simp [Ideal.ofBits, Ideal.ieee, -EReal.coe_mul]; norm_num

theorem kInv_read (s : Arr (A2 256 1)) (r : Fin 256) : kInv s (ix2 r 0) = Ideal.div 1 (den (s (ix2 r 0))) := by
  unfold kInv
  pointwise [k0_pay19, k0_pay18]
  rw [kKap_read _ 0 lit0, kKap_read _ 1 lit1, kKap_read _ 2 lit2, kKap_read _ 3 lit3, kKap_read _ 4 lit4, kKap_read _ 5 lit5, kKap_read _ 6 lit6,
    kKap_read _ 7 lit7, kKap_read _ 8 lit8, kKap_read _ 9 lit9, kKap_read _ 10 lit10, kKap_read _ 11 lit11]
  unfold den
  rw [sum12, max_comm]
  rfl

/-- The last level, the mix with the raw values, the output layer and the gate. -/
theorem last_read (kap inv : Arr (A2 256 1)) (acc : Arr (A2 256 192))
    (K : Arr (A2 192 1)) (V : Vec Ideal S1x1x192 .f32) (Vm : Arr (A2 1 192)) (hV : ∀ n j, Vm (ix2 n j) = V (ix3 0 0 j))
    (g : Arr (A2 1 1)) (scr : Arr (A3 1 256 192)) (wo : Arr (A2 192 2048)) (bo : Arr (A2 1 2048)) (r : Fin 256) (o : Fin 2048) :
    k0_pay70 (F := Ideal) s tids kap inv q lane acc K V g scr wo bo (ix2 r o)
      = ∑ j : Fin 192, (Ideal.logistic (g (ix2 0 0)) * (1 - s (ix2 r 0)) * stepAll (N := 1) (lanes (by decide) lane) tids q inv kap K Vm acc (ix2 r j)
          + Ideal.logistic (g (ix2 0 0)) * s (ix2 r 0) * scr (ix3 0 r j)) * wo (ix2 j o) + Ideal.logistic (g (ix2 0 0)) * bo (ix2 0 o) := by
  pointwise [k0_pay70, stepAll, kAdd, kExp, kSc, kMax, kSum, lanes, hV]
  simp only [Finset.univ_unique, Fin.default_eq_zero, Finset.fold_singleton, Finset.sum_singleton]

end Cert.AttnTie

end
-- ==== Proof.TowerTie.lean ====
/- The twelve levels of the retrieval call's body add up to the weighted sum of the reference's levels, at every row where
   the row mask holds. -/
module

public import proofs.«01_k».proof.Proof.KerOut

@[expose] public section

set_option maxRecDepth 16384

noncomputable section

namespace Cert.AttnTie
open Cert.AttnIdeal Cert.AttnIdeal.Gen Idealize.ShloMosaic Cert.Level

theorem wBot_eq : wBot = ⊥ := IdealRules.named_const.ideal_named_scalar _ _ _ _ rfl

/-- What the row mask asks of row `(b, t)`: level by level, the best score is real and at most four scores reach the fourth best. -/
structure RowOk (Q : Arr (A3 2 2048 192)) (K : Arr (A3 2 192 4096)) (b : Fin 2) (t : Fin 2048) : Prop where
  l0 : mTop (mScores (N := 2048) (off := 0) (by decide) Q K) (ix2 b t) = 1#1
  l1 : mTop (mScores (N := 1024) (off := 2048) (by decide) Q K) (ix2 b t) = 1#1
  l2 : mTop (mScores (N := 512) (off := 3072) (by decide) Q K) (ix2 b t) = 1#1
  l3 : mTop (mScores (N := 256) (off := 3584) (by decide) Q K) (ix2 b t) = 1#1
  l4 : mTop (mScores (N := 128) (off := 3840) (by decide) Q K) (ix2 b t) = 1#1
  l5 : mTop (mScores (N := 64) (off := 3968) (by decide) Q K) (ix2 b t) = 1#1
  l6 : mTop (mScores (N := 32) (off := 4032) (by decide) Q K) (ix2 b t) = 1#1
  l7 : mTop (mScores (N := 16) (off := 4064) (by decide) Q K) (ix2 b t) = 1#1
  l8 : mTop (mScores (N := 8) (off := 4080) (by decide) Q K) (ix2 b t) = 1#1
  l9 : mReal (mMax (mScores (N := 4) (off := 4088) (by decide) Q K)) (ix2 b t) = 1#1
  l10 : mReal (mMax (mScores (N := 2) (off := 4092) (by decide) Q K)) (ix2 b t) = 1#1
  l11 : mReal (mMax (mScores (N := 1) (off := 4094) (by decide) Q K)) (ix2 b t) = 1#1

theorem rowOk [Cert.On_four_best.Facts] (a0 : Arr (A3 2 2048 192)) (a1 a2) (a3 : Arr (A3 2 192 4096)) (a4 a5 a6 a7) (b : Fin 2) (t o : Fin 2048)
    (h : Cert.On_four_best.fn (F := Ideal) a0 a1 a2 a3 a4 a5 a6 a7 (ix3 b t o) = 1#1) : RowOk a0 a3 b t := by
  rw [mask_eq] at h
  revert h
  pointwise []
  simp only [and_one]
  rintro ⟨⟨⟨⟨⟨⟨⟨⟨⟨⟨⟨h0, h1⟩, h2⟩, h3⟩, h4⟩, h5⟩, h6⟩, h7⟩, h8⟩, h9⟩, h10⟩, h11⟩
  exact ⟨h0, h1, h2, h3, h4, h5, h6, h7, h8, h9, h10, h11⟩

variable {tids : IVec (A2 256 1) 32} {lane : IVec (A2 256 2048) 32} {q : Arr (A2 256 192)} {x3 : Vec Ideal S1x192x4096 .f32} {x4 : Vec Ideal S1x4096x192 .f32}
  {Q : Arr (A3 2 2048 192)} {K : Arr (A3 2 192 4096)} {V : Arr (A3 2 4096 192)} {b : Fin 2} {t : Fin 2048} {r : Fin 256}

/-- What ties row `r` of a block's operands to row `(b, t)` of the arrays. -/
structure Blk (tids : IVec (A2 256 1) 32) (lane : IVec (A2 256 2048) 32) (q : Arr (A2 256 192)) (x3 : Vec Ideal S1x192x4096 .f32) (x4 : Vec Ideal S1x4096x192 .f32)
    (Q : Arr (A3 2 2048 192)) (K : Arr (A3 2 192 4096)) (V : Arr (A3 2 4096 192)) (b : Fin 2) (t : Fin 2048) (r : Fin 256) : Prop where
  q : ∀ k, q (ix2 r k) = Q (ix3 b t k) * (cInv : EReal)
  K : ∀ k n, x3 (ix3 0 k n) = K (ix3 b k n)
  V : ∀ n j, x4 (ix3 0 n j) = V (ix3 b n j)
  lane : ∀ n : Fin 2048, lane (ix2 r n) = BitVec.ofNat 32 n
  tids : tids (ix2 r 0) = BitVec.ofNat 32 t

theorem Blk.row {N off : ℕ} (H : Blk tids lane q x3 x4 Q K V b t r) (h : off + N ≤ 4096) (hN : N ≤ 2048) :
    Row h Q K V b t q (kKeys h x3) (kVals h x4) (lanes hN lane) tids r :=
  ⟨H.q, fun k n => (kKeys_read h x3 k n).trans (H.K _ _), fun n j => (kVals_read h x4 n j).trans (H.V _ _),
    fun n => (lanes_read hN lane r n).trans (H.lane _), H.tids⟩

theorem Blk.first (H : Blk tids lane q x3 x4 Q K V b t r) :
    Row (N := 2048) (off := 0) (by decide) Q K V b t q (kKeys (N := 2048) (off := 0) (by decide) x3) (kVals (N := 2048) (off := 0) (by decide) x4) lane tids r :=
  ⟨H.q, fun k n => (kKeys_read _ x3 k n).trans (H.K _ _), fun n j => (kVals_read _ x4 n j).trans (H.V _ _), H.lane, H.tids⟩

variable (s inv kap : Arr (A2 256 1)) (acc : Arr (A2 256 192)) (j : Fin 192)

theorem top_step {N off : ℕ} {h : off + N ≤ 4096} (hN : N ≤ 2048) (h4 : 4 ≤ N) {lane : IVec (A2 256 N) 32}
    (H : Row h Q K V b t q (kKeys h x3) (kVals h x4) lane tids r) (hm : mTop (mScores h Q K) (ix2 b t) = 1#1) :
    stepTop lane tids q inv kap (kKeys h x3) (kVals h x4) acc (ix2 r j) = acc (ix2 r j) + kap (ix2 r 0) * inv (ix2 r 0) * top h h4 Q K V (ix3 b t j) := by
  unfold stepTop
  rw [wBot_eq]
  exact top_tie hN H kap inv acc j h4 hm

theorem all_step {N off : ℕ} {h : off + N ≤ 4096} (hN : N ≤ 2048) {lane : IVec (A2 256 N) 32}
    (H : Row h Q K V b t q (kKeys h x3) (kVals h x4) lane tids r) (hm : mReal (mMax (mScores h Q K)) (ix2 b t) = 1#1) :
    stepAll lane tids q inv kap (kKeys h x3) (kVals h x4) acc (ix2 r j) = acc (ix2 r j) + kap (ix2 r 0) * inv (ix2 r 0) * all h Q K V (ix3 b t j) := by
  unfold stepAll
  rw [wBot_eq]
  exact all_tie hN H kap inv acc j hm

theorem tower_read (H : Blk tids lane q x3 x4 Q K V b t r) (M : RowOk Q K b t) :
    stepAll (N := 1) (lanes (by decide) lane) tids q (kInv s) (kKap 0x41300000#32 s) (kKeys (off := 4094) (by decide) x3) (kVals (off := 4094) (by decide) x4) (tower tids lane s q x3 x4) (ix2 r j)
      = ∑ l : Fin 12, Ideal.div (Cert.Level.kap (s (ix2 r 0)) l) (den (s (ix2 r 0))) * lev Q K V l (ix3 b t j) := by
  rw [all_step _ _ _ _ (by decide) (H.row _ _) M.l11]
  unfold tower
  rw [all_step _ _ _ _ (by decide) (H.row _ _) M.l10, all_step _ _ _ _ (by decide) (H.row _ _) M.l9,
    top_step _ _ _ _ (by decide) (by decide) (H.row _ _) M.l8, top_step _ _ _ _ (by decide) (by decide) (H.row _ _) M.l7,
    top_step _ _ _ _ (by decide) (by decide) (H.row _ _) M.l6, top_step _ _ _ _ (by decide) (by decide) (H.row _ _) M.l5,
    top_step _ _ _ _ (by decide) (by decide) (H.row _ _) M.l4, top_step _ _ _ _ (by decide) (by decide) (H.row _ _) M.l3,
    top_step _ _ _ _ (by decide) (by decide) (H.row _ _) M.l2, top_step _ _ _ _ (by decide) (by decide) (H.row _ _) M.l1,
    top_step _ _ _ _ (by decide) (by decide) H.first M.l0]
  rw [kInv_read, kKap_read _ 0 lit0, kKap_read _ 1 lit1, kKap_read _ 2 lit2, kKap_read _ 3 lit3, kKap_read _ 4 lit4, kKap_read _ 5 lit5, kKap_read _ 6 lit6,
    kKap_read _ 7 lit7, kKap_read _ 8 lit8, kKap_read _ 9 lit9, kKap_read _ 10 lit10, kKap_read _ 11 lit11]
  rw [sum12, div_den (Cert.Level.kap _ 0), div_den (Cert.Level.kap _ 1), div_den (Cert.Level.kap _ 2), div_den (Cert.Level.kap _ 3), div_den (Cert.Level.kap _ 4), div_den (Cert.Level.kap _ 5), div_den (Cert.Level.kap _ 6), div_den (Cert.Level.kap _ 7), div_den (Cert.Level.kap _ 8), div_den (Cert.Level.kap _ 9), div_den (Cert.Level.kap _ 10), div_den (Cert.Level.kap _ 11)]
  pointwise [k0_pay21]
  rfl

end Cert.AttnTie

end
-- ==== Proof.AttnValue.lean ====
/- The retrieval call: at every row where the row mask holds, the array the kernel leaves is the reference's result. The block a
   grid point writes back is read at an element, its operands are traced to the arguments, and the gate moves across the
   output layer's sum. -/
module

public import proofs.«01_k».proof.Proof.TowerTie
public import proofs.«01_k».proof.Proof.Gen.AttnRefIdeal.Run

@[expose] public section

set_option maxRecDepth 16384

noncomputable section

namespace Cert.AttnTie
open Cert.AttnIdeal Cert.AttnIdeal.Gen Idealize.ShloMosaic Idealize.ShloMosaic.TcCoe Idealize.SL.Sem Cert.Level

/-! ## The gate -/

theorem gate_bounds (x : EReal) : 0 ≤ Ideal.logistic x ∧ Ideal.logistic x ≠ ⊤ := by
  induction x with
  | bot => simp
  | top =>
    rw [Ideal.logistic_top]
    exact ⟨zero_le_one, EReal.coe_ne_top 1⟩
  | coe r =>
    rw [Ideal.logistic_coe]
    exact ⟨by exact_mod_cast (inv_pos.mpr (add_pos_of_pos_of_nonneg one_pos (Real.exp_pos _).le)).le, EReal.coe_ne_top _⟩

/-- A gate spread over the mix and the bias is the gate times the whole. -/
theorem gate_out (g s b : EReal) (h0 : 0 ≤ g) (h1 : g ≠ ⊤) (T S W : Fin 192 → EReal) :
    ∑ j, (g * (1 - s) * T j + g * s * S j) * W j + g * b = g * (∑ j, ((1 - s) * T j + s * S j) * W j + b) := by
  rw [EReal.left_distrib_of_nonneg_of_ne_top h0 h1, mul_comm g (∑ j, _), ← FourBest.sum_mul_coe _ _ h0 h1]
  refine congrArg (· + _) (Finset.sum_congr rfl fun j _ => ?_)
  rw [mul_comm (_ * W j) g, ← mul_assoc, EReal.left_distrib_of_nonneg_of_ne_top h0 h1, mul_assoc, mul_assoc]

/-! ## The kernel's blocks -/

variable (m : (ℓ : Loc nD τ sig) → Buf (Elt Ideal) ℓ)

/-- The batch of grid point `t`. -/
abbrev bat (t : Fin cfg0.N) : Fin 2 := ⟨t.val / 8, by have : t.val < 16 := t.isLt; omega⟩
/-- The position of row `r` of the block of grid point `t`. -/
abbrev pos (t : Fin cfg0.N) (r : Fin 256) : Fin 2048 := ⟨t.val % 8 * 256 + r.val, by omega⟩

theorem idx : ∀ t : Fin cfg0.N, win0_0.index t = ![t.val / 8, t.val % 8, 0] ∧ win0_1.index t = ![t.val / 8, t.val % 8, 0] ∧ win0_2.index t = ![t.val / 8, t.val % 8, 0] ∧
    win0_3.index t = ![t.val / 8, 0, 0] ∧ win0_4.index t = ![t.val / 8, 0, 0] ∧ win0_5.index t = ![0, 0] ∧ win0_6.index t = ![0, 0] ∧ win0_7.index t = ![0, 0] ∧
    win0_8.index t = ![t.val / 8, t.val % 8, 0] ∧ (grid0.coords t 1).val = t.val % 8 :=
  (by decide +kernel : ∀ t : Fin grid0.N, _)

variable (c : Dev nD) (t : Fin cfg0.N)

theorem blk0 (r : Fin 256) (k : Fin 192) : iblk m c 0 t (ix3 0 r k) = m ((c : Thread nD τ).loc main_arg0) (ix3 (bat t) (pos t r) k) := by
  blk_ext! [iblk, V, idx t]

theorem blk1 (r : Fin 256) : iblk m c 1 t (ix3 0 r 0) = m ((c : Thread nD τ).loc main_arg1) (ix3 (bat t) (pos t r) 0) := by
  blk_ext! [iblk, V, idx t]

theorem blk2 (r : Fin 256) (k : Fin 192) : iblk m c 2 t (ix3 0 r k) = m ((c : Thread nD τ).loc main_arg2) (ix3 (bat t) (pos t r) k) := by
  blk_ext! [iblk, V, idx t]

theorem blk3 (k : Fin 192) (n : Fin 4096) : iblk m c 3 t (ix3 0 k n) = m ((c : Thread nD τ).loc main_arg3) (ix3 (bat t) k n) := by
  blk_ext! [iblk, V, idx t]

theorem blk4 (n : Fin 4096) (k : Fin 192) : iblk m c 4 t (ix3 0 n k) = m ((c : Thread nD τ).loc main_arg4) (ix3 (bat t) n k) := by
  blk_ext! [iblk, V, idx t]

theorem blk5 (j : Fin 192) (o : Fin 2048) : iblk m c 5 t (ix2 j o) = m ((c : Thread nD τ).loc main_arg5) (ix2 j o) := by
  blk_ext! [iblk, V, idx t]

theorem blk6 (o : Fin 2048) : iblk m c 6 t (ix2 0 o) = m ((c : Thread nD τ).loc main_arg6) (ix1 o) := by
  blk_ext! [iblk, V, idx t]

theorem blk7 : iblk m c 7 t (ix2 0 0) = m ((c : Thread nD τ).loc main_arg7) ix0 := by
  blk_ext! [iblk, V, idx t]

theorem emb8 (u : Fin 1) (r : Fin 256) (o : Fin 2048) : ((cfg0.win 8).blk t).view.emb (ix3 u r o) = ix3 (bat t) (pos t r) o := by
  blk_ext! [idx t]

/-- The named reciprocal root. -/
theorem inv_root : Named.named (F := Ideal) κ "inv_sqrt_m" (φ := .f32) 0x3D93CD3A#32 = (cInv : EReal) :=
  IdealRules.named_const.ideal_named_scalar _ _ _ _ rfl

theorem unit_read (X : Arr (A2 256 2048)) (u : Fin 1) (r : Fin 256) (o : Fin 2048) : k0_pay1 (F := Ideal) X (ix3 u r o) = X (ix2 r o) := by
  pointwise [k0_pay1]

/-- What the body leaves at row `r` of a block, column `o`. -/
theorem out_read (i : grid0.Coords) (x0 : Vec Ideal S1x256x192 .f32) (x1 : Vec Ideal S1x256x1 .f32) (x2 : Vec Ideal S1x256x192 .f32) (x3 : Vec Ideal S1x192x4096 .f32)
    (x4 : Vec Ideal S1x4096x192 .f32) (x5 : Vec Ideal S192x2048 .f32) (x6 : Vec Ideal S1x2048 .f32) (x7 : Vec Ideal S1x1 .f32)
    {Q : Arr (A3 2 2048 192)} {K : Arr (A3 2 192 4096)} {V : Arr (A3 2 4096 192)} {b : Fin 2} {t : Fin 2048} {r : Fin 256} (u : Fin 1) (o : Fin 2048)
    (hQ : ∀ k, x0 (ix3 0 r k) = Q (ix3 b t k)) (hK : ∀ k n, x3 (ix3 0 k n) = K (ix3 b k n)) (hV : ∀ n j, x4 (ix3 0 n j) = V (ix3 b n j))
    (ht : (i 1).val * 256 + r.val = t.val) (M : RowOk Q K b t) :
    out0_8 (F := Ideal) i x0 x1 x2 x3 x4 x5 x6 x7 (ix3 u r o)
      = Ideal.logistic (x7 (ix2 0 0)) * (∑ j : Fin 192, ((1 - x1 (ix3 0 r 0)) * ∑ l : Fin 12, Ideal.div (kap (x1 (ix3 0 r 0)) l) (den (x1 (ix3 0 r 0))) * lev Q K V l (ix3 b t j)
        + x1 (ix3 0 r 0) * x2 (ix3 0 r j)) * x5 (ix2 j o) + x6 (ix2 0 o)) := by
  have H : Blk (k0_pay4 i) (iota .tc (A2 256 2048) 32 [1] iota_S256x2048_d1_w32) (k0_pay20 (F := Ideal) (k0_pay2 (F := Ideal) x0)) x3 x4 Q K V b t r := by
    refine ⟨fun k => ?_, hK, hV, fun n => ?_, ?_⟩
    · rw [← hQ, ← inv_root]
      pointwise [k0_pay20, k0_pay2]
    · pointwise []
    · pointwise [k0_pay4]
      show BitVec.ofNat 32 r.val + BitVec.ofNat 32 (i 1).val * BitVec.ofNat 32 256 = _
      rw [← BitVec.ofNat_mul, ← BitVec.ofNat_add, add_comm, ht]
  have hs : k0_pay3 (F := Ideal) x1 (ix2 r 0) = x1 (ix3 0 r 0) := by pointwise [k0_pay3]
  have hv : ∀ (n : Fin 1) (j : Fin 192), kVals (N := 1) (off := 4094) (by decide) x4 (ix2 n j) = View.ld x4 r0_25 (ix3 0 0 j) := fun n j => by
    rw [kVals_read]
    pointwise [View.ld]
  rw [out_eq, View.canon_cons_unit_lit _ _ _ (by decide), View.ld_unit_lit _ x0 (by decide), View.ld_unit_lit _ x1 (by decide), View.ld_unit_lit _ x2 (by decide),
    View.ld_unit_lit _ x5 (by decide), View.ld_unit_lit _ x6 (by decide), View.ld_unit_lit _ x7 (by decide), unit_read,
    last_read _ _ _ _ _ _ _ _ _ _ hv]
  simp only [tower_read _ _ H M, hs]
  exact gate_out _ _ _ (gate_bounds _).1 (gate_bounds _).2 _ _ _

/-- At every row where the mask holds, the array the kernel leaves is the reference's. -/
theorem final [Cert.On_four_best.Facts] (i : (A3 2 2048 2048).Idx)
    (h : Cert.On_four_best.fn (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) i = 1#1) :
    (dats m 0 c).arrAt 8 cfg0.N i = Cert.AttnRefIdeal.Read.val_main_v583 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) i := by
  revert h
  refine (dats m 0 c).arrAt_forall_of_covers 8 (fun i v => Cert.On_four_best.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) i = 1#1 →
    v = Cert.AttnRefIdeal.Read.val_main_v583 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) i) (by decide +kernel) (fun t hf y => ?_) i
  blk_simp
  rw [after0_8]
  idx_vars y
  have e := emb8 t y0 y1 y2
  intro h
  have M := rowOk _ _ _ _ _ _ _ _ _ _ _ (e ▸ h)
  refine Eq.trans ?_ (congrArg _ e.symm)
  rw [ref_main]
  rw [out_read (Q := m ((c : Thread nD τ).loc main_arg0)) (K := m ((c : Thread nD τ).loc main_arg3)) (V := m ((c : Thread nD τ).loc main_arg4)) (b := bat t) (t := pos t y1) _ _ _ _ _ _ _ _ _ y0 y2
    (blk0 m c t y1) (blk3 m c t) (blk4 m c t) (by rw [(idx t).2.2.2.2.2.2.2.2.2]) M]
  simp only [blk1, blk2, blk5, blk6, blk7]

end Cert.AttnTie

end
-- ==== Proof.AttnClaims.lean ====
/- The claims about the retrieval call. -/
module

public import proofs.«01_k».proof.Defs
public import proofs.«01_k».proof.Proof.Gen.Attn.Frame
public import proofs.«01_k».proof.Proof.AttnValue
public import Idealize.ShloMosaic.Lib.Quiescent

@[expose] public section

noncomputable section

namespace Cert.AttnTie

open Idealize.ShloMosaic Idealize.ShloMosaic.TcCoe Idealize.SL.Sem

theorem frame_p : Cert.quiescent_Attn := fun m ρ _ => Cert.Attn.Gen.frame m ρ
theorem frame_pi : Cert.quiescent_AttnIdeal := fun m ρ _ => Cert.AttnIdeal.Gen.frame m ρ
theorem frame_ri : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

/-- The two named literals: the reciprocal root of 192, and the mask's large negative value, which stands for −∞. -/
theorem preserves : Cert.preserves_Attn_AttnIdeal :=
  ⟨IdealRules.named_const.statement Cert.AttnIdeal.κ "inv_sqrt_m" .f32 0x3D93CD3A#32 (((Real.sqrt 192)⁻¹ : ℝ) : EReal) rfl,
   IdealRules.named_const.statement Cert.AttnIdeal.κ "mask" .f32 0xF149F2CA#32 ⊥ rfl⟩

/-- On the rows where the mask holds the kernel's result is the reference's. -/
theorem algebraic : Cert.algebraic_AttnIdeal_AttnRefIdeal_on_four_best (hOn_four_best := Cert.Level.mask_facts) := by
  haveI := Cert.Level.mask_facts
  intro m ρ m' ρ' _ hagree
  refine ⟨_, (θ_run Cert.AttnIdeal.defs _ _).mono (fun r h c => ⟨fun i _ => congrFun (h c).1 i, (h c).2⟩) (Cert.AttnIdeal.Value.run_blocks m ρ), ?_⟩
  refine (θ_run Cert.AttnRefIdeal.defs _ _).mono (fun _ h c => ?_) (Cert.AttnRefIdeal.Value.run (F := Ideal) m' ρ')
  obtain ⟨h0, hargs⟩ := h c
  obtain ⟨a0, a1, a2, a3, a4, a5, a6, a7⟩ := hagree c
  refine ⟨fun i hi => (congrFun h0 i).trans ?_, hargs⟩
  rw [final m c i hi, Cert.AttnRefIdeal.Read.val_main_v583_eq, ← a0, ← a1, ← a2, ← a3, ← a4, ← a5, ← a6, ← a7]

end Cert.AttnTie

end
-- ==== Proof.TreeChain.lean ====
module

public import proofs.«01_k».proof.Proof.Gen.TreeIdeal.Frame
public import proofs.«01_k».proof.Proof.Gen.TreeIdeal.Skeleton
public import Idealize.ShloMosaic.Lib.Pipeline.ValueKit

/-! # The tree as one array, and the buffers the kernel builds it in

The tree call keeps each level of the tree after the one below it: level `l` lies at rows
`4096 - 4096 / 2^l` and on. A row `r` from 2048 on therefore has its two children at rows
`2 (r - 2048)` and `2 (r - 2048) + 1`, whatever its level, and the whole tree is one function of the
row (`wt` for the weights, `nd` for a feature of the nodes). This file states that function, describes
what a level of the kernel loads and stores (`Loads`, `Bufs`), and shows, once for every level, that
what is stored agrees with it. -/

@[expose] public section

noncomputable section

namespace Cert.TreeTie

open Cert.TreeIdeal
open Idealize.ShloMosaic

variable {F : FTy → Type} [FloatOps F]

/-! ## The tree as a function of the row -/

/-- The small constant added to every sum of two weights. -/
def eps : F .f32 := Scalar.ofBits .f32 0x322BCC77#32

/-- One. -/
def one : F .f32 := Scalar.ofBits .f32 0x3F800000#32

/-- Zero. -/
def zero : F .f32 := Scalar.ofBits .f32 0x00000000#32

/-- The weight at row `r`: a leaf's own, or the sum of the two children's and the small constant. -/
def wt (w : ℕ → F .f32) (r : ℕ) : F .f32 :=
  if h : 2048 ≤ r ∧ r < 4095 then
    FloatOps.addf (FloatOps.addf (wt w (2 * (r - 2048))) (wt w (2 * (r - 2048) + 1))) eps
  else w r
termination_by r
decreasing_by all_goals omega

/-- A feature of the node at row `r`: a leaf's own, or the weighted mean of the two children's. -/
def nd (w x : ℕ → F .f32) (r : ℕ) : F .f32 :=
  if h : 2048 ≤ r ∧ r < 4095 then
    FloatOps.mulf
      (FloatOps.addf (FloatOps.mulf (wt w (2 * (r - 2048))) (nd w x (2 * (r - 2048))))
        (FloatOps.mulf (wt w (2 * (r - 2048) + 1)) (nd w x (2 * (r - 2048) + 1))))
      (FloatOps.divf one (wt w r))
  else x r
termination_by r
decreasing_by all_goals omega

theorem wt_leaf (w : ℕ → F .f32) {r : ℕ} (h : r < 2048) : wt w r = w r := by
  rw [wt, dif_neg (by omega)]

theorem nd_leaf (w x : ℕ → F .f32) {r : ℕ} (h : r < 2048) : nd w x r = x r := by
  rw [nd, dif_neg (by omega)]

theorem wt_node (w : ℕ → F .f32) {r c : ℕ} (h : 2048 ≤ r) (h' : r < 4095) (hc : 2 * r = c + 4096) :
    wt w r = FloatOps.addf (FloatOps.addf (wt w c) (wt w (c + 1))) eps := by
  have hr : 2 * (r - 2048) = c := by omega
  refine (wt.eq_1 w r).trans ((dif_pos ⟨h, h'⟩).trans ?_)
  rw [hr]

theorem nd_node (w x : ℕ → F .f32) {r c : ℕ} (h : 2048 ≤ r) (h' : r < 4095) (hc : 2 * r = c + 4096) :
    nd w x r = FloatOps.mulf (FloatOps.addf (FloatOps.mulf (wt w c) (nd w x c))
        (FloatOps.mulf (wt w (c + 1)) (nd w x (c + 1)))) (FloatOps.divf one (wt w r)) := by
  have hr : 2 * (r - 2048) = c := by omega
  refine (nd.eq_1 w x r).trans ((dif_pos ⟨h, h'⟩).trans ?_)
  rw [hr]

/-- A block of leaves read at a row and a feature. -/
def leaf (x : Vec F S1x2048x192 .f32) (m r : ℕ) : F .f32 :=
  x (ValueIdx.ix3 (0 : Fin 1) (Fin.ofNat 2048 r) (Fin.ofNat 192 m))

/-- The leaves' weights at a row. -/
def leafW (x : Vec F S1x2048x1 .f32) (r : ℕ) : F .f32 :=
  x (ValueIdx.ix3 (0 : Fin 1) (Fin.ofNat 2048 r) (0 : Fin 1))

/-- Feature `m` of row `r` of the tree over leaves `x` with weights `w`; the last row is zero. -/
def tree (w : Vec F S1x2048x1 .f32) (x : Vec F S1x2048x192 .f32) (r m : ℕ) : F .f32 :=
  if r < 4095 then nd (leafW w) (leaf x m) r else zero

/-- The tree's rows as a block. -/
def outRows (w : Vec F S1x2048x1 .f32) (x : Vec F S1x2048x192 .f32) : Vec F S1x4096x192 .f32 :=
  fun i => tree w x (i 1).val (i 2).val

/-- The tree's rows as the columns of a block. -/
def outCols (w : Vec F S1x2048x1 .f32) (x : Vec F S1x2048x192 .f32) : Vec F S1x192x4096 .f32 :=
  fun i => tree w x (i 2).val (i 1).val

/-! ## What a level loads and stores -/

/-- `h` rows of 128 lanes. -/
abbrev Rw (h : ℕ) : Shape := ⟨2, ![h, 128]⟩

/-- The sum of two children's weights. -/
def tot {h : ℕ} (w1 w2 : Vec F (Rw h) .f32) : Vec F (Rw h) .f32 :=
  addf (addf w1 w2) (broadcast (Rw h) (Scalar.ofBits .f32 0x322BCC77#32))

/-- The weighted mean of two children. -/
def mean {h : ℕ} (w1 w2 x1 x2 : Vec F (Rw h) .f32) : Vec F (Rw h) .f32 :=
  mulf (addf (mulf w1 x1) (mulf w2 x2)) (divf (broadcast (Rw h) (Scalar.ofBits .f32 0x3F800000#32)) (tot w1 w2))

/-- What a level loads: the even and the odd rows of the level below, of the weights (`w`) and of the
    four planes: keys' features below 128 (`a`) and from 128 on (`b`), and values' (`c`, `d`). -/
structure Loads (F : FTy → Type) [FloatOps F] (h : ℕ) where
  w1 : Vec F (Rw h) .f32
  w2 : Vec F (Rw h) .f32
  a1 : Vec F (Rw h) .f32
  a2 : Vec F (Rw h) .f32
  b1 : Vec F (Rw h) .f32
  b2 : Vec F (Rw h) .f32
  c1 : Vec F (Rw h) .f32
  c2 : Vec F (Rw h) .f32
  d1 : Vec F (Rw h) .f32
  d2 : Vec F (Rw h) .f32

/-- The stores made so far, latest first: into the five scratch planes, into the keys' block (`t`) and
    into the values' block (`v`). -/
structure Bufs (F : FTy → Type) [FloatOps F] where
  w : List (View.Piece (Elt F) S4096x128 .f32)
  a : List (View.Piece (Elt F) S4096x128 .f32)
  b : List (View.Piece (Elt F) S4096x128 .f32)
  c : List (View.Piece (Elt F) S4096x128 .f32)
  d : List (View.Piece (Elt F) S4096x128 .f32)
  t : List (View.Piece (Elt F) S1x192x4096 .f32)
  v : List (View.Piece (Elt F) S1x4096x192 .f32)

section Shapes

variable {h o : ℕ}

theorem inb_rows (hb : o + h ≤ 4096) (a : Fin 2) : (![o, 0] : Fin 2 → ℕ) a + (![h, 128] : Fin 2 → ℕ) a ≤ S4096x128.size a := by
  fin_cases a <;> simp <;> omega

theorem inb_half (hb : o + 2 * h ≤ 4096) (a : Fin 2) :
    (![h, 128] : Fin 2 → ℕ) a = 0 ∨ (![o, 0] : Fin 2 → ℕ) a + (![2, 1] : Fin 2 → ℕ) a * ((![h, 128] : Fin 2 → ℕ) a - 1) < S4096x128.size a := by
  fin_cases a <;> simp <;> omega

theorem inb_half' (hb : o + 2 * h ≤ 4096) (a : Fin 2) :
    (![h, 128] : Fin 2 → ℕ) a = 0 ∨ (![o + 1, 0] : Fin 2 → ℕ) a + (![2, 1] : Fin 2 → ℕ) a * ((![h, 128] : Fin 2 → ℕ) a - 1) < S4096x128.size a := by
  fin_cases a <;> simp <;> omega

theorem inb_v {n k : ℕ} (hb : o + h ≤ 4096) (hk : k + n ≤ 192) (a : Fin 3) :
    (![0, o, k] : Fin 3 → ℕ) a + (![1, h, n] : Fin 3 → ℕ) a ≤ S1x4096x192.size a := by
  fin_cases a <;> simp <;> omega

theorem inb_t {n k : ℕ} (hb : o + h ≤ 4096) (hk : k + n ≤ 192) (a : Fin 3) :
    (![0, k, o] : Fin 3 → ℕ) a + (![1, n, h] : Fin 3 → ℕ) a ≤ S1x192x4096.size a := by
  fin_cases a <;> simp <;> omega

theorem casts3 (m n : ℕ) : (⟨2, ![m, n]⟩ : Shape).ShapeCasts ⟨3, ![1, m, n]⟩ := by
  simp [Shape.ShapeCasts, Shape.numel, Fin.prod_univ_succ]

theorem transposes2 (m n : ℕ) : (⟨2, ![m, n]⟩ : Shape).Transposes [1, 0] ⟨2, ![n, m]⟩ := by
  refine ⟨List.Perm.swap 0 1 [], rfl, fun b => ?_⟩
  fin_cases b <;> rfl

theorem slices64 (h : ℕ) : (Rw h).Slices ![0, 0] ⟨2, ![h, 64]⟩ := by
  refine ⟨rfl, fun a => ?_⟩
  fin_cases a <;> simp

end Shapes

/-- The first 64 lanes. -/
def cut {h : ℕ} (x : Vec F (Rw h) .f32) : Vec F ⟨2, ![h, 64]⟩ .f32 :=
  extractStridedSlice ⟨2, ![h, 64]⟩ ![0, 0] x (slices64 h)

/-- Rows stored into a plane at row `o`. -/
def rowPiece (h o : ℕ) (hb : o + h ≤ 4096) (x : Vec F (Rw h) .f32) : View.Piece (Elt F) S4096x128 .f32 :=
  ⟨Rect.unit ![o, 0] (Rw h).size (inb_rows hb), shapeCast (Rw h) x rfl⟩

/-- Rows of `n` lanes stored into the values' block at row `o`, lane `k`. -/
def vPiece (h o n k : ℕ) (hb : o + h ≤ 4096) (hk : k + n ≤ 192) (x : Vec F ⟨2, ![h, n]⟩ .f32) :
    View.Piece (Elt F) S1x4096x192 .f32 :=
  ⟨Rect.unit ![0, o, k] ![1, h, n] (inb_v hb hk), shapeCast ⟨3, ![1, h, n]⟩ x (casts3 h n)⟩

/-- Rows of `n` lanes stored as columns into the keys' block at column `o`, line `k`. -/
def tPiece (h o n k : ℕ) (hb : o + h ≤ 4096) (hk : k + n ≤ 192) (x : Vec F ⟨2, ![h, n]⟩ .f32) :
    View.Piece (Elt F) S1x192x4096 .f32 :=
  ⟨Rect.unit ![0, k, o] ![1, n, h] (inb_t hb hk),
    shapeCast ⟨3, ![1, n, h]⟩ (transpose ⟨2, ![n, h]⟩ [1, 0] x (transposes2 h n)) (casts3 n h)⟩

/-- A level's stores: `h` rows at row `o`, from what the level has loaded. -/
def Bufs.store (B : Bufs F) (h o : ℕ) (hb : o + h ≤ 4096) (L : Loads F h) : Bufs F where
  w := rowPiece h o hb (tot L.w1 L.w2) :: B.w
  a := rowPiece h o hb (mean L.w1 L.w2 L.a1 L.a2) :: B.a
  b := rowPiece h o hb (mean L.w1 L.w2 L.b1 L.b2) :: B.b
  c := rowPiece h o hb (mean L.w1 L.w2 L.c1 L.c2) :: B.c
  d := rowPiece h o hb (mean L.w1 L.w2 L.d1 L.d2) :: B.d
  t := tPiece h o 64 128 hb (by omega) (cut (mean L.w1 L.w2 L.b1 L.b2))
    :: tPiece h o 128 0 hb (by omega) (mean L.w1 L.w2 L.a1 L.a2) :: B.t
  v := vPiece h o 64 128 hb (by omega) (cut (mean L.w1 L.w2 L.d1 L.d2))
    :: vPiece h o 128 0 hb (by omega) (mean L.w1 L.w2 L.c1 L.c2) :: B.v

/-- The five scratch planes. -/
structure Planes (sig : RefSig) (κ : Kind) (sp : Space) where
  w : View sig κ sp S4096x128 .f32
  a : View sig κ sp S4096x128 .f32
  b : View sig κ sp S4096x128 .f32
  c : View sig κ sp S4096x128 .f32
  d : View sig κ sp S4096x128 .f32

section Load

variable {sig : RefSig} {κ : Kind} {sp : Space}

/-- Every other row from row `o` on, `h` of them. -/
def half (v : View sig κ sp S4096x128 .f32) (M : List (View.Piece (Elt F) S4096x128 .f32)) (h o : ℕ) (hb : o + 2 * h ≤ 4096) :
    Vec F (Rw h) .f32 :=
  v.readCov M ⟨![o, 0], ![h, 128], ![2, 1], inb_half hb⟩

/-- Every other row from row `o + 1` on, `h` of them. -/
def half' (v : View sig κ sp S4096x128 .f32) (M : List (View.Piece (Elt F) S4096x128 .f32)) (h o : ℕ) (hb : o + 2 * h ≤ 4096) :
    Vec F (Rw h) .f32 :=
  v.readCov M ⟨![o + 1, 0], ![h, 128], ![2, 1], inb_half' hb⟩

/-- A level's loads: from the `2 h` rows at row `o`. -/
def Bufs.load (B : Bufs F) (P : Planes sig κ sp) (h o : ℕ) (hb : o + 2 * h ≤ 4096) : Loads F h where
  w1 := half P.w B.w h o hb
  w2 := half' P.w B.w h o hb
  a1 := half P.a B.a h o hb
  a2 := half' P.a B.a h o hb
  b1 := half P.b B.b h o hb
  b2 := half' P.b B.b h o hb
  c1 := half P.c B.c h o hb
  c2 := half' P.c B.c h o hb
  d1 := half P.d B.d h o hb
  d2 := half' P.d B.d h o hb

end Load

/-! ## What is stored agrees with the tree -/

section Ok

variable (ws : Vec F S1x2048x1 .f32) (ks vs : Vec F S1x2048x192 .f32)

/-- Lanes below `b` of rows `o` to `o + t` of a plane read `g`. -/
def Holds (M : List (View.Piece (Elt F) S4096x128 .f32)) (o t b : ℕ) (g : ℕ → ℕ → F .f32) : Prop :=
  ∀ i : S4096x128.Idx, o ≤ (i 0).val → (i 0).val < o + t → (i 1).val < b → View.canon M i = g (i 0).val (i 1).val

/-- What is loaded of a plane are the even and the odd rows from row `o` on of `g`, below lane `b`. -/
def Reads {h : ℕ} (x1 x2 : Vec F (Rw h) .f32) (o b : ℕ) (g : ℕ → ℕ → F .f32) : Prop :=
  ∀ i : (Rw h).Idx, (i 1).val < b → x1 i = g (o + 2 * (i 0).val) (i 1).val ∧ x2 i = g (o + 2 * (i 0).val + 1) (i 1).val

/-- The five planes at rows `o` to `o + t` hold the tree. -/
structure PlanesOk (B : Bufs F) (o t : ℕ) : Prop where
  w : Holds B.w o t 128 fun r _ => wt (leafW ws) r
  a : Holds B.a o t 128 fun r n => nd (leafW ws) (leaf ks n) r
  b : Holds B.b o t 64 fun r n => nd (leafW ws) (leaf ks (128 + n)) r
  c : Holds B.c o t 128 fun r n => nd (leafW ws) (leaf vs n) r
  d : Holds B.d o t 64 fun r n => nd (leafW ws) (leaf vs (128 + n)) r

/-- What a level loads is the tree's. -/
structure LoadsOk {h : ℕ} (L : Loads F h) (o : ℕ) : Prop where
  w : Reads L.w1 L.w2 o 128 fun r _ => wt (leafW ws) r
  a : Reads L.a1 L.a2 o 128 fun r n => nd (leafW ws) (leaf ks n) r
  b : Reads L.b1 L.b2 o 64 fun r n => nd (leafW ws) (leaf ks (128 + n)) r
  c : Reads L.c1 L.c2 o 128 fun r n => nd (leafW ws) (leaf vs n) r
  d : Reads L.d1 L.d2 o 64 fun r n => nd (leafW ws) (leaf vs (128 + n)) r

/-- Every store into the two result blocks is the tree's, and rows below `o` are covered. -/
structure OutsOk (B : Bufs F) (o : ℕ) : Prop where
  t : ∀ p ∈ B.t, ∀ x, p.2 x = outCols ws ks (p.1.emb x)
  v : ∀ p ∈ B.v, ∀ x, p.2 x = outRows ws vs (p.1.emb x)
  ct : ∀ i : S1x192x4096.Idx, (i 2).val < o → ∃ p ∈ B.t, i ∈ p.1.set
  cv : ∀ i : S1x4096x192.Idx, (i 1).val < o → ∃ p ∈ B.v, i ∈ p.1.set

/-- The function held, read at equal coordinates. -/
theorem coords {g : ℕ → ℕ → F .f32} {r r' n n' : ℕ} (hr : r = r') (hn : n = n') : g r n = g r' n' := by rw [hr, hn]

theorem Holds.half {sig : RefSig} {κ : Kind} {sp : Space} (u : View sig κ sp S4096x128 .f32)
    {M : List (View.Piece (Elt F) S4096x128 .f32)} {h o b : ℕ} {g : ℕ → ℕ → F .f32}
    (H : Holds M o (2 * h) b g) (hb : o + 2 * h ≤ 4096) : Reads (half u M h o hb) (half' u M h o hb) o b g := by
  intro i hi
  have h0 : (i 0).val < h := (i 0).isLt
  constructor
  · unfold TreeTie.half
    rw [View.readCov_eq_canon']
    refine (H _ ?_ ?_ ?_).trans (coords ?_ ?_) <;> simp <;> omega
  · unfold TreeTie.half'
    rw [View.readCov_eq_canon']
    refine (H _ ?_ ?_ ?_).trans (coords ?_ ?_) <;> simp <;> omega

theorem PlanesOk.load {sig : RefSig} {κ : Kind} {sp : Space} (P : Planes sig κ sp) {B : Bufs F} {h o : ℕ}
    (H : PlanesOk ws ks vs B o (2 * h)) (hb : o + 2 * h ≤ 4096) : LoadsOk ws ks vs (B.load P h o hb) o :=
  ⟨H.w.half _ hb, H.a.half _ hb, H.b.half _ hb, H.c.half _ hb, H.d.half _ hb⟩

/-- Rows just stored are read back. -/
theorem holds_rowPiece (M : List (View.Piece (Elt F) S4096x128 .f32)) {h o b : ℕ} (hb : o + h ≤ 4096) (x : Vec F (Rw h) .f32)
    (g : ℕ → ℕ → F .f32) (hx : ∀ i : (Rw h).Idx, (i 1).val < b → x i = g (o + (i 0).val) (i 1).val) :
    Holds (rowPiece h o hb x :: M) o h b g := by
  intro i h0 h1 h2
  have hi : i = (Rect.unit (s := S4096x128) ![o, 0] (Rw h).size (inb_rows hb)).emb
      (ValueIdx.ix2 (⟨(i 0).val - o, by omega⟩ : Fin h) (i 1 : Fin 128)) := by
    funext a
    fin_cases a <;> apply Fin.ext <;> simp [Rect.emb_apply] <;> omega
  rw [hi, rowPiece, View.canon_cons_emb, shapeCast_self, hx _ h2, Rect.emb_apply, Rect.emb_apply]
  exact coords (by simp <;> rfl) (by simp <;> rfl)

theorem tot_apply {h : ℕ} (w1 w2 : Vec F (Rw h) .f32) (i : (Rw h).Idx) :
    tot w1 w2 i = FloatOps.addf (FloatOps.addf (w1 i) (w2 i)) eps := rfl

theorem mean_apply {h : ℕ} (w1 w2 x1 x2 : Vec F (Rw h) .f32) (i : (Rw h).Idx) :
    mean w1 w2 x1 x2 i = FloatOps.mulf (FloatOps.addf (FloatOps.mulf (w1 i) (x1 i)) (FloatOps.mulf (w2 i) (x2 i)))
      (FloatOps.divf one (tot w1 w2 i)) := rfl

variable {ws ks vs}

/-- The sums a level forms are the next rows' weights. -/
theorem tot_reads {h o o' : ℕ} {w1 w2 : Vec F (Rw h) .f32} (Hw : Reads w1 w2 o 128 fun r _ => wt (leafW ws) r)
    (ho : 2048 ≤ o') (hc : 2 * o' = o + 4096) (hb : o' + h ≤ 4095) (i : (Rw h).Idx) :
    tot w1 w2 i = wt (leafW ws) (o' + (i 0).val) := by
  have h0 : (i 0).val < h := (i 0).isLt
  rw [tot_apply, (Hw i (i 1).isLt).1, (Hw i (i 1).isLt).2,
    wt_node (r := o' + (i 0).val) (c := o + 2 * (i 0).val) _ (by omega) (by omega) (by omega)]

/-- The means a level forms are the next rows' nodes. -/
theorem mean_reads {h o o' b : ℕ} {w1 w2 x1 x2 : Vec F (Rw h) .f32} (Hw : Reads w1 w2 o 128 fun r _ => wt (leafW ws) r)
    (x : ℕ → ℕ → F .f32) (Hx : Reads x1 x2 o b fun r n => nd (leafW ws) (x n) r)
    (ho : 2048 ≤ o') (hc : 2 * o' = o + 4096) (hb : o' + h ≤ 4095) (i : (Rw h).Idx) (hi : (i 1).val < b) :
    mean w1 w2 x1 x2 i = nd (leafW ws) (x (i 1).val) (o' + (i 0).val) := by
  have h0 : (i 0).val < h := (i 0).isLt
  rw [mean_apply, tot_reads Hw ho hc hb i, (Hw i (i 1).isLt).1, (Hw i (i 1).isLt).2, (Hx i hi).1, (Hx i hi).2,
    nd_node (r := o' + (i 0).val) (c := o + 2 * (i 0).val) _ _ (by omega) (by omega) (by omega)]

theorem LoadsOk.planes {h o o' : ℕ} {L : Loads F h} (H : LoadsOk ws ks vs L o) (B : Bufs F)
    (ho : 2048 ≤ o') (hc : 2 * o' = o + 4096) (hb : o' + h ≤ 4095) :
    PlanesOk ws ks vs (B.store h o' (by omega) L) o' h where
  w := holds_rowPiece _ _ _ _ fun i _ => tot_reads H.w ho hc hb i
  a := holds_rowPiece _ _ _ _ fun i hi => mean_reads H.w (fun n => leaf ks n) H.a ho hc hb i hi
  b := holds_rowPiece _ _ _ _ fun i hi => mean_reads H.w (fun n => leaf ks (128 + n)) H.b ho hc hb i hi
  c := holds_rowPiece _ _ _ _ fun i hi => mean_reads H.w (fun n => leaf vs n) H.c ho hc hb i hi
  d := holds_rowPiece _ _ _ _ fun i hi => mean_reads H.w (fun n => leaf vs (128 + n)) H.d ho hc hb i hi

theorem cut_apply {h : ℕ} (x : Vec F (Rw h) .f32) (i : (⟨2, ![h, 64]⟩ : Shape).Idx) :
    cut x i = x (ValueIdx.ix2 (i 0 : Fin h) (⟨(i 1).val, Nat.lt_trans (i 1).isLt (by simp)⟩ : Fin 128)) :=
  extractStridedSlice_apply _ _ _ _ _ fun a => by fin_cases a <;> simp

/-- The keys' block at a column and a line. -/
theorem outCols_eq {i : S1x192x4096.Idx} (w : Vec F S1x2048x1 .f32) (x : Vec F S1x2048x192 .f32) {r m : ℕ}
    (hr : (i 2).val = r) (hm : (i 1).val = m) (h : (i 2).val < 4095) : outCols w x i = nd (leafW w) (leaf x m) r := by
  subst hr hm
  exact if_pos h

/-- The values' block at a row and a lane. -/
theorem outRows_eq {i : S1x4096x192.Idx} (w : Vec F S1x2048x1 .f32) (x : Vec F S1x2048x192 .f32) {r m : ℕ}
    (hr : (i 1).val = r) (hm : (i 2).val = m) (h : (i 1).val < 4095) : outRows w x i = nd (leafW w) (leaf x m) r := by
  subst hr hm
  exact if_pos h

/-- A piece of the values' block whose rows are nodes agrees with the tree. -/
theorem vPiece_agrees {h o n j : ℕ} (hb : o + h ≤ 4095) (hk : j + n ≤ 192) (x : Vec F ⟨2, ![h, n]⟩ .f32)
    (hx : ∀ (r : Fin h) (m : Fin n), x (ValueIdx.ix2 r m) = nd (leafW ws) (leaf vs (j + m.val)) (o + r.val))
    (i : (vPiece h o n j (by omega) hk x).1.shape.Idx) :
    (vPiece h o n j (by omega) hk x).2 i = outRows ws vs ((vPiece h o n j (by omega) hk x).1.emb i) := by
  have h1 : (i 1).val < h := (i 1).isLt
  have e1 : ((vPiece h o n j (by omega) hk x).1.emb i 1).val = o + (i 1).val :=
    (Rect.emb_apply _ _ _).trans (show o + 1 * (i 1).val = _ by omega)
  have e2 : ((vPiece h o n j (by omega) hk x).1.emb i 2).val = j + (i 2).val :=
    (Rect.emb_apply _ _ _).trans (show j + 1 * (i 2).val = _ by omega)
  rw [outRows_eq ws vs e1 e2 (by omega)]
  refine (shapeCast_addUnit_apply ![h, n] x _ i).trans (Eq.trans (congrArg x ?_) (hx (i 1) (i 2)))
  funext a
  fin_cases a <;> rfl

/-- A piece of the keys' block whose columns are nodes agrees with the tree. -/
theorem tPiece_agrees {h o n j : ℕ} (hb : o + h ≤ 4095) (hk : j + n ≤ 192) (x : Vec F ⟨2, ![h, n]⟩ .f32)
    (hx : ∀ (r : Fin h) (m : Fin n), x (ValueIdx.ix2 r m) = nd (leafW ws) (leaf ks (j + m.val)) (o + r.val))
    (i : (tPiece h o n j (by omega) hk x).1.shape.Idx) :
    (tPiece h o n j (by omega) hk x).2 i = outCols ws ks ((tPiece h o n j (by omega) hk x).1.emb i) := by
  have h1 : (i 2).val < h := (i 2).isLt
  have e1 : ((tPiece h o n j (by omega) hk x).1.emb i 2).val = o + (i 2).val :=
    (Rect.emb_apply _ _ _).trans (show o + 1 * (i 2).val = _ by omega)
  have e2 : ((tPiece h o n j (by omega) hk x).1.emb i 1).val = j + (i 1).val :=
    (Rect.emb_apply _ _ _).trans (show j + 1 * (i 1).val = _ by omega)
  rw [outCols_eq ws ks e1 e2 (by omega)]
  refine (shapeCast_addUnit_apply ![n, h] (transpose ⟨2, ![n, h]⟩ [1, 0] x (transposes2 h n)) _ i).trans (Eq.trans ?_ (hx (i 2) (i 1)))
  exact transpose_apply _ _ _ _ _ fun b => by fin_cases b <;> rfl

/-- A level's stores into the two result blocks are the tree's, and they cover the level's rows. -/
theorem LoadsOk.outs {h o o' : ℕ} {L : Loads F h} (H : LoadsOk ws ks vs L o) {B : Bufs F} (HB : OutsOk ws ks vs B o')
    (ho : 2048 ≤ o') (hc : 2 * o' = o + 4096) (hb : o' + h ≤ 4095) :
    OutsOk ws ks vs (B.store h o' (by omega) L) (o' + h) where
  t := List.forall_mem_cons.2
    ⟨tPiece_agrees hb (by omega) _ fun r m =>
        (cut_apply _ _).trans (mean_reads H.w (fun n => leaf ks (128 + n)) H.b ho hc hb _ m.isLt),
      List.forall_mem_cons.2 ⟨tPiece_agrees hb (by omega) _ fun r m => by
        rw [Nat.zero_add]
        exact mean_reads H.w (fun n => leaf ks n) H.a ho hc hb _ m.isLt, HB.t⟩⟩
  v := List.forall_mem_cons.2
    ⟨vPiece_agrees hb (by omega) _ fun r m =>
        (cut_apply _ _).trans (mean_reads H.w (fun n => leaf vs (128 + n)) H.d ho hc hb _ m.isLt),
      List.forall_mem_cons.2 ⟨vPiece_agrees hb (by omega) _ fun r m => by
        rw [Nat.zero_add]
        exact mean_reads H.w (fun n => leaf vs n) H.c ho hc hb _ m.isLt, HB.v⟩⟩
  ct := fun i hi => by
    have h1 : (i 1).val < 192 := (i 1).isLt
    by_cases hr : (i 2).val < o'
    · obtain ⟨p, hp, hm⟩ := HB.ct i hr
      exact ⟨p, List.mem_cons_of_mem _ (List.mem_cons_of_mem _ hp), hm⟩
    · by_cases hl : (i 1).val < 128
      · refine ⟨_, List.mem_cons_of_mem _ List.mem_cons_self, (Rect.mem_set_unit (inb := inb_t (o := o') (h := h) (n := 128) (k := 0) (by omega) (by omega))).2 fun a => ?_⟩
        fin_cases a <;> simp <;> omega
      · refine ⟨_, List.mem_cons_self, (Rect.mem_set_unit (inb := inb_t (o := o') (h := h) (n := 64) (k := 128) (by omega) (by omega))).2 fun a => ?_⟩
        fin_cases a <;> simp <;> omega
  cv := fun i hi => by
    have h1 : (i 2).val < 192 := (i 2).isLt
    by_cases hr : (i 1).val < o'
    · obtain ⟨p, hp, hm⟩ := HB.cv i hr
      exact ⟨p, List.mem_cons_of_mem _ (List.mem_cons_of_mem _ hp), hm⟩
    · by_cases hl : (i 2).val < 128
      · refine ⟨_, List.mem_cons_of_mem _ List.mem_cons_self, (Rect.mem_set_unit (inb := inb_v (o := o') (h := h) (n := 128) (k := 0) (by omega) (by omega))).2 fun a => ?_⟩
        fin_cases a <;> simp <;> omega
      · refine ⟨_, List.mem_cons_self, (Rect.mem_set_unit (inb := inb_v (o := o') (h := h) (n := 64) (k := 128) (by omega) (by omega))).2 fun a => ?_⟩
        fin_cases a <;> simp <;> omega

end Ok

/-! ## All levels -/

section Chain

open Cert.TreeIdeal.Gen

variable {sig : RefSig} {κ : Kind} {sp : Space}
variable (x1 x2 : Vec F S1x2048x192 .f32) (x3 : Vec F S1x2048x1 .f32)

/-- The leaves' stores. -/
def start : Bufs F where
  w := [⟨Rect.unit ![0, 0] S2048x128.size inb_S4096x128_S2048x128_0_0, k0_pay11 x3⟩]
  a := [⟨Rect.unit ![0, 0] S2048x128.size inb_S4096x128_S2048x128_0_0, k0_pay7 x1⟩]
  b := [⟨Rect.unit ![0, 0] S2048x64.size inb_S4096x128_S2048x64_0_0, k0_pay8 x1⟩]
  c := [⟨Rect.unit ![0, 0] S2048x128.size inb_S4096x128_S2048x128_0_0, k0_pay9 x2⟩]
  d := [⟨Rect.unit ![0, 0] S2048x64.size inb_S4096x128_S2048x64_0_0, k0_pay10 x2⟩]
  t := [⟨Rect.unit ![0, 0, 0] S1x192x2048.size inb_S1x192x4096_S1x192x2048_0_0_0, k0_pay14 (k0_pay13 x1)⟩]
  v := [⟨Rect.unit ![0, 0, 0] S1x2048x192.size inb_S1x4096x192_S1x2048x192_0_0_0, k0_pay12 x2⟩]

/-- The first level's loads. Lanes from 64 on of the planes `b` and `d` have not been stored: what is
    loaded of them is what the planes held before (`fb`, `fd`). -/
def load0 (P : Planes sig κ sp) (fb : P.b.ty.Contents (Elt F)) (fd : P.d.ty.Contents (Elt F)) : Loads F 1024 where
  w1 := half P.w (start x1 x2 x3).w 1024 0 (by omega)
  w2 := half' P.w (start x1 x2 x3).w 1024 0 (by omega)
  a1 := half P.a (start x1 x2 x3).a 1024 0 (by omega)
  a2 := half' P.a (start x1 x2 x3).a 1024 0 (by omega)
  b1 := P.b.readAt (Elt F) ⟨![0, 0], ![1024, 128], ![2, 1], inb_half (by omega)⟩ (P.b.writes (Elt F) fb (start x1 x2 x3).b)
  b2 := P.b.readAt (Elt F) ⟨![1, 0], ![1024, 128], ![2, 1], inb_half' (by omega)⟩ (P.b.writes (Elt F) fb (start x1 x2 x3).b)
  c1 := half P.c (start x1 x2 x3).c 1024 0 (by omega)
  c2 := half' P.c (start x1 x2 x3).c 1024 0 (by omega)
  d1 := P.d.readAt (Elt F) ⟨![0, 0], ![1024, 128], ![2, 1], inb_half (by omega)⟩ (P.d.writes (Elt F) fd (start x1 x2 x3).d)
  d2 := P.d.readAt (Elt F) ⟨![1, 0], ![1024, 128], ![2, 1], inb_half' (by omega)⟩ (P.d.writes (Elt F) fd (start x1 x2 x3).d)

/-- One level: load the `2 h` rows at `o`, store `h` rows at `o'`. -/
def Bufs.next (B : Bufs F) (P : Planes sig κ sp) (h o o' : ℕ) (hb : o + 2 * h ≤ 4096) (hb' : o' + h ≤ 4096) : Bufs F :=
  B.store h o' hb' (B.load P h o hb)

/-- The stores into the keys' block, with its last column's. -/
def Bufs.cols (B : Bufs F) : List (View.Piece (Elt F) S1x192x4096 .f32) :=
  ⟨Rect.unit ![0, 0, 4095] S1x192x1.size inb_S1x192x4096_S1x192x1_0_0_4095, k0_pay4⟩ :: B.t

/-- The stores into the values' block, with its last row's. -/
def Bufs.rows (B : Bufs F) : List (View.Piece (Elt F) S1x4096x192 .f32) :=
  ⟨Rect.unit ![0, 4095, 0] S1x1x192.size inb_S1x4096x192_S1x1x192_0_4095_0, k0_pay3⟩ :: B.v

/-- The planes at rows `o` to `o + t` hold the tree, and the result blocks hold it below row `o + t`. -/
def Good (B : Bufs F) (o t : ℕ) : Prop := PlanesOk x3 x1 x2 B o t ∧ OutsOk x3 x1 x2 B (o + t)

variable {x1 x2 x3}

theorem Good.next {B : Bufs F} {h o o' : ℕ} (H : Good x1 x2 x3 B o (2 * h)) (P : Planes sig κ sp)
    (hb : o + 2 * h ≤ 4096) (ho : 2048 ≤ o') (hc : 2 * o' = o + 4096) (hs : o + 2 * h = o') (hb' : o' + h ≤ 4095) :
    Good x1 x2 x3 (B.next P h o o' hb (by omega)) o' h := by
  subst hs
  have L := H.1.load x3 x1 x2 P hb
  exact ⟨L.planes B ho hc hb', L.outs H.2 ho hc hb'⟩

/-! ### The leaves' stores -/

theorem leaf_at (x : Vec F S1x2048x192 .f32) (i : S1x2048x192.Idx) {r m : ℕ} (hr : (i 1).val = r) (hm : (i 2).val = m) :
    x i = leaf x m r := by
  subst hr hm
  refine congrArg x (funext fun a => ?_)
  fin_cases a
  · exact Subsingleton.elim (α := Fin 1) _ _
  · exact (Fin.ofNat_val_eq_self (n := 2048) (i 1)).symm
  · exact (Fin.ofNat_val_eq_self (n := 192) (i 2)).symm

theorem leafW_at (x : Vec F S1x2048x1 .f32) (i : S1x2048x1.Idx) {r : ℕ} (hr : (i 1).val = r) : x i = leafW x r := by
  subst hr
  refine congrArg x (funext fun a => ?_)
  fin_cases a
  · exact Subsingleton.elim (α := Fin 1) _ _
  · exact (Fin.ofNat_val_eq_self (n := 2048) (i 1)).symm
  · exact Subsingleton.elim (α := Fin 1) _ _

theorem pay7_apply (x : Vec F S1x2048x192 .f32) (i : S2048x128.Idx) : k0_pay7 x i = leaf x (i 1).val (i 0).val := by
  idx_vars i
  pointwise [k0_pay7, k0_pay5]
  exact leaf_at x _ rfl rfl

theorem pay8_apply (x : Vec F S1x2048x192 .f32) (i : S2048x64.Idx) : k0_pay8 x i = leaf x (128 + (i 1).val) (i 0).val := by
  idx_vars i
  pointwise [k0_pay8, k0_pay5]
  exact leaf_at x _ rfl rfl

theorem pay11_apply (x : Vec F S1x2048x1 .f32) (i : S2048x128.Idx) : k0_pay11 x i = leafW x (i 0).val := by
  idx_vars i
  pointwise [k0_pay11]
  exact leafW_at x _ rfl

theorem pay12_apply (x : Vec F S1x2048x192 .f32) (i : S1x2048x192.Idx) : k0_pay12 x i = leaf x (i 2).val (i 1).val := by
  idx_vars i
  pointwise [k0_pay12, k0_pay6]
  exact leaf_at x _ rfl rfl

theorem pay14_apply (x : Vec F S1x2048x192 .f32) (i : S1x192x2048.Idx) : k0_pay14 (k0_pay13 x) i = leaf x (i 1).val (i 2).val := by
  idx_vars i
  pointwise [k0_pay14, k0_pay13, k0_pay5]
  exact leaf_at x _ rfl rfl

/-- Rows of `b` lanes stored into a plane from row 0 on. -/
def leafPiece (T b : ℕ) (inb : ∀ a : Fin 2, (![0, 0] : Fin 2 → ℕ) a + (![T, b] : Fin 2 → ℕ) a ≤ S4096x128.size a)
    (p : Vec F ⟨2, ![T, b]⟩ .f32) : View.Piece (Elt F) S4096x128 .f32 :=
  ⟨Rect.unit ![0, 0] ![T, b] inb, p⟩

/-- Leaves stored are read back, whatever the plane held before. -/
theorem read_leaves {sig : RefSig} {κ : Kind} {sp : Space} (u : View sig κ sp S4096x128 .f32) (f : u.ty.Contents (Elt F)) {T b : ℕ}
    (inb : ∀ a : Fin 2, (![0, 0] : Fin 2 → ℕ) a + (![T, b] : Fin 2 → ℕ) a ≤ S4096x128.size a)
    (p : Vec F ⟨2, ![T, b]⟩ .f32) (g : ℕ → ℕ → F .f32) (hp : ∀ i, p i = g (i 0).val (i 1).val)
    (i : S4096x128.Idx) (h0 : (i 0).val < T) (h1 : (i 1).val < b) :
    u.read (Elt F) (u.writes (Elt F) f [leafPiece T b inb p]) i = g (i 0).val (i 1).val := by
  have hi : i = (Rect.unit (s := S4096x128) ![0, 0] ![T, b] inb).emb
      (ValueIdx.ix2 (⟨(i 0).val, h0⟩ : Fin T) (⟨(i 1).val, h1⟩ : Fin b)) := by
    funext a
    fin_cases a <;> apply Fin.ext <;> simp [Rect.emb_apply]
  have hm : i ∈ (Rect.unit (s := S4096x128) ![0, 0] ![T, b] inb).set := by
    refine Rect.mem_set_unit.2 fun a => ?_
    fin_cases a <;> simp <;> omega
  have hc : ∃ q ∈ [leafPiece (F := F) T b inb p], i ∈ q.1.set := ⟨leafPiece T b inb p, List.mem_cons_self, hm⟩
  refine (View.read_writes_apply_eq_canon u f i [leafPiece (F := F) T b inb p] hc).trans ?_
  exact (congrArg (View.canon [leafPiece (F := F) T b inb p]) hi).trans ((View.canon_cons_emb _ _ _ _).trans (hp _))

/-- The even and the odd leaves are loaded, whatever the plane held before. -/
theorem reads_leaves {sig : RefSig} {κ : Kind} {sp : Space} (u : View sig κ sp S4096x128 .f32) (f : u.ty.Contents (Elt F)) {b : ℕ}
    (inb : ∀ a : Fin 2, (![0, 0] : Fin 2 → ℕ) a + (![2048, b] : Fin 2 → ℕ) a ≤ S4096x128.size a)
    (p : Vec F ⟨2, ![2048, b]⟩ .f32) (g : ℕ → ℕ → F .f32) (hp : ∀ i, p i = g (i 0).val (i 1).val) :
    Reads (h := 1024)
      (u.readAt (Elt F) ⟨![0, 0], ![1024, 128], ![2, 1], inb_half (by omega)⟩ (u.writes (Elt F) f [leafPiece 2048 b inb p]))
      (u.readAt (Elt F) ⟨![1, 0], ![1024, 128], ![2, 1], inb_half' (o := 0) (by omega)⟩ (u.writes (Elt F) f [leafPiece 2048 b inb p]))
      0 b g := by
  intro i hi
  have h0 : (i 0).val < 1024 := (i 0).isLt
  constructor
  · rw [View.readAt_apply]
    refine (read_leaves u f inb p g hp _ ?_ ?_).trans (coords ?_ ?_) <;> rw [LoadRect.idx_apply]
    · show 0 + 2 * (i 0).val < 2048; omega
    · show 0 + 1 * (i 1).val < b; omega
    · show 0 + 2 * (i 0).val = 0 + 2 * (i 0).val; rfl
    · show 0 + 1 * (i 1).val = (i 1).val; omega
  · rw [View.readAt_apply]
    refine (read_leaves u f inb p g hp _ ?_ ?_).trans (coords ?_ ?_) <;> rw [LoadRect.idx_apply]
    · show 1 + 2 * (i 0).val < 2048; omega
    · show 0 + 1 * (i 1).val < b; omega
    · show 1 + 2 * (i 0).val = 0 + 2 * (i 0).val + 1; omega
    · show 0 + 1 * (i 1).val = (i 1).val; omega

/-- A plane's leaves as nodes of the tree. -/
theorem Reads.congr {h : ℕ} {y1 y2 : Vec F (Rw h) .f32} {o b : ℕ} {g g' : ℕ → ℕ → F .f32} (H : Reads y1 y2 o b g)
    (hg : ∀ r n, r < o + 2 * h → g r n = g' r n) : Reads y1 y2 o b g' := fun i hi => by
  have h0 : (i 0).val < h := (i 0).isLt
  exact ⟨(H i hi).1.trans (hg _ _ (by omega)), (H i hi).2.trans (hg _ _ (by omega))⟩

theorem load0_ok (P : Planes sig κ sp) (fb : P.b.ty.Contents (Elt F)) (fd : P.d.ty.Contents (Elt F)) :
    LoadsOk x3 x1 x2 (load0 x1 x2 x3 P fb fd) 0 where
  w := (reads_leaves P.w P.w.junk _ _ (fun r _ => leafW x3 r) fun i => pay11_apply x3 i).congr
    fun r n hr => (wt_leaf _ (by omega)).symm
  a := (reads_leaves P.a P.a.junk _ _ (fun r n => leaf x1 n r) fun i => pay7_apply x1 i).congr
    fun r n hr => (nd_leaf _ _ (by omega)).symm
  b := (reads_leaves P.b fb _ _ (fun r n => leaf x1 (128 + n) r) fun i => pay8_apply x1 i).congr
    fun r n hr => (nd_leaf _ _ (by omega)).symm
  c := (reads_leaves P.c P.c.junk _ _ (fun r n => leaf x2 n r) fun i => pay7_apply x2 i).congr
    fun r n hr => (nd_leaf _ _ (by omega)).symm
  d := (reads_leaves P.d fd _ _ (fun r n => leaf x2 (128 + n) r) fun i => pay8_apply x2 i).congr
    fun r n hr => (nd_leaf _ _ (by omega)).symm

theorem start_outs : OutsOk x3 x1 x2 (start x1 x2 x3) 2048 where
  t := List.forall_mem_singleton.2 fun i => by
    have h2 : (i 2).val < 2048 := (i 2).isLt
    refine (pay14_apply x1 i).trans (Eq.symm ((outCols_eq x3 x1 (r := (i 2).val) (m := (i 1).val) ?_ ?_ ?_).trans (nd_leaf _ _ h2)))
    · exact (Rect.emb_apply _ _ _).trans (show 0 + 1 * (i 2).val = _ by omega)
    · exact (Rect.emb_apply _ _ _).trans (show 0 + 1 * (i 1).val = _ by omega)
    · exact lt_of_eq_of_lt ((Rect.emb_apply _ _ _).trans (show 0 + 1 * (i 2).val = (i 2).val by omega)) (by omega)
  v := List.forall_mem_singleton.2 fun i => by
    have h1 : (i 1).val < 2048 := (i 1).isLt
    refine (pay12_apply x2 i).trans (Eq.symm ((outRows_eq x3 x2 (r := (i 1).val) (m := (i 2).val) ?_ ?_ ?_).trans (nd_leaf _ _ h1)))
    · exact (Rect.emb_apply _ _ _).trans (show 0 + 1 * (i 1).val = _ by omega)
    · exact (Rect.emb_apply _ _ _).trans (show 0 + 1 * (i 2).val = _ by omega)
    · exact lt_of_eq_of_lt ((Rect.emb_apply _ _ _).trans (show 0 + 1 * (i 1).val = (i 1).val by omega)) (by omega)
  ct := fun i hi => ⟨_, List.mem_cons_self, by
    have h1 : (i 1).val < 192 := (i 1).isLt
    refine (Rect.mem_set_unit (inb := inb_S1x192x4096_S1x192x2048_0_0_0)).2 fun a => ?_
    fin_cases a <;> simp <;> omega⟩
  cv := fun i hi => ⟨_, List.mem_cons_self, by
    have h1 : (i 2).val < 192 := (i 2).isLt
    refine (Rect.mem_set_unit (inb := inb_S1x4096x192_S1x2048x192_0_0_0)).2 fun a => ?_
    fin_cases a <;> simp <;> omega⟩

theorem start_next (P : Planes sig κ sp) (fb : P.b.ty.Contents (Elt F)) (fd : P.d.ty.Contents (Elt F)) :
    Good x1 x2 x3 ((start x1 x2 x3).store 1024 2048 (by omega) (load0 x1 x2 x3 P fb fd)) 2048 1024 :=
  have L := load0_ok P fb fd
  ⟨L.planes _ (by omega) (by omega) (by omega), L.outs start_outs (by omega) (by omega) (by omega)⟩

/-- The planes' stores under other names. -/
theorem Good.named {B : Bufs F} {o t : ℕ} (H : Good x1 x2 x3 B o t) {w a b c d : List (View.Piece (Elt F) S4096x128 .f32)}
    (hw : B.w = w) (ha : B.a = a) (hb : B.b = b) (hc : B.c = c) (hd : B.d = d) : Good x1 x2 x3 ⟨w, a, b, c, d, B.t, B.v⟩ o t := by
  subst hw ha hb hc hd
  exact H

/-- One level, its stores under other names: the planes read are those of the level below. -/
theorem Good.step {w a b c d : List (View.Piece (Elt F) S4096x128 .f32)} {t : List (View.Piece (Elt F) S1x192x4096 .f32)}
    {v : List (View.Piece (Elt F) S1x4096x192 .f32)} {h o o' : ℕ} (H : Good x1 x2 x3 ⟨w, a, b, c, d, t, v⟩ o (2 * h))
    (P : Planes sig κ sp) (hb : o + 2 * h ≤ 4096) (ho : 2048 ≤ o') (hc : 2 * o' = o + 4096) (hs : o + 2 * h = o') (hb' : o' + h ≤ 4095)
    {w' a' b' c' d' : List (View.Piece (Elt F) S4096x128 .f32)}
    (ew : rowPiece h o' (by omega) (tot (half P.w w h o hb) (half' P.w w h o hb)) :: w = w')
    (ea : rowPiece h o' (by omega) (mean (half P.w w h o hb) (half' P.w w h o hb) (half P.a a h o hb) (half' P.a a h o hb)) :: a = a')
    (eb : rowPiece h o' (by omega) (mean (half P.w w h o hb) (half' P.w w h o hb) (half P.b b h o hb) (half' P.b b h o hb)) :: b = b')
    (ec : rowPiece h o' (by omega) (mean (half P.w w h o hb) (half' P.w w h o hb) (half P.c c h o hb) (half' P.c c h o hb)) :: c = c')
    (ed : rowPiece h o' (by omega) (mean (half P.w w h o hb) (half' P.w w h o hb) (half P.d d h o hb) (half' P.d d h o hb)) :: d = d') :
    Good x1 x2 x3 ⟨w', a', b', c', d',
      tPiece h o' 64 128 (by omega) (by omega)
          (cut (mean (half P.w w h o hb) (half' P.w w h o hb) (half P.b b h o hb) (half' P.b b h o hb)))
        :: tPiece h o' 128 0 (by omega) (by omega)
          (mean (half P.w w h o hb) (half' P.w w h o hb) (half P.a a h o hb) (half' P.a a h o hb)) :: t,
      vPiece h o' 64 128 (by omega) (by omega)
          (cut (mean (half P.w w h o hb) (half' P.w w h o hb) (half P.d d h o hb) (half' P.d d h o hb)))
        :: vPiece h o' 128 0 (by omega) (by omega)
          (mean (half P.w w h o hb) (half' P.w w h o hb) (half P.c c h o hb) (half' P.c c h o hb)) :: v⟩ o' h := by
  subst ew ea eb ec ed
  exact H.next P hb ho hc hs hb'

/-- Where the stores agree with a block and cover it, the buffer reads the block. -/
theorem read_of_agree {sig : RefSig} {κ : Kind} {sp : Space} {s : Shape} (u : View sig κ sp s .f32) (f : u.ty.Contents (Elt F))
    (M : List (View.Piece (Elt F) s .f32)) (G : Vec F s .f32) (hM : ∀ p ∈ M, ∀ x, p.2 x = G (p.1.emb x))
    (hc : ∀ i : s.Idx, ∃ p ∈ M, i ∈ p.1.set) : u.read (Elt F) (u.writes (Elt F) f M) = G := by
  rw [View.read_writes_eq_canon u f M hc]
  funext i
  obtain ⟨p, hp, hi⟩ := hc i
  clear hc
  induction M with
  | nil => exact absurd hp List.not_mem_nil
  | cons q M ih =>
    by_cases hq : i ∈ q.1.set
    · rw [← Rect.map_emb_univ] at hq
      obtain ⟨x, -, rfl⟩ := Finset.mem_map.1 hq
      exact (View.canon_cons_emb _ _ _ _).trans (hM q List.mem_cons_self x)
    · rw [View.canon_cons_of_not_mem q M hq]
      refine ih (fun p hp => hM p (List.mem_cons_of_mem _ hp)) ?_
      rcases List.mem_cons.1 hp with rfl | h
      · exact absurd hi hq
      · exact h

/-- The keys' block at the end. -/
theorem read_cols {sig' : RefSig} {κ' : Kind} {sp' : Space} (u : View sig' κ' sp' S1x192x4096 .f32) (f : u.ty.Contents (Elt F))
    {B : Bufs F} (H : Good x1 x2 x3 B 4094 1) : u.read (Elt F) (u.writes (Elt F) f B.cols) = outCols x3 x1 := by
  have G := H.2
  refine read_of_agree u f _ _ (List.forall_mem_cons.2 ⟨fun i => ?_, G.t⟩) fun i => ?_
  · have h2 : (i 2).val < 1 := (i 2).isLt
    have e : ((Rect.unit (s := S1x192x4096) ![0, 0, 4095] S1x192x1.size inb_S1x192x4096_S1x192x1_0_0_4095).emb i 2).val = 4095 :=
      (Rect.emb_apply _ _ _).trans (show 4095 + 1 * (i 2).val = _ by omega)
    exact (if_neg (by rw [e]; omega)).symm
  · have h1 : (i 1).val < 192 := (i 1).isLt
    have h2 : (i 2).val < 4096 := (i 2).isLt
    by_cases h : (i 2).val < 4095
    · obtain ⟨p, hp, hi⟩ := G.ct i h
      exact ⟨p, List.mem_cons_of_mem _ hp, hi⟩
    · refine ⟨_, List.mem_cons_self, (Rect.mem_set_unit (inb := inb_S1x192x4096_S1x192x1_0_0_4095)).2 fun a => ?_⟩
      fin_cases a <;> simp <;> omega

/-- The values' block at the end. -/
theorem read_rows {sig' : RefSig} {κ' : Kind} {sp' : Space} (u : View sig' κ' sp' S1x4096x192 .f32) (f : u.ty.Contents (Elt F))
    {B : Bufs F} (H : Good x1 x2 x3 B 4094 1) : u.read (Elt F) (u.writes (Elt F) f B.rows) = outRows x3 x2 := by
  have G := H.2
  refine read_of_agree u f _ _ (List.forall_mem_cons.2 ⟨fun i => ?_, G.v⟩) fun i => ?_
  · have h2 : (i 1).val < 1 := (i 1).isLt
    have e : ((Rect.unit (s := S1x4096x192) ![0, 4095, 0] S1x1x192.size inb_S1x4096x192_S1x1x192_0_4095_0).emb i 1).val = 4095 :=
      (Rect.emb_apply _ _ _).trans (show 4095 + 1 * (i 1).val = _ by omega)
    exact (if_neg (by rw [e]; omega)).symm
  · have h1 : (i 2).val < 192 := (i 2).isLt
    have h2 : (i 1).val < 4096 := (i 1).isLt
    by_cases h : (i 1).val < 4095
    · obtain ⟨p, hp, hi⟩ := G.cv i h
      exact ⟨p, List.mem_cons_of_mem _ hp, hi⟩
    · refine ⟨_, List.mem_cons_self, (Rect.mem_set_unit (inb := inb_S1x4096x192_S1x1x192_0_4095_0)).2 fun a => ?_⟩
      fin_cases a <;> simp <;> omega

end Chain

end Cert.TreeTie

end
-- ==== Proof.TreeBody.lean ====
module

public import proofs.«01_k».proof.Proof.Gen.TreeIdeal.Frame
public import proofs.«01_k».proof.Proof.Gen.TreeIdeal.Skeleton
public import proofs.«01_k».proof.Proof.TreeChain
public import Idealize.ShloMosaic.Lib.Claim

@[expose] public section

noncomputable section

namespace Cert.TreeTie

open Cert.TreeIdeal Cert.TreeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole block reads the block. -/
theorem readAt_whole3 {sig : RefSig} {κ : Kind} {sp : Space} {n m : ℕ} (u : View sig κ sp ⟨3, ![1, n, m]⟩ .f32) (f : u.ty.Contents (Elt F))
    (inb : ∀ a : Fin 3, (![0, 0, 0] : Fin 3 → ℕ) a + (![1, n, m] : Fin 3 → ℕ) a ≤ (![1, n, m] : Fin 3 → ℕ) a) :
    u.readAt (Elt F) (Rect.unit (s := ⟨3, ![1, n, m]⟩) ![0, 0, 0] ![1, n, m] inb).toLoadRect f = u.read (Elt F) f := by
  funext i
  rw [View.readAt_apply]
  refine congrArg _ (funext fun a => Fin.ext ?_)
  rw [LoadRect.idx_apply]
  fin_cases a <;> simp

/-- What a load of a whole block of leaves reads. -/
def ldX (a : Memref sig .tc .vmem S1x2048x192 .f32) (f : a.view.ty.Contents (Elt F)) : Vec F S1x2048x192 .f32 :=
  a.view.readAt (Elt F) (Rect.unit ![0, 0, 0] S1x2048x192.size inb_S1x2048x192_S1x2048x192_0_0_0).toLoadRect f

/-- What a load of the leaves' weights reads. -/
def ldW (a : Memref sig .tc .vmem S1x2048x1 .f32) (f : a.view.ty.Contents (Elt F)) : Vec F S1x2048x1 .f32 :=
  a.view.readAt (Elt F) (Rect.unit ![0, 0, 0] S1x2048x1.size inb_S1x2048x1_S1x2048x1_0_0_0).toLoadRect f

theorem ldX_eq (a : Memref sig .tc .vmem S1x2048x192 .f32) (f : a.view.ty.Contents (Elt F)) : ldX a f = a.view.read (Elt F) f :=
  readAt_whole3 _ _ _

theorem ldW_eq (a : Memref sig .tc .vmem S1x2048x1 .f32) (f : a.view.ty.Contents (Elt F)) : ldW a f = a.view.read (Elt F) f :=
  readAt_whole3 _ _ _

/-- The kernel's five scratch planes. -/
def planes (a6 a7 a8 a9 a10 : Memref sig .tc .vmem S4096x128 .f32) : Planes sig .tc .vmem :=
  ⟨a10.view, a6.view, a7.view, a8.view, a9.view⟩

set_option maxHeartbeats 4000000 in
/-- The kernel's body writes the tree of its three input blocks into its two result blocks. -/
theorem sound_kernel (c : Dev nD) (E : Set ℕ) (i : grid0.Coords)
    (a1 : Memref sig .tc .vmem S1x2048x192 .f32) (h1 : a1.IsWhole) (a2 : Memref sig .tc .vmem S1x2048x192 .f32) (h2 : a2.IsWhole)
    (a3 : Memref sig .tc .vmem S1x2048x1 .f32) (h3 : a3.IsWhole) (a4 : Memref sig .tc .vmem S1x192x4096 .f32) (h4 : a4.IsWhole)
    (a5 : Memref sig .tc .vmem S1x4096x192 .f32) (h5 : a5.IsWhole) (a6 : Memref sig .tc .vmem S4096x128 .f32) (h6 : a6.IsWhole)
    (a7 : Memref sig .tc .vmem S4096x128 .f32) (h7 : a7.IsWhole) (a8 : Memref sig .tc .vmem S4096x128 .f32) (h8 : a8.IsWhole)
    (a9 : Memref sig .tc .vmem S4096x128 .f32) (h9 : a9.IsWhole) (a10 : Memref sig .tc .vmem S4096x128 .f32) (h10 : a10.IsWhole)
    (x1 x2 : Vec F S1x2048x192 .f32) (x3 : Vec F S1x2048x1 .f32) (K : PUnit → sProp 𝕄) :
    iprop(owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) a5 fullShare d)
        ∗ (∃ d, owns (c : Thread nD τ) a6 fullShare d) ∗ (∃ d, owns (c : Thread nD τ) a7 fullShare d)
        ∗ (∃ d, owns (c : Thread nD τ) a8 fullShare d) ∗ (∃ d, owns (c : Thread nD τ) a9 fullShare d)
        ∗ (∃ d, owns (c : Thread nD τ) a10 fullShare d)
        ∗ (iprop(owns (c : Thread nD τ) a1 fullShare x1 ∗ owns (c : Thread nD τ) a2 fullShare x2 ∗ owns (c : Thread nD τ) a3 fullShare x3
            ∗ owns (c : Thread nD τ) a4 fullShare (outCols x3 x1) ∗ owns (c : Thread nD τ) a5 fullShare (outRows x3 x2)
        ∗ (∃ d, owns (c : Thread nD τ) a6 fullShare d) ∗ (∃ d, owns (c : Thread nD τ) a7 fullShare d)
        ∗ (∃ d, owns (c : Thread nD τ) a8 fullShare d) ∗ (∃ d, owns (c : Thread nD τ) a9 fullShare d)
        ∗ (∃ d, owns (c : Thread nD τ) a10 fullShare d)) -∗ K ⟨⟩))
      ⊢ wp frame (wpE (defs₀ (F := F)) Variants.none c none) E
          (cc0__tree_kernel i a1 h1 a2 h2 a3 h3 a4 h4 a5 h5 a6 h6 a7 h7 a8 h8 a9 h9 a10 h10) K := by
  simp only [cc0__tree_kernel_eq_skeleton]; unfold cc0__tree_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩,
    ⟨%d7, %f7, -, H7⟩, ⟨%d8, %f8, -, H8⟩, ⟨%d9, %f9, -, H9⟩, ⟨%d10, %f10, -, H10⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  have G := start_next (x1 := ldX a1 f1)
    (x2 := ldX a2 f2)
    (x3 := ldW a3 f3)
    (planes a6 a7 a8 a9 a10) f7 f9
  have G := G.named
      (w := sound_kernel.sl.H10_2 c a3 a10 f3) (a := sound_kernel.sl.H6_2 c a1 a3 a6 a10 f1 f3)
      (b := sound_kernel.sl.H7_2 c a1 a3 a7 a10 f1 f3 f7) (c := sound_kernel.sl.H8_2 c a2 a3 a8 a10 f2 f3)
      (d := sound_kernel.sl.H9_2 c a2 a3 a9 a10 f2 f3 f9) rfl rfl rfl rfl rfl
  have G := G.step (h := 512) (o' := 3072) (planes a6 a7 a8 a9 a10) (by omega) (by omega) (by omega) (by omega) (by omega)
      (w' := sound_kernel.sl.H10_3 c a3 a10 f3) (a' := sound_kernel.sl.H6_3 c a1 a3 a6 a10 f1 f3)
      (b' := sound_kernel.sl.H7_3 c a1 a3 a7 a10 f1 f3 f7) (c' := sound_kernel.sl.H8_3 c a2 a3 a8 a10 f2 f3)
      (d' := sound_kernel.sl.H9_3 c a2 a3 a9 a10 f2 f3 f9) rfl rfl rfl rfl rfl
  have G := G.step (h := 256) (o' := 3584) (planes a6 a7 a8 a9 a10) (by omega) (by omega) (by omega) (by omega) (by omega)
      (w' := sound_kernel.sl.H10_4 c a3 a10 f3) (a' := sound_kernel.sl.H6_4 c a1 a3 a6 a10 f1 f3)
      (b' := sound_kernel.sl.H7_4 c a1 a3 a7 a10 f1 f3 f7) (c' := sound_kernel.sl.H8_4 c a2 a3 a8 a10 f2 f3)
      (d' := sound_kernel.sl.H9_4 c a2 a3 a9 a10 f2 f3 f9) rfl rfl rfl rfl rfl
  have G := G.step (h := 128) (o' := 3840) (planes a6 a7 a8 a9 a10) (by omega) (by omega) (by omega) (by omega) (by omega)
      (w' := sound_kernel.sl.H10_5 c a3 a10 f3) (a' := sound_kernel.sl.H6_5 c a1 a3 a6 a10 f1 f3)
      (b' := sound_kernel.sl.H7_5 c a1 a3 a7 a10 f1 f3 f7) (c' := sound_kernel.sl.H8_5 c a2 a3 a8 a10 f2 f3)
      (d' := sound_kernel.sl.H9_5 c a2 a3 a9 a10 f2 f3 f9) rfl rfl rfl rfl rfl
  have G := G.step (h := 64) (o' := 3968) (planes a6 a7 a8 a9 a10) (by omega) (by omega) (by omega) (by omega) (by omega)
      (w' := sound_kernel.sl.H10_6 c a3 a10 f3) (a' := sound_kernel.sl.H6_6 c a1 a3 a6 a10 f1 f3)
      (b' := sound_kernel.sl.H7_6 c a1 a3 a7 a10 f1 f3 f7) (c' := sound_kernel.sl.H8_6 c a2 a3 a8 a10 f2 f3)
      (d' := sound_kernel.sl.H9_6 c a2 a3 a9 a10 f2 f3 f9) rfl rfl rfl rfl rfl
  have G := G.step (h := 32) (o' := 4032) (planes a6 a7 a8 a9 a10) (by omega) (by omega) (by omega) (by omega) (by omega)
      (w' := sound_kernel.sl.H10_7 c a3 a10 f3) (a' := sound_kernel.sl.H6_7 c a1 a3 a6 a10 f1 f3)
      (b' := sound_kernel.sl.H7_7 c a1 a3 a7 a10 f1 f3 f7) (c' := sound_kernel.sl.H8_7 c a2 a3 a8 a10 f2 f3)
      (d' := sound_kernel.sl.H9_7 c a2 a3 a9 a10 f2 f3 f9) rfl rfl rfl rfl rfl
  have G := G.step (h := 16) (o' := 4064) (planes a6 a7 a8 a9 a10) (by omega) (by omega) (by omega) (by omega) (by omega)
      (w' := sound_kernel.sl.H10_8 c a3 a10 f3) (a' := sound_kernel.sl.H6_8 c a1 a3 a6 a10 f1 f3)
      (b' := sound_kernel.sl.H7_8 c a1 a3 a7 a10 f1 f3 f7) (c' := sound_kernel.sl.H8_8 c a2 a3 a8 a10 f2 f3)
      (d' := sound_kernel.sl.H9_8 c a2 a3 a9 a10 f2 f3 f9) rfl rfl rfl rfl rfl
  have G := G.step (h := 8) (o' := 4080) (planes a6 a7 a8 a9 a10) (by omega) (by omega) (by omega) (by omega) (by omega)
      (w' := sound_kernel.sl.H10_9 c a3 a10 f3) (a' := sound_kernel.sl.H6_9 c a1 a3 a6 a10 f1 f3)
      (b' := sound_kernel.sl.H7_9 c a1 a3 a7 a10 f1 f3 f7) (c' := sound_kernel.sl.H8_9 c a2 a3 a8 a10 f2 f3)
      (d' := sound_kernel.sl.H9_9 c a2 a3 a9 a10 f2 f3 f9) rfl rfl rfl rfl rfl
  have G := G.step (h := 4) (o' := 4088) (planes a6 a7 a8 a9 a10) (by omega) (by omega) (by omega) (by omega) (by omega)
      (w' := sound_kernel.sl.H10_10 c a3 a10 f3) (a' := sound_kernel.sl.H6_10 c a1 a3 a6 a10 f1 f3)
      (b' := sound_kernel.sl.H7_10 c a1 a3 a7 a10 f1 f3 f7) (c' := sound_kernel.sl.H8_10 c a2 a3 a8 a10 f2 f3)
      (d' := sound_kernel.sl.H9_10 c a2 a3 a9 a10 f2 f3 f9) rfl rfl rfl rfl rfl
  have G := G.step (h := 2) (o' := 4092) (planes a6 a7 a8 a9 a10) (by omega) (by omega) (by omega) (by omega) (by omega)
      (w' := sound_kernel.sl.H10_11 c a3 a10 f3) (a' := sound_kernel.sl.H6_11 c a1 a3 a6 a10 f1 f3)
      (b' := sound_kernel.sl.H7_11 c a1 a3 a7 a10 f1 f3 f7) (c' := sound_kernel.sl.H8_11 c a2 a3 a8 a10 f2 f3)
      (d' := sound_kernel.sl.H9_11 c a2 a3 a9 a10 f2 f3 f9) rfl rfl rfl rfl rfl
  have G := G.step (h := 1) (o' := 4094) (planes a6 a7 a8 a9 a10) (by omega) (by omega) (by omega) (by omega) (by omega)
      rfl rfl rfl rfl rfl
  isplitl [H4]
  · iexists _; isplitr
    swap; · iexact H4
    ipureintro
    exact (read_cols a4.view f4 G).trans (by rw [ldX_eq, ldW_eq])
  isplitl [H5]
  · iexists _; isplitr
    swap; · iexact H5
    ipureintro
    exact (read_rows a5.view f5 G).trans (by rw [ldX_eq, ldW_eq])
  isplitl [H6]
  · iexists _, _; isplitr
    swap; · iexact H6
    ipureintro; rfl
  isplitl [H7]
  · iexists _, _; isplitr
    swap; · iexact H7
    ipureintro; rfl
  isplitl [H8]
  · iexists _, _; isplitr
    swap; · iexact H8
    ipureintro; rfl
  isplitl [H9]
  · iexists _, _; isplitr
    swap; · iexact H9
    ipureintro; rfl
  iexists _, _; isplitr
  swap; · iexact H10
  ipureintro; rfl

end Cert.TreeTie
end
-- ==== Proof.TreeRun.lean ====
/- The run of the tree call: at each of the two grid points the body leaves the tree of its batch element in its two
   result blocks (Proof/TreeBody.lean), so every run ends with each result array's block `t` at that tree, the arguments
   unchanged and every semaphore at zero. -/
module

public import proofs.«01_k».proof.Proof.TreeBody
public import proofs.«01_k».proof.Proof.Gen.TreeIdeal.Points
public import Idealize.ShloMosaic.Lib.Pipeline.ValueKit

@[expose] public section

noncomputable section

namespace Cert.TreeTie

open Cert.TreeIdeal Cert.TreeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's proof data: an input's buffer keeps its block, and each result's buffer is left at the tree of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outCols (iblk m c 2 t) (iblk m c 0 t)
    | ⟨4, _⟩ => outRows (iblk m c 2 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outCols (iblk m c 2 t) (iblk m c 0 t) := by dsimp only [dats]
theorem after0_4 (c : Dev nD) (t : Fin cfg0.N) :
    (dats m 0 c).after 4 t = outRows (iblk m c 2 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- A scratch buffer at some contents is its whole memref at some contents. -/
theorem scratch_eq (c : Dev nD) (b : Ref sig .tc) :
    (iprop(∃ f : Buf (Elt F) ((c : Thread nD τ).loc b), ((c : Thread nD τ).loc b) ↦{fullShare} f) : sProp 𝕄)
      = iprop(∃ d, owns (c : Thread nD τ) (Memref.whole b) fullShare d) :=
  congrArg BIBase.exists (funext fun f => (owns_whole (c : Thread nD τ) b fullShare f).symm)

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    after0_0, after0_1, after0_2, after0_3, after0_4]
  unfold Pipeline.ΦA
  rw [scopedRest0_eq]
  rw [scratch_eq c cc0_scratch0, scratch_eq c cc0_scratch1, scratch_eq c cc0_scratch2, scratch_eq c cc0_scratch3, scratch_eq c cc0_scratch4]
  iintro ⟨⟨⟨S0, S1, S2, S3, S4⟩, Hr⟩, Ho, ⟨%d0, H0⟩, ⟨%d1, H1⟩, ⟨%d2, H2⟩, ⟨%d3, H3⟩, ⟨%d4, H4⟩⟩
  iapply (sound_kernel c Set.univ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [S0]; · iexact S0
  isplitl [S1]; · iexact S1
  isplitl [S2]; · iexact S2
  isplitl [S3]; · iexact S3
  isplitl [S4]; · iexact S4
  iintro ⟨H0, H1, H2, H3, H4, S0, S1, S2, S3, S4⟩
  isplitl [Hr S0 S1 S2 S3 S4]
  · isplitl [S0 S1 S2 S3 S4]
    · isplitl [S0]; · iexact S0
      isplitl [S1]; · iexact S1
      isplitl [S2]; · iexact S2
      isplitl [S3]; · iexact S3
      iexact S4
    · iexact Hr
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends with the pipeline's arrays as the proof data say and every semaphore at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- Every run leaves the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.TreeTie

end
-- ==== Proof.TreeRef.lean ====
/- The tree call's reference at an index. One level up (`wUp`, `xUp`) is read once for every width; a level that holds the
   nodes from a row on (`IsLvl`) is followed by the level that holds the nodes after them, and the levels laid end to end are
   then the tree of Proof/TreeChain.lean. -/
module

public import proofs.«01_k».proof.Proof.TreeChain
public import proofs.«01_k».proof.Proof.Gen.TreeRefIdeal.Run
public import proofs.«01_k».proof.Proof.Gen.TreeRefIdeal.Read
public import Idealize.ShloMosaic.Lib.Pipeline.ValueKit
public import Idealize.ShloMosaic.Lib.Pointwise

@[expose] public section

set_option maxRecDepth 16384

noncomputable section

namespace Cert.TreeTie

open Cert.TreeRefIdeal Cert.TreeRefIdeal.Read Idealize.ShloMosaic

/-- Two batches of `n` rows of `k` features. -/
abbrev B3 (n k : ℕ) : Shape := ⟨3, ![2, n, k]⟩
abbrev BArr (n k : ℕ) : Type := FVec Ideal (B3 n k) .f32

/-! ## One level up -/

theorem slice_even {n h k : ℕ} (X : BArr n k) (u : (B3 n k).SlicesBy (![0, 0, 0] : Fin 3 → ℕ) ![1, 2, 1] (B3 h k)) (hn : n = 2 * h)
    (b : Fin 2) (j : Fin h) (c : Fin k) : Host.slice (B3 h k) ![0, 0, 0] ![1, 2, 1] X u (ix3 b j c) = X (ix3 b ⟨2 * j.val, by omega⟩ c) := by
  rw [Host.slice_apply]
  refine congrArg X (funext fun a => Fin.ext ?_)
  fin_cases a <;> simp [Shape.Idx.norm]

theorem slice_odd {n h k : ℕ} (X : BArr n k) (u : (B3 n k).SlicesBy (![0, 1, 0] : Fin 3 → ℕ) ![1, 2, 1] (B3 h k)) (hn : n = 2 * h)
    (b : Fin 2) (j : Fin h) (c : Fin k) : Host.slice (B3 h k) ![0, 1, 0] ![1, 2, 1] X u (ix3 b j c) = X (ix3 b ⟨2 * j.val + 1, by omega⟩ c) := by
  rw [Host.slice_apply]
  refine congrArg X (funext fun a => Fin.ext ?_)
  fin_cases a <;> simp [Shape.Idx.norm, add_comm]

theorem spread_read {h : ℕ} (Y : BArr h 1) (hc : (B3 h 1).BroadcastsInDim (B3 h 192) (![0, 1, 2] : Fin 3 → Fin 3))
    (b : Fin 2) (j : Fin h) (c : Fin 192) : broadcastInDim (B3 h 192) ![0, 1, 2] hc Y (ix3 b j c) = Y (ix3 b j 0) :=
  broadcastInDim_apply _ hc Y (ix3 b j c) (ix3 b j 0) fun a => by
    fin_cases a
    · rfl
    · show j.val = if h = 1 then 0 else j.val
      split <;> omega
    · rfl

section Up

variable {n h : ℕ} (W : BArr n 1) (X : BArr n 192)
  (s0 : (B3 n 1).SlicesBy (![0, 0, 0] : Fin 3 → ℕ) ![1, 2, 1] (B3 h 1)) (s1 : (B3 n 1).SlicesBy (![0, 1, 0] : Fin 3 → ℕ) ![1, 2, 1] (B3 h 1))
  (u0 : (B3 n 192).SlicesBy (![0, 0, 0] : Fin 3 → ℕ) ![1, 2, 1] (B3 h 192)) (u1 : (B3 n 192).SlicesBy (![0, 1, 0] : Fin 3 → ℕ) ![1, 2, 1] (B3 h 192))
  (hb : S_.BroadcastsInDim (B3 h 1) (![] : Fin 0 → Fin 3)) (hc : (B3 h 1).BroadcastsInDim (B3 h 192) (![0, 1, 2] : Fin 3 → Fin 3))

/-- The weights one level up. -/
def wUp : BArr h 1 :=
  addf (F := Ideal) (φ := .f32) (addf (Host.slice (B3 h 1) ![0, 0, 0] ![1, 2, 1] W s0) (Host.slice (B3 h 1) ![0, 1, 0] ![1, 2, 1] W s1))
    (broadcastInDim (B3 h 1) ![] hb (val_main_cst (F := Ideal)))

/-- The nodes one level up. -/
def xUp : BArr h 192 :=
  Host.divf (F := Ideal) (φ := .f32)
    (addf (mulf (broadcastInDim (B3 h 192) ![0, 1, 2] hc (Host.slice (B3 h 1) ![0, 0, 0] ![1, 2, 1] W s0)) (Host.slice (B3 h 192) ![0, 0, 0] ![1, 2, 1] X u0))
      (mulf (broadcastInDim (B3 h 192) ![0, 1, 2] hc (Host.slice (B3 h 1) ![0, 1, 0] ![1, 2, 1] W s1)) (Host.slice (B3 h 192) ![0, 1, 0] ![1, 2, 1] X u1)))
    (broadcastInDim (B3 h 192) ![0, 1, 2] hc (wUp W s0 s1 hb))

theorem wUp_read (hn : n = 2 * h) (b : Fin 2) (j : Fin h) :
    wUp W s0 s1 hb (ix3 b j 0) = W (ix3 b ⟨2 * j.val, by omega⟩ 0) + W (ix3 b ⟨2 * j.val + 1, by omega⟩ 0) + eps (F := Ideal) := by
  rw [← slice_even W s0 hn b j 0, ← slice_odd W s1 hn b j 0]
  rfl

theorem xUp_read (hn : n = 2 * h) (b : Fin 2) (j : Fin h) (k : Fin 192) :
    xUp W X s0 s1 u0 u1 hb hc (ix3 b j k) = Ideal.div
      (W (ix3 b ⟨2 * j.val, by omega⟩ 0) * X (ix3 b ⟨2 * j.val, by omega⟩ k)
        + W (ix3 b ⟨2 * j.val + 1, by omega⟩ 0) * X (ix3 b ⟨2 * j.val + 1, by omega⟩ k))
      (wUp W s0 s1 hb (ix3 b j 0)) := by
  rw [← slice_even W s0 hn b j 0, ← slice_odd W s1 hn b j 0, ← slice_even X u0 hn b j k, ← slice_odd X u1 hn b j k,
    ← spread_read (Host.slice (B3 h 1) ![0, 0, 0] ![1, 2, 1] W s0) hc b j k, ← spread_read (Host.slice (B3 h 1) ![0, 1, 0] ![1, 2, 1] W s1) hc b j k,
    ← spread_read (wUp W s0 s1 hb) hc b j k]
  rfl

end Up

/-! ## Levels -/

/-- The weight of the leaf at a row of batch `b`. -/
def wRow (x : BArr 2048 1) (b : Fin 2) (r : ℕ) : EReal := x (ix3 b (Fin.ofNat 2048 r) 0)

/-- Feature `k` of the leaf at a row of batch `b`. -/
def xRow (x : BArr 2048 192) (b : Fin 2) (k r : ℕ) : EReal := x (ix3 b (Fin.ofNat 2048 r) (Fin.ofNat 192 k))

/-- Feature `k` of the node at a row of batch `b`; the last row is zero. -/
def node (w : BArr 2048 1) (x : BArr 2048 192) (b : Fin 2) (k r : ℕ) : EReal :=
  if r < 4095 then nd (F := Ideal) (wRow w b) (xRow x b k) r else zero (F := Ideal)

/-- An array that holds the weights of the rows from `o` on. -/
def HasW {n : ℕ} (o : ℕ) (W : BArr n 1) (w : BArr 2048 1) : Prop :=
  ∀ (b : Fin 2) (j : Fin n), W (ix3 b j 0) = wt (F := Ideal) (wRow w b) (o + j.val)

/-- An array that holds the nodes at the rows from `o` on. -/
def HasX {n : ℕ} (o : ℕ) (X : BArr n 192) (w : BArr 2048 1) (x : BArr 2048 192) : Prop :=
  ∀ (b : Fin 2) (j : Fin n) (k : Fin 192), X (ix3 b j k) = node w x b k.val (o + j.val)

theorem one_eq : one (F := Ideal) = (1 : EReal) := by
  have h : one (F := Ideal) = ((1 : ℝ) : EReal) := by
    show Ideal.ofBits .f32 0x3F800000#32 = _
    simp [Ideal.ofBits, Ideal.ieee, -EReal.coe_mul]
    norm_num
  rw [h, EReal.coe_one]

theorem eps_pos : (0 : EReal) < eps (F := Ideal) := by
  have h : eps (F := Ideal) = ((11258999 / 1125899906842624 : ℝ) : EReal) := by
    show Ideal.ofBits .f32 0x322BCC77#32 = _
    simp [Ideal.ofBits, Ideal.ieee, -EReal.coe_mul]
    norm_num
  rw [h]
  exact_mod_cast (by norm_num : (0 : ℝ) < 11258999 / 1125899906842624)

/-- No weight of the tree is negative where no leaf's is, -/
theorem wt_nonneg (w : ℕ → EReal) (hw : ∀ r, 0 ≤ w r) (r : ℕ) : (0 : EReal) ≤ wt (F := Ideal) w r := by
  induction r using Nat.strong_induction_on with
  | _ r ih =>
    by_cases h : 2048 ≤ r ∧ r < 4095
    · rw [wt_node (F := Ideal) w h.1 h.2 (c := 2 * (r - 2048)) (by omega)]
      exact add_nonneg (add_nonneg (ih _ (by omega)) (ih _ (by omega))) eps_pos.le
    · rw [wt.eq_1, dif_neg h]
      exact hw r

/-- and an inner node's is positive. -/
theorem wt_pos (w : ℕ → EReal) (hw : ∀ r, 0 ≤ w r) {r : ℕ} (h : 2048 ≤ r) (h' : r < 4095) : (0 : EReal) < wt (F := Ideal) w r := by
  rw [wt_node (F := Ideal) w h h' (c := 2 * (r - 2048)) (by omega)]
  exact eps_pos.trans_le (le_add_of_nonneg_left (add_nonneg (wt_nonneg w hw _) (wt_nonneg w hw _)))

/-- Dividing by a positive weight is multiplying by its reciprocal. -/
theorem div_recip (x y : EReal) (hy : 0 < y) : Ideal.div x y = x * Ideal.div (one (F := Ideal)) y := by
  rw [one_eq]
  unfold Ideal.div
  rw [if_neg hy.ne', if_neg hy.ne', one_mul]

section Step

variable {n h o : ℕ} {w : BArr 2048 1} {x : BArr 2048 192} {W : BArr n 1} {X : BArr n 192} {W' : BArr h 1} {X' : BArr h 192}
  {s0 : (B3 n 1).SlicesBy (![0, 0, 0] : Fin 3 → ℕ) ![1, 2, 1] (B3 h 1)} {s1 : (B3 n 1).SlicesBy (![0, 1, 0] : Fin 3 → ℕ) ![1, 2, 1] (B3 h 1)}
  {u0 : (B3 n 192).SlicesBy (![0, 0, 0] : Fin 3 → ℕ) ![1, 2, 1] (B3 h 192)} {u1 : (B3 n 192).SlicesBy (![0, 1, 0] : Fin 3 → ℕ) ![1, 2, 1] (B3 h 192)}
  {hb : S_.BroadcastsInDim (B3 h 1) (![] : Fin 0 → Fin 3)} {hc : (B3 h 1).BroadcastsInDim (B3 h 192) (![0, 1, 2] : Fin 3 → Fin 3)}

/-- The weights one level up are those of the rows after. -/
theorem HasW.up (H : HasW o W w) (hn : n = 2 * h) (ho : o + 2 * n = 4096) (e : W' = wUp W s0 s1 hb) : HasW (o + n) W' w := fun b j => by
  rw [e, wUp_read W s0 s1 hb hn, H, H, wt_node (F := Ideal) (wRow w b) (r := o + n + j.val) (c := o + 2 * j.val) (by omega) (by omega) (by omega)]
  rfl

/-- The nodes one level up are those of the rows after. -/
theorem HasX.up (HX : HasX o X w x) (H : HasW o W w) (hw : ∀ b r, 0 ≤ wRow w b r) (hn : n = 2 * h) (ho : o + 2 * n = 4096)
    (e : X' = xUp W X s0 s1 u0 u1 hb hc) : HasX (o + n) X' w x := fun b j k => by
  have hW := (H.up hn ho (rfl : wUp W s0 s1 hb = _)) b j
  have hr : o + n + j.val < 4095 := by omega
  rw [e, xUp_read W X s0 s1 u0 u1 hb hc hn, hW, div_recip _ _ (wt_pos _ (hw b) (by omega) hr), H, H, HX, HX]
  unfold node
  rw [if_pos hr, if_pos (by dsimp only; omega), if_pos (by dsimp only; omega),
    nd_node (F := Ideal) (wRow w b) (xRow x b k.val) (r := o + n + j.val) (c := o + 2 * j.val) (by omega) hr (by omega)]
  rfl

end Step

theorem HasW.leaves (w : BArr 2048 1) : HasW 0 w w := fun b j => by
  rw [wt_leaf (F := Ideal) _ (by omega)]
  unfold wRow
  congr 2
  exact Fin.ext (by simp)

theorem HasX.leaves (w : BArr 2048 1) (x : BArr 2048 192) : HasX 0 x w x := fun b j k => by
  unfold node
  rw [if_pos (by omega), nd_leaf (F := Ideal) _ _ (by omega)]
  unfold xRow
  congr 2
  · exact Fin.ext (by simp)
  · exact Fin.ext (by simp)

theorem HasX.at {n o : ℕ} {X : BArr n 192} {w : BArr 2048 1} {x : BArr 2048 192} (H : HasX o X w x) {b : Fin 2} {j : Fin n} {k : Fin 192} {r : ℕ}
    (e : o + j.val = r) : X (ix3 b j k) = node w x b k.val r := by
  rw [H, e]

/-! ## The reference's levels -/

section Levels

variable (x : BArr 2048 192) (w : BArr 2048 1)

theorem hasW1 : HasW 2048 (val_main_v8 (F := Ideal) w) w := HasW.up (HasW.leaves w) rfl rfl rfl
theorem hasW2 : HasW 3072 (val_main_v31 (F := Ideal) w) w := HasW.up (hasW1 w) rfl rfl rfl
theorem hasW3 : HasW 3584 (val_main_v54 (F := Ideal) w) w := HasW.up (hasW2 w) rfl rfl rfl
theorem hasW4 : HasW 3840 (val_main_v77 (F := Ideal) w) w := HasW.up (hasW3 w) rfl rfl rfl
theorem hasW5 : HasW 3968 (val_main_v100 (F := Ideal) w) w := HasW.up (hasW4 w) rfl rfl rfl
theorem hasW6 : HasW 4032 (val_main_v123 (F := Ideal) w) w := HasW.up (hasW5 w) rfl rfl rfl
theorem hasW7 : HasW 4064 (val_main_v146 (F := Ideal) w) w := HasW.up (hasW6 w) rfl rfl rfl
theorem hasW8 : HasW 4080 (val_main_v169 (F := Ideal) w) w := HasW.up (hasW7 w) rfl rfl rfl
theorem hasW9 : HasW 4088 (val_main_v192 (F := Ideal) w) w := HasW.up (hasW8 w) rfl rfl rfl
theorem hasW10 : HasW 4092 (val_main_v215 (F := Ideal) w) w := HasW.up (hasW9 w) rfl rfl rfl

variable (hw : ∀ b r, 0 ≤ wRow w b r)
include hw

theorem hasK1 : HasX 2048 (val_main_v15 (F := Ideal) x w) w x := HasX.up (HasX.leaves w x) (HasW.leaves w) hw rfl rfl rfl
theorem hasK2 : HasX 3072 (val_main_v38 (F := Ideal) x w) w x := HasX.up (hasK1 x w hw) (hasW1 w) hw rfl rfl rfl
theorem hasK3 : HasX 3584 (val_main_v61 (F := Ideal) x w) w x := HasX.up (hasK2 x w hw) (hasW2 w) hw rfl rfl rfl
theorem hasK4 : HasX 3840 (val_main_v84 (F := Ideal) x w) w x := HasX.up (hasK3 x w hw) (hasW3 w) hw rfl rfl rfl
theorem hasK5 : HasX 3968 (val_main_v107 (F := Ideal) x w) w x := HasX.up (hasK4 x w hw) (hasW4 w) hw rfl rfl rfl
theorem hasK6 : HasX 4032 (val_main_v130 (F := Ideal) x w) w x := HasX.up (hasK5 x w hw) (hasW5 w) hw rfl rfl rfl
theorem hasK7 : HasX 4064 (val_main_v153 (F := Ideal) x w) w x := HasX.up (hasK6 x w hw) (hasW6 w) hw rfl rfl rfl
theorem hasK8 : HasX 4080 (val_main_v176 (F := Ideal) x w) w x := HasX.up (hasK7 x w hw) (hasW7 w) hw rfl rfl rfl
theorem hasK9 : HasX 4088 (val_main_v199 (F := Ideal) x w) w x := HasX.up (hasK8 x w hw) (hasW8 w) hw rfl rfl rfl
theorem hasK10 : HasX 4092 (val_main_v222 (F := Ideal) x w) w x := HasX.up (hasK9 x w hw) (hasW9 w) hw rfl rfl rfl
theorem hasK11 : HasX 4094 (val_main_v245 (F := Ideal) x w) w x := HasX.up (hasK10 x w hw) (hasW10 w) hw rfl rfl rfl

theorem hasV1 : HasX 2048 (val_main_v22 (F := Ideal) x w) w x := HasX.up (HasX.leaves w x) (HasW.leaves w) hw rfl rfl rfl
theorem hasV2 : HasX 3072 (val_main_v45 (F := Ideal) x w) w x := HasX.up (hasV1 x w hw) (hasW1 w) hw rfl rfl rfl
theorem hasV3 : HasX 3584 (val_main_v68 (F := Ideal) x w) w x := HasX.up (hasV2 x w hw) (hasW2 w) hw rfl rfl rfl
theorem hasV4 : HasX 3840 (val_main_v91 (F := Ideal) x w) w x := HasX.up (hasV3 x w hw) (hasW3 w) hw rfl rfl rfl
theorem hasV5 : HasX 3968 (val_main_v114 (F := Ideal) x w) w x := HasX.up (hasV4 x w hw) (hasW4 w) hw rfl rfl rfl
theorem hasV6 : HasX 4032 (val_main_v137 (F := Ideal) x w) w x := HasX.up (hasV5 x w hw) (hasW5 w) hw rfl rfl rfl
theorem hasV7 : HasX 4064 (val_main_v160 (F := Ideal) x w) w x := HasX.up (hasV6 x w hw) (hasW6 w) hw rfl rfl rfl
theorem hasV8 : HasX 4080 (val_main_v183 (F := Ideal) x w) w x := HasX.up (hasV7 x w hw) (hasW7 w) hw rfl rfl rfl
theorem hasV9 : HasX 4088 (val_main_v206 (F := Ideal) x w) w x := HasX.up (hasV8 x w hw) (hasW8 w) hw rfl rfl rfl
theorem hasV10 : HasX 4092 (val_main_v229 (F := Ideal) x w) w x := HasX.up (hasV9 x w hw) (hasW9 w) hw rfl rfl rfl
theorem hasV11 : HasX 4094 (val_main_v252 (F := Ideal) x w) w x := HasX.up (hasV10 x w hw) (hasW10 w) hw rfl rfl rfl

end Levels

/-! ## The levels laid end to end -/

theorem HasX.last (w : BArr 2048 1) (x : BArr 2048 192) {Z : BArr 1 192} (h : ∀ i, Z i = zero (F := Ideal)) : HasX 4095 Z w x := fun b j k => by
  unfold node
  rw [if_neg (by omega)]
  exact h _

theorem pick {p : Prop} [Decidable p] {f : p → EReal} {g : ¬ p → EReal} {v : EReal} (h1 : ∀ h, f h = v) (h2 : ∀ h, g h = v) : dite p f g = v := by
  by_cases h : p
  · rw [dif_pos h, h1]
  · rw [dif_neg h, h2]

/-- Arrays that hold the nodes of the levels, and a zero row, laid end to end. -/
theorem laid {w : BArr 2048 1} {x : BArr 2048 192} {X0 : BArr 2048 192} {X1 : BArr 1024 192} {X2 : BArr 512 192} {X3 : BArr 256 192} {X4 : BArr 128 192} {X5 : BArr 64 192} {X6 : BArr 32 192} {X7 : BArr 16 192} {X8 : BArr 8 192} {X9 : BArr 4 192} {X10 : BArr 2 192} {X11 : BArr 1 192} {X12 : BArr 1 192}
    (H0 : HasX 0 X0 w x) (H1 : HasX 2048 X1 w x) (H2 : HasX 3072 X2 w x) (H3 : HasX 3584 X3 w x) (H4 : HasX 3840 X4 w x) (H5 : HasX 3968 X5 w x) (H6 : HasX 4032 X6 w x) (H7 : HasX 4064 X7 w x) (H8 : HasX 4080 X8 w x) (H9 : HasX 4088 X9 w x) (H10 : HasX 4092 X10 w x) (H11 : HasX 4094 X11 w x) (H12 : HasX 4095 X12 w x)
    (hcat : Shape.Concatenates [B3 2048 192, B3 1024 192, B3 512 192, B3 256 192, B3 128 192, B3 64 192, B3 32 192, B3 16 192, B3 8 192, B3 4 192, B3 2 192, B3 1 192, B3 1 192] (B3 4096 192) 1) (b : Fin 2) (r : Fin 4096) (k : Fin 192) :
    (concatenate (B3 4096 192) 1 [⟨B3 2048 192, X0⟩, ⟨B3 1024 192, X1⟩, ⟨B3 512 192, X2⟩, ⟨B3 256 192, X3⟩, ⟨B3 128 192, X4⟩, ⟨B3 64 192, X5⟩, ⟨B3 32 192, X6⟩, ⟨B3 16 192, X7⟩, ⟨B3 8 192, X8⟩, ⟨B3 4 192, X9⟩, ⟨B3 2 192, X10⟩, ⟨B3 1 192, X11⟩, ⟨B3 1 192, X12⟩] hcat : BArr 4096 192) (ix3 b r k) = node w x b k.val r.val := by
  pointwise
  refine pick (fun g => H0.at (by dsimp only; omega)) fun g0 => ?_
  refine pick (fun g => H1.at (by dsimp only; omega)) fun g1 => ?_
  refine pick (fun g => H2.at (by dsimp only; omega)) fun g2 => ?_
  refine pick (fun g => H3.at (by dsimp only; omega)) fun g3 => ?_
  refine pick (fun g => H4.at (by dsimp only; omega)) fun g4 => ?_
  refine pick (fun g => H5.at (by dsimp only; omega)) fun g5 => ?_
  refine pick (fun g => H6.at (by dsimp only; omega)) fun g6 => ?_
  refine pick (fun g => H7.at (by dsimp only; omega)) fun g7 => ?_
  refine pick (fun g => H8.at (by dsimp only; omega)) fun g8 => ?_
  refine pick (fun g => H9.at (by dsimp only; omega)) fun g9 => ?_
  refine pick (fun g => H10.at (by dsimp only; omega)) fun g10 => ?_
  refine pick (fun g => H11.at (by dsimp only; omega)) fun g11 => ?_
  exact H12.at (by dsimp only; omega)

section Results

variable (x : BArr 2048 192) (w : BArr 2048 1) (hw : ∀ b r, 0 ≤ wRow w b r)
include hw

theorem ref_keys (b : Fin 2) (k : Fin 192) (r : Fin 4096) : val_main_v256 (F := Ideal) x w (ix3 b k r) = node w x b k.val r.val :=
  (val_main_v256_apply (F := Ideal) x w (ix3 b k r)).trans ((congrArg (val_main_v254 (F := Ideal) x w)
      (show idx_main_v256 (ix3 b k r) = ix3 b r k from funext fun a => by fin_cases a <;> rfl)).trans
    (laid (HasX.leaves w x) (hasK1 x w hw) (hasK2 x w hw) (hasK3 x w hw) (hasK4 x w hw) (hasK5 x w hw) (hasK6 x w hw) (hasK7 x w hw) (hasK8 x w hw) (hasK9 x w hw) (hasK10 x w hw) (hasK11 x w hw) (HasX.last w x fun _ => rfl) _ b r k))

theorem ref_values (b : Fin 2) (r : Fin 4096) (k : Fin 192) : val_main_v255 (F := Ideal) x w (ix3 b r k) = node w x b k.val r.val :=
  laid (HasX.leaves w x) (hasV1 x w hw) (hasV2 x w hw) (hasV3 x w hw) (hasV4 x w hw) (hasV5 x w hw) (hasV6 x w hw) (hasV7 x w hw) (hasV8 x w hw) (hasV9 x w hw) (hasV10 x w hw) (hasV11 x w hw) (HasX.last w x fun _ => rfl) _ b r k

end Results

end Cert.TreeTie

end
-- ==== Proof.TreeClaims.lean ====
/- The claims about the tree call. -/
module

public import proofs.«01_k».proof.Defs
public import proofs.«01_k».proof.Proof.TreeRun
public import proofs.«01_k».proof.Proof.TreeRef
public import proofs.«01_k».proof.Proof.Gen.Tree
public import Idealize.ShloMosaic.Lib.Quiescent

@[expose] public section

set_option maxRecDepth 16384

noncomputable section

namespace Cert.TreeTie

open Idealize.ShloMosaic Idealize.ShloMosaic.TcCoe Idealize.SL.Sem

instance pre_facts : Cert.Pre_weights_nonneg.Facts := ⟨by decide⟩

/-! ## The frames -/

section Same

variable {F : FTy → Type} [FloatOps F]

/-- The two prints of the kernel's body are the same program, -/
theorem same_kernel : Cert.Tree.cc0__tree_kernel (F := F) = Cert.TreeIdeal.cc0__tree_kernel (F := F) := rfl

theorem same_main : Cert.Tree.main (F := F) = Cert.TreeIdeal.main (F := F) := rfl

theorem same_defs₀ : Cert.Tree.defs₀ (F := F) = Cert.TreeIdeal.defs₀ (F := F) := by
  unfold Cert.Tree.defs₀ Cert.TreeIdeal.defs₀
  refine congrArg Defs.onTc (funext fun l => funext fun x => ?_)
  match l, x with
  | ⟨0, _⟩, (t, s) => rfl

/-- and so are their tables of bodies. -/
theorem same_defs : Cert.Tree.defs (F := F) = Cert.TreeIdeal.defs (F := F) :=
  congrArg (Pipeline.defs Cert.TreeIdeal.pcfgs ·) same_defs₀

end Same

theorem frame_p : Cert.quiescent_Tree := fun m ρ _ => by
  have h := frame (F := Bits) m ρ
  rw [← same_defs, ← same_main] at h
  exact h
theorem frame_pi : Cert.quiescent_TreeIdeal := fun m ρ _ => frame m ρ
theorem frame_pi_pre : Cert.quiescent_TreeIdeal_pre_weights_nonneg := fun m ρ _ => frame m ρ
theorem frame_ri : Cert.quiescent_TreeRefIdeal := fun m ρ _ =>
  (θ_run Cert.TreeRefIdeal.defs _ _).mono (fun r h => ⟨fun c => (h c).2.2,
      Idealize.ShloMosaic.sem_eq_zero_of_no_sems (by decide) r.2⟩)
    (Cert.TreeRefIdeal.Value.run (F := Ideal) m ρ)
theorem frame_ri_pre : Cert.quiescent_TreeRefIdeal_pre_weights_nonneg := fun m ρ _ => frame_ri m ρ trivial

theorem preserves : Cert.preserves_Tree_TreeIdeal := trivial

/-! ## The kernel's result arrays -/

section Value

open Cert.TreeIdeal Cert.TreeIdeal.Gen

variable (m : (ℓ : Loc nD τ sig) → Buf (Elt Ideal) ℓ) (ρ : Dev nD → PrngReg) (c : Dev nD) (t : Fin cfg0.N)

/-- The batch of grid point `t`. -/
abbrev bat (t : Fin cfg0.N) : Fin 2 := ⟨t.val, t.isLt⟩

theorem idx : ∀ t : Fin cfg0.N, win0_0.index t = ![t.val, 0, 0] ∧ win0_1.index t = ![t.val, 0, 0] ∧ win0_2.index t = ![t.val, 0, 0] ∧
    win0_3.index t = ![t.val, 0, 0] ∧ win0_4.index t = ![t.val, 0, 0] :=
  (by decide +kernel : ∀ t : Fin grid0.N, _)

theorem blk0 (r : Fin 2048) (k : Fin 192) : iblk m c 0 t (ix3 0 r k) = m ((c : Thread nD τ).loc main_arg0) (ix3 (bat t) r k) := by
  blk_ext! [iblk, V, idx t]

theorem blk1 (r : Fin 2048) (k : Fin 192) : iblk m c 1 t (ix3 0 r k) = m ((c : Thread nD τ).loc main_arg1) (ix3 (bat t) r k) := by
  blk_ext! [iblk, V, idx t]

theorem blk2 (r : Fin 2048) : iblk m c 2 t (ix3 0 r 0) = m ((c : Thread nD τ).loc main_arg2) (ix3 (bat t) r 0) := by
  blk_ext! [iblk, V, idx t]

theorem emb3 (k : Fin 192) (r : Fin 4096) : ((cfg0.win 3).blk t).view.emb (ix3 0 k r) = ix3 (bat t) k r := by
  blk_ext! [idx t]

theorem emb4 (r : Fin 4096) (k : Fin 192) : ((cfg0.win 4).blk t).view.emb (ix3 0 r k) = ix3 (bat t) r k := by
  blk_ext! [idx t]

/-- The tree over a point's blocks is the tree over the arguments at its batch. -/
theorem tree_keys (k r : ℕ) : tree (iblk m c 2 t) (iblk m c 0 t) r k
    = node (m ((c : Thread nD τ).loc main_arg2)) (m ((c : Thread nD τ).loc main_arg0)) (bat t) k r := by
  have e1 : leafW (iblk m c 2 t) = wRow (m ((c : Thread nD τ).loc main_arg2)) (bat t) := funext fun r => blk2 m c t _
  have e2 : leaf (iblk m c 0 t) k = xRow (m ((c : Thread nD τ).loc main_arg0)) (bat t) k := funext fun r => blk0 m c t _ _
  unfold tree node
  rw [e1, e2]

theorem tree_values (k r : ℕ) : tree (iblk m c 2 t) (iblk m c 1 t) r k
    = node (m ((c : Thread nD τ).loc main_arg2)) (m ((c : Thread nD τ).loc main_arg1)) (bat t) k r := by
  have e1 : leafW (iblk m c 2 t) = wRow (m ((c : Thread nD τ).loc main_arg2)) (bat t) := funext fun r => blk2 m c t _
  have e2 : leaf (iblk m c 1 t) k = xRow (m ((c : Thread nD τ).loc main_arg1)) (bat t) k := funext fun r => blk1 m c t _ _
  unfold tree node
  rw [e1, e2]

variable (hw : ∀ b r, 0 ≤ wRow (m ((c : Thread nD τ).loc main_arg2)) b r)
include hw

theorem final3 : (dats m 0 c).arrAt 3 cfg0.N =
    Cert.TreeRefIdeal.Read.val_main_v256 (F := Ideal) (m ((c : Thread nD τ).loc main_arg0)) (m ((c : Thread nD τ).loc main_arg2)) := by
  refine (dats m 0 c).arrAt_eq_of_covers 3 _ (by decide +kernel) fun t hf y => ?_
  blk_simp
  rw [after0_3]
  idx_vars y
  obtain rfl : y0 = 0 := Subsingleton.elim _ _
  refine Eq.trans ?_ (congrArg _ (emb3 t y1 y2).symm)
  exact (tree_keys m c t y1.val y2.val).trans (ref_keys _ _ hw _ _ _).symm

theorem final4 : (dats m 0 c).arrAt 4 cfg0.N =
    Cert.TreeRefIdeal.Read.val_main_v255 (F := Ideal) (m ((c : Thread nD τ).loc main_arg1)) (m ((c : Thread nD τ).loc main_arg2)) := by
  refine (dats m 0 c).arrAt_eq_of_covers 4 _ (by decide +kernel) fun t hf y => ?_
  blk_simp
  rw [after0_4]
  idx_vars y
  obtain rfl : y0 = 0 := Subsingleton.elim _ _
  refine Eq.trans ?_ (congrArg _ (emb4 t y1 y2).symm)
  exact (tree_values m c t y2.val y1.val).trans (ref_values _ _ hw _ _ _).symm

end Value

open Cert.TreeIdeal Cert.TreeIdeal.Gen in
/-- Every run ends with the result arrays the proof data name, the arguments unchanged. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 3, (h.1 c).1 4, h.2 c⟩) (θ_run_and (run_main m ρ) (unchanged m ρ))

theorem of_word {p : Prop} [Decidable p] (h : BitVec.ofBool (decide p) = 1#1) : p := by
  by_contra hn
  rw [decide_eq_false hn] at h
  exact absurd h (by decide)

/-- The precondition read at a row. -/
theorem nonneg_of_pre {m : (ℓ : Loc Cert.TreeIdeal.nD Cert.TreeIdeal.τ Cert.TreeIdeal.sig) → Buf (Elt Ideal) ℓ}
    (h : Cert.Pre_TreeIdeal_weights_nonneg m) (c : Dev Cert.TreeIdeal.nD) (b : Fin 2) (r : ℕ) :
    0 ≤ wRow (m ((c : Thread Cert.TreeIdeal.nD Cert.TreeIdeal.τ).loc Cert.TreeIdeal.main_arg2)) b r := by
  have e := congrFun (h c) (ix3 b (Fin.ofNat 2048 r) 0)
  pointwise [Cert.Pre_weights_nonneg.fn] at e
  exact of_word e

/-- Both results of the tree call are the reference's. -/
theorem algebraic : Cert.algebraic_TreeIdeal_TreeRefIdeal_pre_weights_nonneg := by
  intro m ρ m' ρ' hp hagree
  refine ⟨_, _, run_blocks m ρ, ?_⟩
  refine (θ_run Cert.TreeRefIdeal.defs _ _).mono (fun _ h c => ?_) (Cert.TreeRefIdeal.Value.run (F := Ideal) m' ρ')
  obtain ⟨h0, h1, hargs⟩ := h c
  obtain ⟨a0, a1, a2⟩ := hagree c
  refine ⟨h0.trans ?_, h1.trans ?_, hargs⟩
  · rw [final3 m c (nonneg_of_pre hp c), Cert.TreeRefIdeal.Read.val_main_v256_eq, ← a0, ← a2]
  · rw [final4 m c (nonneg_of_pre hp c), Cert.TreeRefIdeal.Read.val_main_v255_eq, ← a1, ← a2]

end Cert.TreeTie

end
-- ==== Proof.lean ====
module

public import proofs.«01_k».proof.Defs
public import proofs.«01_k».proof.Proof.Gen.Prep
public import proofs.«01_k».proof.Proof.Gen.PrepIdeal
public import proofs.«01_k».proof.Proof.Gen.PrepRefIdeal
public import proofs.«01_k».proof.Proof.Gen.Attn
public import proofs.«01_k».proof.Proof.Gen.AttnIdeal
public import proofs.«01_k».proof.Proof.Gen.AttnRefIdeal
public import proofs.«01_k».proof.Proof.Gen.Tree
public import proofs.«01_k».proof.Proof.Gen.TreeIdeal
public import proofs.«01_k».proof.Proof.Gen.Tree.Launch
public import proofs.«01_k».proof.Proof.Gen.Tree.Skeleton
public import proofs.«01_k».proof.Proof.Gen.TreeIdeal.Skeleton
public import proofs.«01_k».proof.Proof.Gen.Tree.Frame
public import proofs.«01_k».proof.Proof.Gen.TreeIdeal.Frame
public import proofs.«01_k».proof.Proof.Gen.TreeIdeal.Launch
public import proofs.«01_k».proof.Proof.Gen.TreeRefIdeal
public import proofs.«01_k».proof.Proof.Gen.TreeRefIdeal.Run
public import proofs.«01_k».proof.Proof.Gen.TreeRefIdeal.Read
public import proofs.«01_k».proof.Proof.PrepClaims
public import proofs.«01_k».proof.Proof.AttnClaims
public import proofs.«01_k».proof.Proof.TreeClaims
public import Idealize.ShloMosaic.Adequacy
public import Idealize.ShloMosaic.Init

@[expose] public section

noncomputable section

namespace Cert.Proof

open Idealize.ShloMosaic Idealize.SL.Sem

theorem claim : Cert.Claim :=
  ⟨Cert.Prep.Gen.facts, Cert.PrepIdeal.Gen.facts, Cert.PrepRefIdeal.Gen.facts, Cert.Attn.Gen.facts, Cert.AttnIdeal.Gen.facts,
    Cert.AttnRefIdeal.Gen.facts, Cert.Tree.Gen.facts, Cert.TreeIdeal.Gen.facts, Cert.TreeRefIdeal.Gen.facts,
    Cert.TreeTie.pre_facts, Cert.Level.mask_facts,
    Cert.PrepTie.frame_p, Cert.PrepTie.frame_pi, Cert.PrepTie.frame_ri,
    Cert.AttnTie.frame_p, Cert.AttnTie.frame_pi, Cert.AttnTie.frame_ri,
    Cert.TreeTie.frame_p, Cert.TreeTie.frame_pi, Cert.TreeTie.frame_pi_pre, Cert.TreeTie.frame_ri, Cert.TreeTie.frame_ri_pre,
    Cert.PrepTie.preserves, Cert.PrepTie.algebraic, Cert.AttnTie.preserves, Cert.AttnTie.algebraic,
    Cert.TreeTie.preserves, Cert.TreeTie.algebraic⟩

end Cert.Proof

end
